-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)) (v4 : (c : Dev Cert.KernelIdeal.nD) → Buf (Elt Ideal) ((c.tc : Thread Cert.KernelIdeal.nD Cert.KernelIdeal.τ).loc Cert.KernelIdeal.main_v53_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_v53_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x16384 : Shape := ⟨2, ![4096, 16384]⟩
abbrev S4096x4096 : Shape := ⟨2, ![4096, 4096]⟩
abbrev S4096x128 : Shape := ⟨2, ![4096, 128]⟩
abbrev S4096x12288 : Shape := ⟨2, ![4096, 12288]⟩
abbrev S_ : Shape := ⟨0, ![]⟩
abbrev S4096x32 : Shape := ⟨2, ![4096, 32]⟩

class Facts : Prop where
  slices_S4096x16384_S4096x12288_0_0 : S4096x16384.Slices ![0, 0] S4096x12288
  bcast_S_S4096x12288 : S_.BroadcastsInDim S4096x12288 (![] : Fin 0 → Fin S4096x12288.rank)
  bcast_S_S4096x4096 : S_.BroadcastsInDim S4096x4096 (![] : Fin 0 → Fin S4096x4096.rank)
  slices_S4096x128_S4096x32_0_0 : S4096x128.Slices ![0, 0] S4096x32
  bcast_S_S4096x32 : S_.BroadcastsInDim S4096x32 (![] : Fin 0 → Fin S4096x32.rank)

variable [Facts]

def fn {F : FTy → Type} [FloatOps F] (main_arg0 : FVec F S4096x16384 .bf16) (main_arg1 : FVec F S4096x4096 .bf16) (main_arg2 : FVec F S4096x128 .f32) : IVec S4096x12288 1 × IVec S4096x4096 1 × IVec S4096x32 1 :=
  let main_v0 : FVec F S4096x12288 .bf16 := (extractStridedSlice S4096x12288 ![0, 0] · slices_S4096x16384_S4096x12288_0_0) main_arg0
  let main_v1 : FVec F S4096x12288 .bf16 := Host.absf main_v0
  let main_cst : FVec F S_ .bf16 := constant S_ .bf16 0x7F80#16
  let main_v2 : FVec F S4096x12288 .bf16 := broadcastInDim S4096x12288 ![] bcast_S_S4096x12288 main_cst
  let main_v3 : IVec S4096x12288 1 := cmpf .olt main_v1 main_v2
  let main_v4 : FVec F S4096x4096 .bf16 := Host.absf main_arg1
  let main_cst_0 : FVec F S_ .bf16 := constant S_ .bf16 0x7F80#16
  let main_v5 : FVec F S4096x4096 .bf16 := broadcastInDim S4096x4096 ![] bcast_S_S4096x4096 main_cst_0
  let main_v6 : IVec S4096x4096 1 := cmpf .olt main_v4 main_v5
  let main_v7 : FVec F S4096x32 .f32 := (extractStridedSlice S4096x32 ![0, 0] · slices_S4096x128_S4096x32_0_0) main_arg2
  let main_v8 : FVec F S4096x32 .f32 := Host.absf main_v7
  let main_cst_1 : FVec F S_ .f32 := constant S_ .f32 0x7F800000#32
  let main_v9 : FVec F S4096x32 .f32 := broadcastInDim S4096x32 ![] bcast_S_S4096x32 main_cst_1
  let main_v10 : IVec S4096x32 1 := cmpf .olt main_v8 main_v9
  (main_v3, main_v6, main_v10)
-- ==== Kernel.lean ====
abbrev S4096x16384 : Shape := ⟨2, ![4096, 16384]⟩
abbrev S4096x4096 : Shape := ⟨2, ![4096, 4096]⟩
abbrev S4096x128 : Shape := ⟨2, ![4096, 128]⟩
abbrev S4096x32x128 : Shape := ⟨3, ![4096, 32, 128]⟩
abbrev S32x4096x128 : Shape := ⟨3, ![32, 4096, 128]⟩
abbrev S4096x32 : Shape := ⟨2, ![4096, 32]⟩
abbrev S32x4096 : Shape := ⟨2, ![32, 4096]⟩
abbrev S32x4096x4096 : Shape := ⟨3, ![32, 4096, 4096]⟩
abbrev S_ : Shape := ⟨0, ![]⟩
abbrev S32x4096x1 : Shape := ⟨3, ![32, 4096, 1]⟩
abbrev S32x1x4096 : Shape := ⟨3, ![32, 1, 4096]⟩
abbrev S4096 : Shape := ⟨1, ![4096]⟩
abbrev S1x4096 : Shape := ⟨2, ![1, 4096]⟩
abbrev S4096x1 : Shape := ⟨2, ![4096, 1]⟩
abbrev S1x4096x4096 : Shape := ⟨3, ![1, 4096, 4096]⟩
abbrev S512x128 : Shape := ⟨2, ![512, 128]⟩
abbrev S1x1x4096 : Shape := ⟨3, ![1, 1, 4096]⟩
abbrev S128x4096 : Shape := ⟨2, ![128, 4096]⟩
abbrev S8x128x512 : Shape := ⟨3, ![8, 128, 512]⟩
abbrev S8x1x512 : Shape := ⟨3, ![8, 1, 512]⟩
abbrev S512x1 : Shape := ⟨2, ![512, 1]⟩
abbrev S512 : Shape := ⟨1, ![512]⟩
abbrev S512x512 : Shape := ⟨2, ![512, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩

abbrev nBuf : Space → Nat
  | .hbm => 69
  | .vmem => 31
  | .smem => 0
  | _ => 0

abbrev bufTy : (tb : Table) → Fin (tcTables nBuf tb) → BufTy
  | .hbm, ⟨0, _⟩ => ⟨S4096x16384, .bf16⟩
  | .hbm, ⟨1, _⟩ => ⟨S4096x4096, .bf16⟩
  | .hbm, ⟨2, _⟩ => ⟨S4096x128, .f32⟩
  | .hbm, ⟨3, _⟩ => ⟨S4096x4096, .bf16⟩
  | .hbm, ⟨4, _⟩ => ⟨S4096x32x128, .bf16⟩
  | .hbm, ⟨5, _⟩ => ⟨S32x4096x128, .bf16⟩
  | .hbm, ⟨6, _⟩ => ⟨S32x4096x128, .f32⟩
  | .hbm, ⟨7, _⟩ => ⟨S4096x4096, .bf16⟩
  | .hbm, ⟨8, _⟩ => ⟨S4096x32x128, .bf16⟩
  | .hbm, ⟨9, _⟩ => ⟨S32x4096x128, .bf16⟩
  | .hbm, ⟨10, _⟩ => ⟨S32x4096x128, .f32⟩
  | .hbm, ⟨11, _⟩ => ⟨S4096x4096, .bf16⟩
  | .hbm, ⟨12, _⟩ => ⟨S4096x32x128, .bf16⟩
  | .hbm, ⟨13, _⟩ => ⟨S32x4096x128, .bf16⟩
  | .hbm, ⟨14, _⟩ => ⟨S32x4096x128, .f32⟩
  | .hbm, ⟨15, _⟩ => ⟨S4096x32, .f32⟩
  | .hbm, ⟨16, _⟩ => ⟨S32x4096, .f32⟩
  | .hbm, ⟨17, _⟩ => ⟨S32x4096x4096, .f32⟩
  | .hbm, ⟨18, _⟩ => ⟨S_, .f32⟩
  | .hbm, ⟨19, _⟩ => ⟨S32x4096x4096, .f32⟩
  | .hbm, ⟨20, _⟩ => ⟨S32x4096x4096, .f32⟩
  | .hbm, ⟨21, _⟩ => ⟨S32x4096x1, .f32⟩
  | .hbm, ⟨22, _⟩ => ⟨S32x1x4096, .f32⟩
  | .hbm, ⟨23, _⟩ => ⟨S32x4096x4096, .f32⟩
  | .hbm, ⟨24, _⟩ => ⟨S32x4096x4096, .f32⟩
  | .hbm, ⟨25, _⟩ => ⟨S32x4096x4096, .f32⟩
  | .hbm, ⟨26, _⟩ => ⟨S32x4096x4096, .f32⟩
  | .hbm, ⟨27, _⟩ => ⟨S4096, .i32⟩
  | .hbm, ⟨28, _⟩ => ⟨S1x4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S1x4096x4096, .i1⟩
  | .hbm, ⟨34, _⟩ => ⟨S_, .f32⟩
  | .hbm, ⟨35, _⟩ => ⟨S_, .f32⟩
  | .hbm, ⟨36, _⟩ => ⟨S32x4096x4096, .i1⟩
  | .hbm, ⟨37, _⟩ => ⟨S32x4096x4096, .f32⟩
  | .hbm, ⟨38, _⟩ => ⟨S32x4096x4096, .f32⟩
  | .hbm, ⟨39, _⟩ => ⟨S_, .f32⟩
  | .hbm, ⟨40, _⟩ => ⟨S32x4096, .f32⟩
  | .hbm, ⟨41, _⟩ => ⟨S32x4096x1, .f32⟩
  | .hbm, ⟨42, _⟩ => ⟨S32x4096x4096, .f32⟩
  | .hbm, ⟨43, _⟩ => ⟨S32x4096x4096, .f32⟩
  | .hbm, ⟨44, _⟩ => ⟨S32x4096x4096, .f32⟩
  | .hbm, ⟨45, _⟩ => ⟨S_, .f32⟩
  | .hbm, ⟨46, _⟩ => ⟨S32x4096, .f32⟩
  | .hbm, ⟨47, _⟩ => ⟨S32x4096x1, .f32⟩
  | .hbm, ⟨48, _⟩ => ⟨S32x4096x4096, .f32⟩
  | .hbm, ⟨49, _⟩ => ⟨S32x4096x4096, .f32⟩
  | .hbm, ⟨50, _⟩ => ⟨S32x4096x128, .f32⟩
  | .hbm, ⟨51, _⟩ => ⟨S32x4096, .f32⟩
  | .hbm, ⟨52, _⟩ => ⟨S32x4096, .f32⟩
  | .hbm, ⟨53, _⟩ => ⟨S4096x32x128, .bf16⟩
  | .hbm, ⟨54, _⟩ => ⟨S32x4096x128, .bf16⟩
  | .hbm, ⟨55, _⟩ => ⟨S32x4096x128, .f32⟩
  | .hbm, ⟨56, _⟩ => ⟨S32x4096x128, .f32⟩
  | .hbm, ⟨57, _⟩ => ⟨S_, .f32⟩
  | .hbm, ⟨58, _⟩ => ⟨S32x4096, .f32⟩
  | .hbm, ⟨59, _⟩ => ⟨S4096x32, .f32⟩
  | .hbm, ⟨60, _⟩ => ⟨S32x4096, .f32⟩
  | .hbm, ⟨61, _⟩ => ⟨S32x1x4096, .f32⟩
  | .hbm, ⟨62, _⟩ => ⟨S32x1x4096, .f32⟩
  | .hbm, ⟨63, _⟩ => ⟨S32x1x4096, .f32⟩
  | .hbm, ⟨64, _⟩ => ⟨S4096x4096, .bf16⟩
  | .hbm, ⟨65, _⟩ => ⟨S4096x4096, .bf16⟩
  | .hbm, ⟨66, _⟩ => ⟨S4096x4096, .bf16⟩
  | .hbm, ⟨67, _⟩ => ⟨S32x1x4096, .f32⟩
  | .hbm, ⟨68, _⟩ => ⟨S4096x128, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S512x128, .f32⟩
  | .local _ .vmem, ⟨9, _⟩ => ⟨S512x128, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x1x4096, .f32⟩
  | .local _ .vmem, ⟨15, _⟩ => ⟨S1x1x4096, .f32⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S128x4096, .bf16⟩
  | .local _ .vmem, ⟨21, _⟩ => ⟨S128x4096, .bf16⟩
  | .local _ .vmem, ⟨22, _⟩ => ⟨S1x1x4096, .f32⟩
  | .local _ .vmem, ⟨23, _⟩ => ⟨S1x1x4096, .f32⟩
  | .local _ .vmem, ⟨24, _⟩ => ⟨S4096x128, .f32⟩
  | .local _ .vmem, ⟨25, _⟩ => ⟨S512x128, .f32⟩
  | .local _ .vmem, ⟨26, _⟩ => ⟨S512x128, .f32⟩
  | .local _ .vmem, ⟨27, _⟩ => ⟨S8x128x512, .f32⟩
  | .local _ .vmem, ⟨28, _⟩ => ⟨S8x1x512, .f32⟩
  | .local _ .vmem, ⟨29, _⟩ => ⟨S512x1, .f32⟩
  | .local _ .vmem, ⟨30, _⟩ => ⟨S512x1, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53_0 : Ref sig .tc := ⟨.hbm, 64, rfl⟩
abbrev main_v53_1 : Ref sig .tc := ⟨.hbm, 65, rfl⟩
abbrev main_v53_2 : Ref sig .tc := ⟨.hbm, 66, rfl⟩
abbrev main_v53_3 : Ref sig .tc := ⟨.hbm, 67, rfl⟩
abbrev main_v53_4 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24

abbrev nD : Nat := 1
abbrev τ : Topo := Topo.v7x

variable {F : FTy → Type} [FloatOps F]

abbrev grid0 : Pipeline.Grid := ⟨3, ![32, 8, 1], ![false, false, false]⟩

def k0_cond4 (i : grid0.Coords) : BitVec 1 :=
  let arg1 : BitVec 32 := BitVec.ofNat 32 (i 1).val
  let c8_i32_10 : BitVec 32 := 8#32
  let arg2 : BitVec 32 := BitVec.ofNat 32 (i 2).val
  let v29 : BitVec 32 := Scalar.muli c8_i32_10 arg2
  let v30 : BitVec 1 := Scalar.cmpi .slt arg1 v29
  let v31 : BitVec 32 := Scalar.extui v30
  let c0_i32_11 : BitVec 32 := 0#32
  let v32 : BitVec 1 := Scalar.cmpi .ne v31 c0_i32_11
  v32

def k0_off1 (i : grid0.Coords) (c0_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c0_i32_36
  let v122 : Index := Scalar.indexCast v82
  let c0_67 : Index := 0#32
  let c0_68 : Index := 0#32
  ![v122.toNat, 0, 0]
def k0_off2 (i : grid0.Coords) (c0_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c0_i32_36
  let v132 : Index := Scalar.indexCast v82
  let c0_74 : Index := 0#32
  let c0_75 : Index := 0#32
  ![v132.toNat, 0, 0]
def k0_cond5 (i : grid0.Coords) : BitVec 1 :=
  let arg1 : BitVec 32 := BitVec.ofNat 32 (i 1).val
  let c8_i32_12 : BitVec 32 := 8#32
  let arg2 : BitVec 32 := BitVec.ofNat 32 (i 2).val
  let v33 : BitVec 32 := Scalar.muli c8_i32_12 arg2
  let c0_i32_13 : BitVec 32 := 0#32
  let v34 : BitVec 32 := Scalar.addi v33 c0_i32_13
  let v35 : BitVec 1 := Scalar.cmpi .eq arg1 v34
  let v36 : BitVec 32 := Scalar.extui v35
  let c0_i32_14 : BitVec 32 := 0#32
  let v37 : BitVec 1 := Scalar.cmpi .ne v36 c0_i32_14
  v37

def k0_off3 (i : grid0.Coords) (c0_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c0_i32_36
  let v127 : Index := Scalar.indexCast v82
  let c0_68 : Index := 0#32
  let c0_69 : Index := 0#32
  ![v127.toNat, 0, 0]
def k0_off4 (i : grid0.Coords) (c0_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c0_i32_36
  let v137 : Index := Scalar.indexCast v82
  let c0_75 : Index := 0#32
  let c0_76 : Index := 0#32
  ![v137.toNat, 0, 0]
def k0_cond6 (i : grid0.Coords) : BitVec 1 :=
  let arg1 : BitVec 32 := BitVec.ofNat 32 (i 1).val
  let c8_i32_15 : BitVec 32 := 8#32
  let arg2 : BitVec 32 := BitVec.ofNat 32 (i 2).val
  let v38 : BitVec 32 := Scalar.muli c8_i32_15 arg2
  let c1_i32_16 : BitVec 32 := 1#32
  let v39 : BitVec 32 := Scalar.addi v38 c1_i32_16
  let v40 : BitVec 1 := Scalar.cmpi .eq arg1 v39
  let v41 : BitVec 32 := Scalar.extui v40
  let c0_i32_17 : BitVec 32 := 0#32
  let v42 : BitVec 1 := Scalar.cmpi .ne v41 c0_i32_17
  v42

def k0_off5 (i : grid0.Coords) (c1_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c1_i32_36
  let v127 : Index := Scalar.indexCast v82
  let c0_67 : Index := 0#32
  let c0_68 : Index := 0#32
  ![v127.toNat, 0, 0]
def k0_off6 (i : grid0.Coords) (c1_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c1_i32_36
  let v137 : Index := Scalar.indexCast v82
  let c0_74 : Index := 0#32
  let c0_75 : Index := 0#32
  ![v137.toNat, 0, 0]
def k0_cond7 (i : grid0.Coords) : BitVec 1 :=
  let arg1 : BitVec 32 := BitVec.ofNat 32 (i 1).val
  let c8_i32_18 : BitVec 32 := 8#32
  let arg2 : BitVec 32 := BitVec.ofNat 32 (i 2).val
  let v43 : BitVec 32 := Scalar.muli c8_i32_18 arg2
  let c2_i32 : BitVec 32 := 2#32
  let v44 : BitVec 32 := Scalar.addi v43 c2_i32
  let v45 : BitVec 1 := Scalar.cmpi .eq arg1 v44
  let v46 : BitVec 32 := Scalar.extui v45
  let c0_i32_19 : BitVec 32 := 0#32
  let v47 : BitVec 1 := Scalar.cmpi .ne v46 c0_i32_19
  v47

def k0_off7 (i : grid0.Coords) (c2_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c2_i32_36
  let v127 : Index := Scalar.indexCast v82
  let c0_67 : Index := 0#32
  let c0_68 : Index := 0#32
  ![v127.toNat, 0, 0]
def k0_off8 (i : grid0.Coords) (c2_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c2_i32_36
  let v137 : Index := Scalar.indexCast v82
  let c0_74 : Index := 0#32
  let c0_75 : Index := 0#32
  ![v137.toNat, 0, 0]
def k0_cond8 (i : grid0.Coords) : BitVec 1 :=
  let arg1 : BitVec 32 := BitVec.ofNat 32 (i 1).val
  let c8_i32_20 : BitVec 32 := 8#32
  let arg2 : BitVec 32 := BitVec.ofNat 32 (i 2).val
  let v48 : BitVec 32 := Scalar.muli c8_i32_20 arg2
  let c3_i32 : BitVec 32 := 3#32
  let v49 : BitVec 32 := Scalar.addi v48 c3_i32
  let v50 : BitVec 1 := Scalar.cmpi .eq arg1 v49
  let v51 : BitVec 32 := Scalar.extui v50
  let c0_i32_21 : BitVec 32 := 0#32
  let v52 : BitVec 1 := Scalar.cmpi .ne v51 c0_i32_21
  v52

def k0_off9 (i : grid0.Coords) (c3_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c3_i32_36
  let v127 : Index := Scalar.indexCast v82
  let c0_67 : Index := 0#32
  let c0_68 : Index := 0#32
  ![v127.toNat, 0, 0]
def k0_off10 (i : grid0.Coords) (c3_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c3_i32_36
  let v137 : Index := Scalar.indexCast v82
  let c0_74 : Index := 0#32
  let c0_75 : Index := 0#32
  ![v137.toNat, 0, 0]
def k0_cond9 (i : grid0.Coords) : BitVec 1 :=
  let arg1 : BitVec 32 := BitVec.ofNat 32 (i 1).val
  let c8_i32_22 : BitVec 32 := 8#32
  let arg2 : BitVec 32 := BitVec.ofNat 32 (i 2).val
  let v53 : BitVec 32 := Scalar.muli c8_i32_22 arg2
  let c4_i32 : BitVec 32 := 4#32
  let v54 : BitVec 32 := Scalar.addi v53 c4_i32
  let v55 : BitVec 1 := Scalar.cmpi .eq arg1 v54
  let v56 : BitVec 32 := Scalar.extui v55
  let c0_i32_23 : BitVec 32 := 0#32
  let v57 : BitVec 1 := Scalar.cmpi .ne v56 c0_i32_23
  v57

def k0_off11 (i : grid0.Coords) (c4_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c4_i32_36
  let v127 : Index := Scalar.indexCast v82
  let c0_67 : Index := 0#32
  let c0_68 : Index := 0#32
  ![v127.toNat, 0, 0]
def k0_off12 (i : grid0.Coords) (c4_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c4_i32_36
  let v137 : Index := Scalar.indexCast v82
  let c0_74 : Index := 0#32
  let c0_75 : Index := 0#32
  ![v137.toNat, 0, 0]
def k0_cond10 (i : grid0.Coords) : BitVec 1 :=
  let arg1 : BitVec 32 := BitVec.ofNat 32 (i 1).val
  let c8_i32_24 : BitVec 32 := 8#32
  let arg2 : BitVec 32 := BitVec.ofNat 32 (i 2).val
  let v58 : BitVec 32 := Scalar.muli c8_i32_24 arg2
  let c5_i32 : BitVec 32 := 5#32
  let v59 : BitVec 32 := Scalar.addi v58 c5_i32
  let v60 : BitVec 1 := Scalar.cmpi .eq arg1 v59
  let v61 : BitVec 32 := Scalar.extui v60
  let c0_i32_25 : BitVec 32 := 0#32
  let v62 : BitVec 1 := Scalar.cmpi .ne v61 c0_i32_25
  v62

def k0_off13 (i : grid0.Coords) (c5_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c5_i32_36
  let v127 : Index := Scalar.indexCast v82
  let c0_67 : Index := 0#32
  let c0_68 : Index := 0#32
  ![v127.toNat, 0, 0]
def k0_off14 (i : grid0.Coords) (c5_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c5_i32_36
  let v137 : Index := Scalar.indexCast v82
  let c0_74 : Index := 0#32
  let c0_75 : Index := 0#32
  ![v137.toNat, 0, 0]
def k0_cond11 (i : grid0.Coords) : BitVec 1 :=
  let arg1 : BitVec 32 := BitVec.ofNat 32 (i 1).val
  let c8_i32_26 : BitVec 32 := 8#32
  let arg2 : BitVec 32 := BitVec.ofNat 32 (i 2).val
  let v63 : BitVec 32 := Scalar.muli c8_i32_26 arg2
  let c6_i32 : BitVec 32 := 6#32
  let v64 : BitVec 32 := Scalar.addi v63 c6_i32
  let v65 : BitVec 1 := Scalar.cmpi .eq arg1 v64
  let v66 : BitVec 32 := Scalar.extui v65
  let c0_i32_27 : BitVec 32 := 0#32
  let v67 : BitVec 1 := Scalar.cmpi .ne v66 c0_i32_27
  v67

def k0_off15 (i : grid0.Coords) (c6_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c6_i32_36
  let v127 : Index := Scalar.indexCast v82
  let c0_67 : Index := 0#32
  let c0_68 : Index := 0#32
  ![v127.toNat, 0, 0]
def k0_off16 (i : grid0.Coords) (c6_i32_36 : BitVec 32) : Fin 3 → Nat :=
  let c8_i32_35 : BitVec 32 := 8#32
  let arg2 : BitVec 32 := BitVec.ofNat 32 (i 2).val
  let v81 : BitVec 32 := Scalar.muli c8_i32_35 arg2
  let v82 : BitVec 32 := Scalar.addi v81 c6_i32_36
  let v137 : Index := Scalar.indexCast v82
  let c0_74 : Index := 0#32
  let c0_75 : Index := 0#32
  ![v137.toNat, 0, 0]
def k0_cond12 (i : grid0.Coords) : BitVec 1 :=
  let arg1 : BitVec 32 := BitVec.ofNat 32 (i 1).val
  let c8_i32_28 : BitVec 32 := 8#32
  let arg2 : BitVec 32 := BitVec.ofNat 32 (i 2).val
  let v68 : BitVec 32 := Scalar.muli c8_i32_28 arg2
  let c7_i32 : BitVec 32 := 7#32
  let v69 : BitVec 32 := Scalar.addi v68 c7_i32
  let v70 : BitVec 1 := Scalar.cmpi .eq arg1 v69
  let v71 : BitVec 32 := Scalar.extui v70
  let c0_i32_29 : BitVec 32 := 0#32
  let v72 : BitVec 1 := Scalar.cmpi .ne v71 c0_i32_29
  v72

def k0_off17 (i : grid0.Coords) : Fin 3 → Nat :=
  let c8_i32_35 : BitVec 32 := 8#32
  let arg2 : BitVec 32 := BitVec.ofNat 32 (i 2).val
  let v81 : BitVec 32 := Scalar.muli c8_i32_35 arg2
  let c7_i32_36 : BitVec 32 := 7#32
  let v82 : BitVec 32 := Scalar.addi v81 c7_i32_36
  let v127 : Index := Scalar.indexCast v82
  let c0_67 : Index := 0#32
  let c0_68 : Index := 0#32
  ![v127.toNat, 0, 0]
def k0_off18 (i : grid0.Coords) : Fin 3 → Nat :=
  let c8_i32_35 : BitVec 32 := 8#32
  let arg2 : BitVec 32 := BitVec.ofNat 32 (i 2).val
  let v81 : BitVec 32 := Scalar.muli c8_i32_35 arg2
  let c7_i32_36 : BitVec 32 := 7#32
  let v82 : BitVec 32 := Scalar.addi v81 c7_i32_36
  let v137 : Index := Scalar.indexCast v82
  let c0_74 : Index := 0#32
  let c0_75 : Index := 0#32
  ![v137.toNat, 0, 0]
def k0_cond13 (i : grid0.Coords) : BitVec 1 :=
  let arg2 : BitVec 32 := BitVec.ofNat 32 (i 2).val
  let c0_i32_30 : BitVec 32 := 0#32
  let v73 : BitVec 1 := Scalar.cmpi .eq arg2 c0_i32_30
  let v74 : BitVec 32 := Scalar.extui v73
  let c0_i32_31 : BitVec 32 := 0#32
  let v75 : BitVec 1 := Scalar.cmpi .ne v74 c0_i32_31
  v75

def k0_mult1 (i : grid0.Coords) : BitVec 32 :=
  let arg1 : BitVec 32 := BitVec.ofNat 32 (i 1).val
  let c512_i32 : BitVec 32 := 512#32
  let v89 : BitVec 32 := Scalar.muli arg1 c512_i32
  v89
def k0_off19 (i : grid0.Coords) : Fin 2 → Nat :=
  let arg1 : BitVec 32 := BitVec.ofNat 32 (i 1).val
  let c512_i32 : BitVec 32 := 512#32
  let v89 : BitVec 32 := Scalar.muli arg1 c512_i32
  let v90 : BitVec 32 := v89
  let v91 : Index := Scalar.indexCast v90
  let c0_42 : Index := 0#32
  ![v91.toNat, 0]
def k0_cond14 (i : grid0.Coords) : BitVec 1 :=
  let arg2 : BitVec 32 := BitVec.ofNat 32 (i 2).val
  let c0_i32_32 : BitVec 32 := 0#32
  let v76 : BitVec 1 := Scalar.cmpi .eq arg2 c0_i32_32
  let arg1 : BitVec 32 := BitVec.ofNat 32 (i 1).val
  let c7_i32_33 : BitVec 32 := 7#32
  let v77 : BitVec 1 := Scalar.cmpi .eq arg1 c7_i32_33
  let v78 : BitVec 1 := Scalar.andi v76 v77
  let v79 : BitVec 32 := Scalar.extui v78
  let c0_i32_34 : BitVec 32 := 0#32
  let v80 : BitVec 1 := Scalar.cmpi .ne v79 c0_i32_34
  v80

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let arg0 : BitVec 32 := BitVec.ofNat 32 (i 0).val
  let c0_i32_2 : BitVec 32 := 0#32
  let v5 : BitVec 1 := Scalar.cmpi .eq arg0 c0_i32_2
  let v6 : BitVec 1 := Scalar.andi v2 v5
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg2 v16
  let c0_i32_4 : BitVec 32 := 0#32
  ![v17.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg2 v16
  let c0_i32_4 : BitVec 32 := 0#32
  ![v17.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg2 v16
  let c0_i32_4 : BitVec 32 := 0#32
  let c0_i32_5 : BitVec 32 := 0#32
  ![arg0.toNat, c0_i32_4.toNat, v17.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg2 v16
  let c0_i32_4 : BitVec 32 := 0#32
  let c0_i32_5 : BitVec 32 := 0#32
  ![arg0.toNat, c0_i32_4.toNat, v17.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.maxsi arg2 v16
  let c0_i32_4 : BitVec 32 := 0#32
  let c0_i32_5 : BitVec 32 := 0#32
  ![arg0.toNat, c0_i32_4.toNat, v17.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== KernelIdeal.lean ====
variable {F : FTy → Type} [FloatOps F] [Named F]
def κ : String → Option EReal := fun
  | "mask" => some ⊥
  | _ => none
-- ==== ReferenceIdeal.lean ====
abbrev S4096x16384 : Shape := ⟨2, ![4096, 16384]⟩
abbrev S4096x4096 : Shape := ⟨2, ![4096, 4096]⟩
abbrev S4096x128 : Shape := ⟨2, ![4096, 128]⟩
abbrev S4096x32 : Shape := ⟨2, ![4096, 32]⟩
abbrev S4096x32x128 : Shape := ⟨3, ![4096, 32, 128]⟩
abbrev S32x4096x128 : Shape := ⟨3, ![32, 4096, 128]⟩
abbrev S32x4096x4096 : Shape := ⟨3, ![32, 4096, 4096]⟩
abbrev S_ : Shape := ⟨0, ![]⟩
abbrev S32x4096 : Shape := ⟨2, ![32, 4096]⟩
abbrev S32x4096x1 : Shape := ⟨3, ![32, 4096, 1]⟩
abbrev S32x1x4096 : Shape := ⟨3, ![32, 1, 4096]⟩
abbrev S4096 : Shape := ⟨1, ![4096]⟩
abbrev S1x4096 : Shape := ⟨2, ![1, 4096]⟩
abbrev S4096x1 : Shape := ⟨2, ![4096, 1]⟩
abbrev S1x4096x4096 : Shape := ⟨3, ![1, 4096, 4096]⟩
abbrev S32x128x4096 : Shape := ⟨3, ![32, 128, 4096]⟩

abbrev nBuf : Space → Nat
  | .hbm => 148
  | .vmem => 0
  | .smem => 0
  | _ => 0

abbrev hbmTy0_0 (i : Nat) : BufTy := match i % 128 with
  | 0 => ⟨S4096x16384, .bf16⟩
  | 1 => ⟨S4096x4096, .bf16⟩
  | 2 => ⟨S4096x128, .f32⟩
  | 3 => ⟨S4096x4096, .bf16⟩
  | 4 => ⟨S4096x4096, .bf16⟩
  | 5 => ⟨S4096x4096, .bf16⟩
  | 6 => ⟨S4096x32, .f32⟩
  | 7 => ⟨S4096x32x128, .bf16⟩
  | 8 => ⟨S32x4096x128, .bf16⟩
  | 9 => ⟨S32x4096x128, .f32⟩
  | 10 => ⟨S4096x32x128, .bf16⟩
  | 11 => ⟨S32x4096x128, .bf16⟩
  | 12 => ⟨S32x4096x128, .f32⟩
  | 13 => ⟨S32x4096x4096, .f32⟩
  | 14 => ⟨S32x4096x4096, .bf16⟩
  | 15 => ⟨S32x4096x4096, .f32⟩
  | 16 => ⟨S_, .f32⟩
  | 17 => ⟨S32x4096x4096, .f32⟩
  | 18 => ⟨S32x4096x4096, .f32⟩
  | 19 => ⟨S32x4096, .f32⟩
  | 20 => ⟨S32x4096x1, .f32⟩
  | 21 => ⟨S32x4096, .f32⟩
  | 22 => ⟨S32x1x4096, .f32⟩
  | 23 => ⟨S32x4096x4096, .f32⟩
  | 24 => ⟨S32x4096x4096, .f32⟩
  | 25 => ⟨S32x4096x4096, .f32⟩
  | 26 => ⟨S32x4096x4096, .f32⟩
  | 27 => ⟨S4096, .i32⟩
  | 28 => ⟨S1x4096, .i32⟩
  | 29 => ⟨S4096x1, .i32⟩
  | 30 => ⟨S4096x4096, .i32⟩
  | 31 => ⟨S4096x4096, .i32⟩
  | 32 => ⟨S4096x4096, .i1⟩
  | 33 => ⟨S1x4096x4096, .i1⟩
  | 34 => ⟨S_, .f32⟩
  | 35 => ⟨S_, .f32⟩
  | 36 => ⟨S32x4096x4096, .i1⟩
  | 37 => ⟨S32x4096x4096, .f32⟩
  | 38 => ⟨S32x4096x4096, .f32⟩
  | 39 => ⟨S_, .f32⟩
  | 40 => ⟨S32x4096x4096, .f32⟩
  | 41 => ⟨S_, .f32⟩
  | 42 => ⟨S32x4096, .f32⟩
  | 43 => ⟨S32x4096x1, .f32⟩
  | 44 => ⟨S32x4096x4096, .f32⟩
  | 45 => ⟨S32x4096x4096, .i1⟩
  | 46 => ⟨S32x4096x4096, .f32⟩
  | 47 => ⟨S_, .f32⟩
  | 48 => ⟨S32x4096, .f32⟩
  | 49 => ⟨S_, .f32⟩
  | 50 => ⟨S32x4096, .f32⟩
  | 51 => ⟨S32x4096, .f32⟩
  | 52 => ⟨S_, .f32⟩
  | 53 => ⟨S32x4096, .f32⟩
  | 54 => ⟨S32x4096, .i1⟩
  | 55 => ⟨S_, .f32⟩
  | 56 => ⟨S32x4096, .f32⟩
  | 57 => ⟨S32x4096, .i1⟩
  | 58 => ⟨S_, .f32⟩
  | 59 => ⟨S32x4096, .f32⟩
  | 60 => ⟨S_, .f32⟩
  | 61 => ⟨S32x4096, .f32⟩
  | 62 => ⟨S_, .f32⟩
  | 63 => ⟨S32x4096, .f32⟩
  | 64 => ⟨S32x4096, .f32⟩
  | 65 => ⟨S32x4096, .f32⟩
  | 66 => ⟨S32x4096x1, .f32⟩
  | 67 => ⟨S32x4096x4096, .f32⟩
  | 68 => ⟨S32x4096x4096, .f32⟩
  | 69 => ⟨S32x4096x4096, .f32⟩
  | 70 => ⟨S_, .f32⟩
  | 71 => ⟨S32x4096, .f32⟩
  | 72 => ⟨S32x4096x1, .f32⟩
  | 73 => ⟨S32x4096x4096, .f32⟩
  | 74 => ⟨S32x4096x4096, .f32⟩
  | 75 => ⟨S32x4096x1, .f32⟩
  | 76 => ⟨S_, .f32⟩
  | 77 => ⟨S32x4096x1, .f32⟩
  | 78 => ⟨S32x4096x1, .f32⟩
  | 79 => ⟨S32x4096x4096, .bf16⟩
  | 80 => ⟨S32x4096x4096, .f32⟩
  | 81 => ⟨S4096x32x128, .bf16⟩
  | 82 => ⟨S32x4096x128, .bf16⟩
  | 83 => ⟨S32x4096x128, .f32⟩
  | 84 => ⟨S32x4096x128, .f32⟩
  | 85 => ⟨S32x4096x128, .bf16⟩
  | 86 => ⟨S4096x32x128, .bf16⟩
  | 87 => ⟨S4096x4096, .bf16⟩
  | 88 => ⟨S4096x32x128, .bf16⟩
  | 89 => ⟨S32x4096x128, .bf16⟩
  | 90 => ⟨S32x4096x128, .f32⟩
  | 91 => ⟨S32x128x4096, .f32⟩
  | 92 => ⟨S32x4096x128, .f32⟩
  | 93 => ⟨S32x4096x4096, .f32⟩
  | 94 => ⟨S32x4096x128, .bf16⟩
  | 95 => ⟨S4096x32x128, .bf16⟩
  | 96 => ⟨S4096x4096, .bf16⟩
  | 97 => ⟨S32x4096x4096, .bf16⟩
  | 98 => ⟨S32x4096x4096, .f32⟩
  | 99 => ⟨S32x4096x4096, .f32⟩
  | 100 => ⟨S32x4096x4096, .f32⟩
  | 101 => ⟨S32x4096x4096, .f32⟩
  | 102 => ⟨S_, .f32⟩
  | 103 => ⟨S32x4096, .f32⟩
  | 104 => ⟨S32x4096x1, .f32⟩
  | 105 => ⟨S32x4096x1, .f32⟩
  | 106 => ⟨S32x4096x4096, .f32⟩
  | 107 => ⟨S32x4096x4096, .f32⟩
  | 108 => ⟨S_, .f32⟩
  | 109 => ⟨S32x4096, .f32⟩
  | 110 => ⟨S32x4096x4096, .f32⟩
  | 111 => ⟨S32x4096x4096, .f32⟩
  | 112 => ⟨S32x4096x4096, .f32⟩
  | 113 => ⟨S_, .f32⟩
  | 114 => ⟨S32x4096x4096, .f32⟩
  | 115 => ⟨S32x4096x4096, .f32⟩
  | 116 => ⟨S_, .f32⟩
  | 117 => ⟨S32x4096, .f32⟩
  | 118 => ⟨S32x4096x1, .f32⟩
  | 119 => ⟨S32x4096x4096, .f32⟩
  | 120 => ⟨S_, .f32⟩
  | 121 => ⟨S32x4096, .f32⟩
  | 122 => ⟨S32x1x4096, .f32⟩
  | 123 => ⟨S_, .f32⟩
  | 124 => ⟨S32x4096, .f32⟩
  | 125 => ⟨S4096x32, .f32⟩
  | 126 => ⟨S_, .f32⟩
  | 127 => ⟨S32x4096, .f32⟩
  | _ => ⟨S4096x16384, .bf16⟩

abbrev hbmTy0_1 (i : Nat) : BufTy := match i % 128 with
  | 0 => ⟨S4096x32, .f32⟩
  | 1 => ⟨S_, .f32⟩
  | 2 => ⟨S32x4096x4096, .f32⟩
  | 3 => ⟨S32x4096x4096, .f32⟩
  | 4 => ⟨S32x4096x4096, .bf16⟩
  | 5 => ⟨S32x4096x4096, .f32⟩
  | 6 => ⟨S32x4096x128, .f32⟩
  | 7 => ⟨S32x4096x128, .f32⟩
  | 8 => ⟨S32x4096x128, .bf16⟩
  | 9 => ⟨S4096x32x128, .bf16⟩
  | 10 => ⟨S4096x4096, .bf16⟩
  | 11 => ⟨S32x4096x128, .bf16⟩
  | 12 => ⟨S4096x32x128, .bf16⟩
  | 13 => ⟨S4096x4096, .bf16⟩
  | 14 => ⟨S4096x4096, .bf16⟩
  | 15 => ⟨S32x4096, .f32⟩
  | 16 => ⟨S32x1x4096, .f32⟩
  | 17 => ⟨S_, .i32⟩
  | 18 => ⟨S_, .f32⟩
  | 19 => ⟨S4096x128, .f32⟩
  | _ => ⟨S4096x16384, .bf16⟩

abbrev hbmTy (i : Nat) : BufTy := match i / 128 with
  | 0 => hbmTy0_0 i
  | 1 => hbmTy0_1 i
  | _ => ⟨S4096x16384, .bf16⟩

abbrev bufTy : (tb : Table) → Fin (tcTables nBuf tb) → BufTy
  | .hbm, ⟨i, _⟩ => hbmTy i
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_call0_v0 : Ref sig .tc := ⟨.hbm, 35, rfl⟩
abbrev main_v30_1 : Ref sig .tc := ⟨.hbm, 36, rfl⟩
abbrev main_call0_v2 : Ref sig .tc := ⟨.hbm, 37, rfl⟩
abbrev main_v30_0 : Ref sig .tc := ⟨.hbm, 38, rfl⟩
abbrev main_call0_cst : Ref sig .tc := ⟨.hbm, 39, rfl⟩
abbrev main_v30_2 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_11 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_12 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_call1_cst : Ref sig .tc := ⟨.hbm, 113, rfl⟩
abbrev main_call1_v0 : Ref sig .tc := ⟨.hbm, 114, rfl⟩
abbrev main_v91 : Ref sig .tc := ⟨.hbm, 115, rfl⟩
abbrev main_cst_13 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_14 : Ref sig .tc := ⟨.hbm, 120, rfl⟩
abbrev main_v95 : Ref sig .tc := ⟨.hbm, 121, rfl⟩
abbrev main_v96 : Ref sig .tc := ⟨.hbm, 122, rfl⟩
abbrev main_cst_15 : Ref sig .tc := ⟨.hbm, 123, rfl⟩
abbrev main_v97 : Ref sig .tc := ⟨.hbm, 124, rfl⟩
abbrev main_v98 : Ref sig .tc := ⟨.hbm, 125, rfl⟩
abbrev main_cst_16 : Ref sig .tc := ⟨.hbm, 126, rfl⟩
abbrev main_v99 : Ref sig .tc := ⟨.hbm, 127, rfl⟩
abbrev main_v100 : Ref sig .tc := ⟨.hbm, 128, rfl⟩
abbrev main_cst_17 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_c : Ref sig .tc := ⟨.hbm, 145, rfl⟩
abbrev main_call2_v0 : Ref sig .tc := ⟨.hbm, 146, rfl⟩
abbrev main_v116 : Ref sig .tc := ⟨.hbm, 147, rfl⟩

abbrev nD : Nat := 1
abbrev τ : Topo := Topo.v7x

variable {F : FTy → Type} [FloatOps F]
-- ==== Kernel2.lean ====
abbrev S4096x4096 : Shape := ⟨2, ![4096, 4096]⟩
abbrev S4096x16384 : Shape := ⟨2, ![4096, 16384]⟩
abbrev S8x4096x2048 : Shape := ⟨3, ![8, 4096, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S8x4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x4096 : Shape := ⟨2, ![4096, 4096]⟩
abbrev S4096x16384 : Shape := ⟨2, ![4096, 16384]⟩
abbrev S_ : Shape := ⟨0, ![]⟩
abbrev S8x4096x2048 : Shape := ⟨3, ![8, 4096, 2048]⟩
abbrev S4096x8x2048 : Shape := ⟨3, ![4096, 8, 2048]⟩
abbrev S16384x4096 : Shape := ⟨2, ![16384, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S_, .bf16⟩
  | .hbm, ⟨3, _⟩ => ⟨S8x4096x2048, .bf16⟩
  | .hbm, ⟨4, _⟩ => ⟨S4096x8x2048, .bf16⟩
  | .hbm, ⟨5, _⟩ => ⟨S4096x16384, .bf16⟩
  | .hbm, ⟨6, _⟩ => ⟨S4096x4096, .f32⟩
  | .hbm, ⟨7, _⟩ => ⟨S4096x16384, .f32⟩
  | .hbm, ⟨8, _⟩ => ⟨S4096x16384, .f32⟩
  | .hbm, ⟨9, _⟩ => ⟨S4096x16384, .bf16⟩
  | .hbm, ⟨10, _⟩ => ⟨S4096x16384, .f32⟩
  | .hbm, ⟨11, _⟩ => ⟨S16384x4096, .f32⟩
  | .hbm, ⟨12, _⟩ => ⟨S4096x16384, .f32⟩
  | .hbm, ⟨13, _⟩ => ⟨S4096x16384, .bf16⟩
  | .hbm, ⟨14, _⟩ => ⟨S4096x8x2048, .bf16⟩
  | .hbm, ⟨15, _⟩ => ⟨S8x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel3.lean ====
abbrev S4096x16384 : Shape := ⟨2, ![4096, 16384]⟩
abbrev S4096x128 : Shape := ⟨2, ![4096, 128]⟩
abbrev S8x4096x2048 : Shape := ⟨3, ![8, 4096, 2048]⟩
abbrev S4096x4096 : Shape := ⟨2, ![4096, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x16384, .bf16⟩
  | .hbm, ⟨1, _⟩ => ⟨S4096x128, .bf16⟩
  | .hbm, ⟨2, _⟩ => ⟨S8x4096x2048, .bf16⟩
  | .hbm, ⟨3, _⟩ => ⟨S4096x128, .bf16⟩
  | .hbm, ⟨4, _⟩ => ⟨S4096x4096, .f32⟩
  | .hbm, ⟨5, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x16384 : Shape := ⟨2, ![4096, 16384]⟩
abbrev S4096x128 : Shape := ⟨2, ![4096, 128]⟩
abbrev S8x4096x2048 : Shape := ⟨3, ![8, 4096, 2048]⟩
abbrev S_ : Shape := ⟨0, ![]⟩
abbrev S4096x4096 : Shape := ⟨2, ![4096, 4096]⟩
abbrev S4096x8x2048 : Shape := ⟨3, ![4096, 8, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x128, .bf16⟩
  | .hbm, ⟨2, _⟩ => ⟨S8x4096x2048, .bf16⟩
  | .hbm, ⟨3, _⟩ => ⟨S4096x128, .bf16⟩
  | .hbm, ⟨4, _⟩ => ⟨S_, .f32⟩
  | .hbm, ⟨5, _⟩ => ⟨S4096x4096, .f32⟩
  | .hbm, ⟨6, _⟩ => ⟨S4096x8x2048, .bf16⟩
  | .hbm, ⟨7, _⟩ => ⟨S4096x16384, .bf16⟩
  | .hbm, ⟨8, _⟩ => ⟨S4096x16384, .f32⟩
  | .hbm, ⟨9, _⟩ => ⟨S4096x16384, .f32⟩
  | .hbm, ⟨10, _⟩ => ⟨S4096x16384, .bf16⟩
  | .hbm, ⟨11, _⟩ => ⟨S4096x128, .f32⟩
  | .hbm, ⟨12, _⟩ => ⟨S4096x128, .f32⟩
  | .hbm, ⟨13, _⟩ => ⟨S4096x128, .bf16⟩
  | .hbm, ⟨14, _⟩ => ⟨S4096x128, .f32⟩
  | .hbm, ⟨15, _⟩ => ⟨S4096x4096, .f32⟩
  | .hbm, ⟨16, _⟩ => ⟨S4096x16384, .f32⟩
  | .hbm, ⟨17, _⟩ => ⟨S4096x4096, .f32⟩
  | .hbm, ⟨18, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S4096x4096 : Shape := ⟨2, ![4096, 4096]⟩
abbrev S4096x8192 : Shape := ⟨2, ![4096, 8192]⟩
abbrev S8x4096x1024 : Shape := ⟨3, ![8, 4096, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S8x4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x8192 : Shape := ⟨2, ![4096, 8192]⟩
abbrev S_ : Shape := ⟨0, ![]⟩
abbrev S8x4096x1024 : Shape := ⟨3, ![8, 4096, 1024]⟩
abbrev S4096x8x1024 : Shape := ⟨3, ![4096, 8, 1024]⟩
abbrev S8192x4096 : Shape := ⟨2, ![8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S_, .bf16⟩
  | .hbm, ⟨3, _⟩ => ⟨S8x4096x1024, .bf16⟩
  | .hbm, ⟨4, _⟩ => ⟨S4096x8x1024, .bf16⟩
  | .hbm, ⟨5, _⟩ => ⟨S4096x8192, .bf16⟩
  | .hbm, ⟨6, _⟩ => ⟨S4096x4096, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x8192, .f32⟩
  | .hbm, ⟨11, _⟩ => ⟨S8192x4096, .f32⟩
  | .hbm, ⟨12, _⟩ => ⟨S4096x8192, .f32⟩
  | .hbm, ⟨13, _⟩ => ⟨S4096x8192, .bf16⟩
  | .hbm, ⟨14, _⟩ => ⟨S4096x8x1024, .bf16⟩
  | .hbm, ⟨15, _⟩ => ⟨S8x4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel5.lean ====
abbrev S4096x8192 : Shape := ⟨2, ![4096, 8192]⟩
abbrev S8x4096x1024 : Shape := ⟨3, ![8, 4096, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x4096x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg2 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, arg1.toNat, c0_i32_5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x8192 : Shape := ⟨2, ![4096, 8192]⟩
abbrev S8x4096x1024 : Shape := ⟨3, ![8, 4096, 1024]⟩
abbrev S_ : Shape := ⟨0, ![]⟩
abbrev S4096x4096 : Shape := ⟨2, ![4096, 4096]⟩
abbrev S4096x8x1024 : Shape := ⟨3, ![4096, 8, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x4096x1024, .bf16⟩
  | .hbm, ⟨2, _⟩ => ⟨S_, .f32⟩
  | .hbm, ⟨3, _⟩ => ⟨S4096x4096, .f32⟩
  | .hbm, ⟨4, _⟩ => ⟨S4096x8x1024, .bf16⟩
  | .hbm, ⟨5, _⟩ => ⟨S4096x8192, .bf16⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x8192, .f32⟩
  | .hbm, ⟨10, _⟩ => ⟨S4096x4096, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .bf16⟩
  | .hbm, ⟨3, _⟩ => ⟨S4096x4096, .bf16⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .bf16⟩
  | .hbm, ⟨3, _⟩ => ⟨S4096x1024, .bf16⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x4096 : Shape := ⟨2, ![4096, 4096]⟩
abbrev S8x4096x2048 : Shape := ⟨3, ![8, 4096, 2048]⟩
abbrev S4096x16384 : Shape := ⟨2, ![4096, 16384]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4096 : Shape := ⟨2, ![4096, 4096]⟩
abbrev S8x4096x2048 : Shape := ⟨3, ![8, 4096, 2048]⟩
abbrev S4096x8x2048 : Shape := ⟨3, ![4096, 8, 2048]⟩
abbrev S4096x16384 : Shape := ⟨2, ![4096, 16384]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x8x2048, .bf16⟩
  | .hbm, ⟨3, _⟩ => ⟨S4096x16384, .bf16⟩
  | .hbm, ⟨4, _⟩ => ⟨S4096x4096, .f32⟩
  | .hbm, ⟨5, _⟩ => ⟨S4096x16384, .f32⟩
  | .hbm, ⟨6, _⟩ => ⟨S4096x16384, .f32⟩
  | .hbm, ⟨7, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S4096x4096 : Shape := ⟨2, ![4096, 4096]⟩
abbrev S1x4096 : Shape := ⟨2, ![1, 4096]⟩
abbrev S512x4096 : Shape := ⟨2, ![512, 4096]⟩
abbrev S4096x1024 : Shape := ⟨2, ![4096, 1024]⟩
abbrev S512x1024 : Shape := ⟨2, ![512, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S4096x4096 : Shape := ⟨2, ![4096, 4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Access.lean ====
/- What the kernel body of the forgetting attention's backward pass holds, and how one memory access moves it:
   the staging and scratch buffers with their contents (`hold`), a deterministic big-step reading of a program over
   them (`Steps`), and one rule per buffer for a load and for a store. -/
module

public import proofs.«01_k».proof.Proof.Gen.KernelIdeal.Frame
public import Idealize.ShloMosaic.Lib.Tactic

@[expose] public section

noncomputable section

namespace Cert.KernelIdeal.Fox

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## Reading and replacing a rectangle -/

/-- The elements of `X` at the coordinates `r`. -/
def cut {α : Type} {s : Shape} (r : LoadRect s) (X : s.Idx → α) : r.shape.Idx → α := fun x => X (r.idx x)

/-- `X` with the rectangle `r` replaced by `w`. -/
def lay {α : Type} {s : Shape} (r : Rect s) (X : s.Idx → α) (w : r.shape.Idx → α) : s.Idx → α := Function.extend r.emb w X

theorem lay_emb {α : Type} {s : Shape} (r : Rect s) (X : s.Idx → α) (w : r.shape.Idx → α) (x : r.shape.Idx) :
    lay r X w (r.emb x) = w x := r.emb.injective.extend_apply w X x

theorem lay_off {α : Type} {s : Shape} (r : Rect s) (X : s.Idx → α) (w : r.shape.Idx → α) {y : s.Idx} (h : y ∉ r.set) :
    lay r X w y = X y :=
  Function.extend_apply' _ _ _ fun ⟨x, hx⟩ => h (hx ▸ r.idx_mem x)

/-- A rectangle at the origin with the shape's own sizes reads everything. -/
theorem cut_all {α : Type} {s : Shape} {off : Fin s.rank → ℕ} {inb} (h0 : ∀ a, off a = 0) (X : s.Idx → α) :
    cut (Rect.unit (s := s) off s.size inb).toLoadRect X = X := by
  funext x
  exact congrArg X (funext fun a => Fin.ext (by simp [LoadRect.idx, Rect.unit, h0 a]))

/-- A rectangle at the origin with the shape's own sizes replaces everything. -/
theorem lay_all {α : Type} {s : Shape} {off : Fin s.rank → ℕ} {inb} (h0 : ∀ a, off a = 0) (X w : s.Idx → α) :
    lay (Rect.unit (s := s) off s.size inb) X w = w := by
  funext x
  have h := lay_emb (Rect.unit (s := s) off s.size inb) X w x
  rwa [show (Rect.unit (s := s) off s.size inb).emb x = x from
    funext fun a => Fin.ext (by show off a + 1 * (x a).val = (x a).val; rw [h0 a]; omega)] at h

theorem zero2 : ∀ a : Fin 2, (![0, 0] : Fin 2 → ℕ) a = 0 := by decide
theorem zero3 : ∀ a : Fin 3, (![0, 0, 0] : Fin 3 → ℕ) a = 0 := by decide

/-! ## The buffers -/

/-- The buffers the body is given. -/
structure Bufs where
  a3 : Memref sig .tc .vmem S512x128 .bf16
  a4 : Memref sig .tc .vmem S512x128 .bf16
  a5 : Memref sig .tc .vmem S4096x128 .bf16
  a6 : Memref sig .tc .vmem S4096x128 .bf16
  a7 : Memref sig .tc .vmem S512x128 .f32
  a8 : Memref sig .tc .vmem S1x1x4096 .f32
  a9 : Memref sig .tc .vmem S1x1x4096 .f32
  a10 : Memref sig .tc .vmem S1x1x4096 .f32
  a11 : Memref sig .tc .vmem S512x128 .bf16
  a12 : Memref sig .tc .vmem S512x128 .bf16
  a13 : Memref sig .tc .vmem S128x4096 .bf16
  a14 : Memref sig .tc .vmem S1x1x4096 .f32
  a15 : Memref sig .tc .vmem S4096x128 .f32
  a16 : Memref sig .tc .vmem S512x128 .f32
  a17 : Memref sig .tc .vmem S512x128 .f32
  a18 : Memref sig .tc .vmem S8x128x512 .f32
  a19 : Memref sig .tc .vmem S8x1x512 .f32
  a20 : Memref sig .tc .vmem S512x1 .f32
  a21 : Memref sig .tc .vmem S512x1 .f32

/-- What the body reads. -/
structure In (F : FTy → Type) where
  /-- The block of keys. -/
  k : Vec F S512x128 .bf16
  /-- The block of values. -/
  v : Vec F S512x128 .bf16
  /-- The head's queries. -/
  q : Vec F S4096x128 .bf16
  /-- The head's rows of the output's gradient. -/
  o : Vec F S4096x128 .bf16
  /-- The block of forget sums, one lane per head. -/
  fn : Vec F S512x128 .f32
  /-- The head's forget sums along the queries. -/
  ft : Vec F S1x1x4096 .f32
  /-- The head's log-sums. -/
  lse : Vec F S1x1x4096 .f32
  /-- The head's row terms (output times its gradient). -/
  dl : Vec F S1x1x4096 .f32

/-- What the body writes: the five result blocks, and what it keeps from one grid point to the next. -/
structure St (F : FTy → Type) where
  /-- The key gradient's block. -/
  odk : Vec F S512x128 .bf16
  /-- The value gradient's block. -/
  odv : Vec F S512x128 .bf16
  /-- The query gradient's block, transposed. -/
  odq : Vec F S128x4096 .bf16
  /-- The gradient of the forget sums as the queries read them. -/
  odf : Vec F S1x1x4096 .f32
  /-- The gradient of the forget sums as the keys read them, one lane per head. -/
  odg : Vec F S4096x128 .f32
  /-- The key gradient so far. -/
  dk : Vec F S512x128 .f32
  /-- The value gradient so far. -/
  dv : Vec F S512x128 .f32
  /-- The query gradient so far, a slot per query block. -/
  dq : Vec F S8x128x512 .f32
  /-- The queries' forget gradient so far. -/
  df : Vec F S8x1x512 .f32
  /-- The keys' forget gradient so far. -/
  dg : Vec F S512x1 .f32
  /-- The key block's forget sums. -/
  fk : Vec F S512x1 .f32

/-- Core `c` holds every buffer whole, at these contents. -/
def hold (c : Dev nD) (A : Bufs) (I : In F) (s : St F) : sProp 𝕄 :=
  iprop(owns (c : Thread nD τ) A.a3 fullShare I.k
    ∗ owns (c : Thread nD τ) A.a4 fullShare I.v
    ∗ owns (c : Thread nD τ) A.a5 fullShare I.q
    ∗ owns (c : Thread nD τ) A.a6 fullShare I.o
    ∗ owns (c : Thread nD τ) A.a7 fullShare I.fn
    ∗ owns (c : Thread nD τ) A.a8 fullShare I.ft
    ∗ owns (c : Thread nD τ) A.a9 fullShare I.lse
    ∗ owns (c : Thread nD τ) A.a10 fullShare I.dl
    ∗ owns (c : Thread nD τ) A.a11 fullShare s.odk
    ∗ owns (c : Thread nD τ) A.a12 fullShare s.odv
    ∗ owns (c : Thread nD τ) A.a13 fullShare s.odq
    ∗ owns (c : Thread nD τ) A.a14 fullShare s.odf
    ∗ owns (c : Thread nD τ) A.a15 fullShare s.odg
    ∗ owns (c : Thread nD τ) A.a16 fullShare s.dk
    ∗ owns (c : Thread nD τ) A.a17 fullShare s.dv
    ∗ owns (c : Thread nD τ) A.a18 fullShare s.dq
    ∗ owns (c : Thread nD τ) A.a19 fullShare s.df
    ∗ owns (c : Thread nD τ) A.a20 fullShare s.dg
    ∗ owns (c : Thread nD τ) A.a21 fullShare s.fk)

variable {c : Dev nD} {A : Bufs} {I : In F} {s s' s'' : St F}

theorem open_k : hold c A I s ⊢ iprop(owns (c : Thread nD τ) A.a3 fullShare I.k
    ∗ (owns (c : Thread nD τ) A.a3 fullShare I.k -∗ hold c A I s)) := by
  unfold hold; iintro ⟨H3, H4, H5, H6, H7, H8, H9, H10, H11, H12, H13, H14, H15, H16, H17, H18, H19, H20, H21⟩
  isplitl [H3]; · iexact H3
  iintro H3
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_v : hold c A I s ⊢ iprop(owns (c : Thread nD τ) A.a4 fullShare I.v
    ∗ (owns (c : Thread nD τ) A.a4 fullShare I.v -∗ hold c A I s)) := by
  unfold hold; iintro ⟨H3, H4, H5, H6, H7, H8, H9, H10, H11, H12, H13, H14, H15, H16, H17, H18, H19, H20, H21⟩
  isplitl [H4]; · iexact H4
  iintro H4
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_q : hold c A I s ⊢ iprop(owns (c : Thread nD τ) A.a5 fullShare I.q
    ∗ (owns (c : Thread nD τ) A.a5 fullShare I.q -∗ hold c A I s)) := by
  unfold hold; iintro ⟨H3, H4, H5, H6, H7, H8, H9, H10, H11, H12, H13, H14, H15, H16, H17, H18, H19, H20, H21⟩
  isplitl [H5]; · iexact H5
  iintro H5
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_o : hold c A I s ⊢ iprop(owns (c : Thread nD τ) A.a6 fullShare I.o
    ∗ (owns (c : Thread nD τ) A.a6 fullShare I.o -∗ hold c A I s)) := by
  unfold hold; iintro ⟨H3, H4, H5, H6, H7, H8, H9, H10, H11, H12, H13, H14, H15, H16, H17, H18, H19, H20, H21⟩
  isplitl [H6]; · iexact H6
  iintro H6
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_fn : hold c A I s ⊢ iprop(owns (c : Thread nD τ) A.a7 fullShare I.fn
    ∗ (owns (c : Thread nD τ) A.a7 fullShare I.fn -∗ hold c A I s)) := by
  unfold hold; iintro ⟨H3, H4, H5, H6, H7, H8, H9, H10, H11, H12, H13, H14, H15, H16, H17, H18, H19, H20, H21⟩
  isplitl [H7]; · iexact H7
  iintro H7
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_ft : hold c A I s ⊢ iprop(owns (c : Thread nD τ) A.a8 fullShare I.ft
    ∗ (owns (c : Thread nD τ) A.a8 fullShare I.ft -∗ hold c A I s)) := by
  unfold hold; iintro ⟨H3, H4, H5, H6, H7, H8, H9, H10, H11, H12, H13, H14, H15, H16, H17, H18, H19, H20, H21⟩
  isplitl [H8]; · iexact H8
  iintro H8
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_lse : hold c A I s ⊢ iprop(owns (c : Thread nD τ) A.a9 fullShare I.lse
    ∗ (owns (c : Thread nD τ) A.a9 fullShare I.lse -∗ hold c A I s)) := by
  unfold hold; iintro ⟨H3, H4, H5, H6, H7, H8, H9, H10, H11, H12, H13, H14, H15, H16, H17, H18, H19, H20, H21⟩
  isplitl [H9]; · iexact H9
  iintro H9
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_dl : hold c A I s ⊢ iprop(owns (c : Thread nD τ) A.a10 fullShare I.dl
    ∗ (owns (c : Thread nD τ) A.a10 fullShare I.dl -∗ hold c A I s)) := by
  unfold hold; iintro ⟨H3, H4, H5, H6, H7, H8, H9, H10, H11, H12, H13, H14, H15, H16, H17, H18, H19, H20, H21⟩
  isplitl [H10]; · iexact H10
  iintro H10
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_odk (X : Vec F S512x128 .bf16) : hold c A I s ⊢ iprop(owns (c : Thread nD τ) A.a11 fullShare s.odk
    ∗ (owns (c : Thread nD τ) A.a11 fullShare X -∗ hold c A I { s with odk := X })) := by
  unfold hold; iintro ⟨H3, H4, H5, H6, H7, H8, H9, H10, H11, H12, H13, H14, H15, H16, H17, H18, H19, H20, H21⟩
  isplitl [H11]; · iexact H11
  iintro H11
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_odv (X : Vec F S512x128 .bf16) : hold c A I s ⊢ iprop(owns (c : Thread nD τ) A.a12 fullShare s.odv
    ∗ (owns (c : Thread nD τ) A.a12 fullShare X -∗ hold c A I { s with odv := X })) := by
  unfold hold; iintro ⟨H3, H4, H5, H6, H7, H8, H9, H10, H11, H12, H13, H14, H15, H16, H17, H18, H19, H20, H21⟩
  isplitl [H12]; · iexact H12
  iintro H12
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_odq (X : Vec F S128x4096 .bf16) : hold c A I s ⊢ iprop(owns (c : Thread nD τ) A.a13 fullShare s.odq
    ∗ (owns (c : Thread nD τ) A.a13 fullShare X -∗ hold c A I { s with odq := X })) := by
  unfold hold; iintro ⟨H3, H4, H5, H6, H7, H8, H9, H10, H11, H12, H13, H14, H15, H16, H17, H18, H19, H20, H21⟩
  isplitl [H13]; · iexact H13
  iintro H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_odf (X : Vec F S1x1x4096 .f32) : hold c A I s ⊢ iprop(owns (c : Thread nD τ) A.a14 fullShare s.odf
    ∗ (owns (c : Thread nD τ) A.a14 fullShare X -∗ hold c A I { s with odf := X })) := by
  unfold hold; iintro ⟨H3, H4, H5, H6, H7, H8, H9, H10, H11, H12, H13, H14, H15, H16, H17, H18, H19, H20, H21⟩
  isplitl [H14]; · iexact H14
  iintro H14
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_odg (X : Vec F S4096x128 .f32) : hold c A I s ⊢ iprop(owns (c : Thread nD τ) A.a15 fullShare s.odg
    ∗ (owns (c : Thread nD τ) A.a15 fullShare X -∗ hold c A I { s with odg := X })) := by
  unfold hold; iintro ⟨H3, H4, H5, H6, H7, H8, H9, H10, H11, H12, H13, H14, H15, H16, H17, H18, H19, H20, H21⟩
  isplitl [H15]; · iexact H15
  iintro H15
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_dk (X : Vec F S512x128 .f32) : hold c A I s ⊢ iprop(owns (c : Thread nD τ) A.a16 fullShare s.dk
    ∗ (owns (c : Thread nD τ) A.a16 fullShare X -∗ hold c A I { s with dk := X })) := by
  unfold hold; iintro ⟨H3, H4, H5, H6, H7, H8, H9, H10, H11, H12, H13, H14, H15, H16, H17, H18, H19, H20, H21⟩
  isplitl [H16]; · iexact H16
  iintro H16
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_dv (X : Vec F S512x128 .f32) : hold c A I s ⊢ iprop(owns (c : Thread nD τ) A.a17 fullShare s.dv
    ∗ (owns (c : Thread nD τ) A.a17 fullShare X -∗ hold c A I { s with dv := X })) := by
  unfold hold; iintro ⟨H3, H4, H5, H6, H7, H8, H9, H10, H11, H12, H13, H14, H15, H16, H17, H18, H19, H20, H21⟩
  isplitl [H17]; · iexact H17
  iintro H17
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_dq (X : Vec F S8x128x512 .f32) : hold c A I s ⊢ iprop(owns (c : Thread nD τ) A.a18 fullShare s.dq
    ∗ (owns (c : Thread nD τ) A.a18 fullShare X -∗ hold c A I { s with dq := X })) := by
  unfold hold; iintro ⟨H3, H4, H5, H6, H7, H8, H9, H10, H11, H12, H13, H14, H15, H16, H17, H18, H19, H20, H21⟩
  isplitl [H18]; · iexact H18
  iintro H18
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_df (X : Vec F S8x1x512 .f32) : hold c A I s ⊢ iprop(owns (c : Thread nD τ) A.a19 fullShare s.df
    ∗ (owns (c : Thread nD τ) A.a19 fullShare X -∗ hold c A I { s with df := X })) := by
  unfold hold; iintro ⟨H3, H4, H5, H6, H7, H8, H9, H10, H11, H12, H13, H14, H15, H16, H17, H18, H19, H20, H21⟩
  isplitl [H19]; · iexact H19
  iintro H19
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_dg (X : Vec F S512x1 .f32) : hold c A I s ⊢ iprop(owns (c : Thread nD τ) A.a20 fullShare s.dg
    ∗ (owns (c : Thread nD τ) A.a20 fullShare X -∗ hold c A I { s with dg := X })) := by
  unfold hold; iintro ⟨H3, H4, H5, H6, H7, H8, H9, H10, H11, H12, H13, H14, H15, H16, H17, H18, H19, H20, H21⟩
  isplitl [H20]; · iexact H20
  iintro H20
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem open_fk (X : Vec F S512x1 .f32) : hold c A I s ⊢ iprop(owns (c : Thread nD τ) A.a21 fullShare s.fk
    ∗ (owns (c : Thread nD τ) A.a21 fullShare X -∗ hold c A I { s with fk := X })) := by
  unfold hold; iintro ⟨H3, H4, H5, H6, H7, H8, H9, H10, H11, H12, H13, H14, H15, H16, H17, H18, H19, H20, H21⟩
  isplitl [H21]; · iexact H21
  iintro H21
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-! ## Programs -/

/-- Run from contents `s`, the program returns `a` and leaves contents `s'`, whatever it is continued by. -/
def Steps (c : Dev nD) (A : Bufs) (I : In F) {α : Type} (s : St F) (p : Prog (TpuEff nD τ sig (Elt F) Λ₀ .tc) α) (a : α) (s' : St F) : Prop :=
  ∀ (E : Set ℕ) (Q : α → sProp 𝕄), (hold c A I s' ⊢ Q a) →
    (hold c A I s ⊢ wp frame (wpE (defs₀ (F := F)) Variants.none (c : Thread nD τ) none) E p Q)

theorem Steps.pure {α : Type} (a : α) : Steps c A I s (pure a) a s := fun E Q h => by
  rw [wp_pure]; exact h.trans (fupd_intro (PROP := sProp 𝕄))

theorem Steps.bind {α β : Type} {p : Prog (TpuEff nD τ sig (Elt F) Λ₀ .tc) α} {a : α} {k : α → Prog (TpuEff nD τ sig (Elt F) Λ₀ .tc) β} {b : β}
    (h : Steps c A I s p a s') (h' : Steps c A I s' (k a) b s'') : Steps c A I s (p >>= k) b s'' := fun E Q hQ => by
  rw [wp_bind]; exact h E _ (h' E Q hQ)

/-- A branch runs whichever side its condition picks. -/
theorem Steps.ite {α : Type} {C : Prop} [Decidable C] {p : C → Prog (TpuEff nD τ sig (Elt F) Λ₀ .tc) α} {q : ¬C → Prog (TpuEff nD τ sig (Elt F) Λ₀ .tc) α} {a : α}
    (h : ∀ hc, Steps c A I s (p hc) a s') (h' : ∀ hc, Steps c A I s (q hc) a s'') :
    Steps c A I s (dite C p q) a (if C then s' else s'') := by
  by_cases hc : C
  · rw [dif_pos hc, if_pos hc]; exact h hc
  · rw [dif_neg hc, if_neg hc]; exact h' hc

/-- A load off a buffer held at `X` returns the elements it names. -/
theorem Steps.load {sh : Shape} {e : EltTy} {m : Memref sig .tc .vmem sh e} {X : sh.Idx → Elt F e} {r : LoadRect sh} {hl : m.view.LoadsAt r}
    (h : hold c A I s ⊢ iprop(owns (c : Thread nD τ) m fullShare X ∗ (owns (c : Thread nD τ) m fullShare X -∗ hold c A I s))) :
    Steps (F := F) c A I s (Prog.lift (.load m r hl)) (cut r X) s := fun E Q hQ => by
  refine h.trans ?_
  unfold owns
  iintro ⟨⟨%f, %hf, H⟩, Hk⟩
  subst hf
  iapply (wp_load Variants.none (c : Thread nD τ) none E (defs := defs₀ (F := F)) (Γ := .empty) (m := m) (r := r) (hl := hl)
    (k := fun x => .ret x) (Q := Q) (q := fullShare) (f := f) (S := m.view.set) (View.setOn_subset_set _ _)) $$ [H]
  · iexact H
  iintro H
  rw [wp_ret]
  imodintro
  iapply (show hold c A I s ⊢ Q (m.view.readAt (Elt F) r f) from hQ)
  iapply Hk
  iexists f; isplitr
  · ipureintro; rfl
  iexact H

/-- A store into a buffer held at `X` replaces the rectangle it names. -/
theorem Steps.store {sh : Shape} {e : EltTy} {m : Memref sig .tc .vmem sh e} {X : sh.Idx → Elt F e} {r : Rect sh} {w : r.shape.Idx → Elt F e}
    {hx : (m.access r).Stores Finset.univ} {hm : Finset.univ = Finset.univ ∨ ∀ a, r.stride a = 1}
    (h : hold c A I s ⊢ iprop(owns (c : Thread nD τ) m fullShare X ∗ (owns (c : Thread nD τ) m fullShare (lay r X w) -∗ hold c A I s'))) :
    Steps (F := F) c A I s (Prog.lift (.store m r w Finset.univ hx hm)) ⟨⟩ s' := fun E Q hQ => by
  refine h.trans ?_
  unfold owns
  iintro ⟨⟨%f, %hf, H⟩, Hk⟩
  subst hf
  iapply (wp_store Variants.none (c : Thread nD τ) none E (defs := defs₀ (F := F)) (Γ := .empty) (m := m) (r := r) (w := w) (Mk := Finset.univ) (hx := hx) (hm := hm)
    (k := fun x => .ret x) (Q := Q) (f := f) (S := m.view.set) (View.set_slice_subset _ _)) $$ [H]
  · iexact H
  iintro H
  rw [wp_ret]
  imodintro
  iapply hQ
  iapply Hk
  iexists ((m.access r).write (Elt F) f w Finset.univ); isplitr
  · ipureintro
    funext y
    by_cases hy : y ∈ r.set
    · obtain ⟨x, rfl⟩ := r.exists_idx_of_mem hy
      exact (View.read_slice_write_emb r f w (Finset.mem_univ x)).trans (lay_emb r _ w x).symm
    · rw [lay_off r _ w hy]
      exact View.read_slice_write_of_not_mem r f w _ (by rwa [Rect.map_emb_univ])
  iexact H

/-! ## One rule per buffer -/

theorem load_k {r : LoadRect S512x128} {hl} : Steps (F := F) c A I s (Prog.lift (.load A.a3 r hl)) (cut r I.k) s := .load (open_k (F := F))
theorem all_k {inb hl} : Steps (F := F) c A I s (Prog.lift (.load A.a3 (Rect.unit (s := S512x128) ![0, 0] S512x128.size inb).toLoadRect hl)) I.k s :=
  (cut_all (s := S512x128) (off := ![0, 0]) zero2 I.k) ▸ load_k (F := F)
theorem load_v {r : LoadRect S512x128} {hl} : Steps (F := F) c A I s (Prog.lift (.load A.a4 r hl)) (cut r I.v) s := .load (open_v (F := F))
theorem all_v {inb hl} : Steps (F := F) c A I s (Prog.lift (.load A.a4 (Rect.unit (s := S512x128) ![0, 0] S512x128.size inb).toLoadRect hl)) I.v s :=
  (cut_all (s := S512x128) (off := ![0, 0]) zero2 I.v) ▸ load_v (F := F)
theorem load_q {r : LoadRect S4096x128} {hl} : Steps (F := F) c A I s (Prog.lift (.load A.a5 r hl)) (cut r I.q) s := .load (open_q (F := F))
theorem all_q {inb hl} : Steps (F := F) c A I s (Prog.lift (.load A.a5 (Rect.unit (s := S4096x128) ![0, 0] S4096x128.size inb).toLoadRect hl)) I.q s :=
  (cut_all (s := S4096x128) (off := ![0, 0]) zero2 I.q) ▸ load_q (F := F)
theorem load_o {r : LoadRect S4096x128} {hl} : Steps (F := F) c A I s (Prog.lift (.load A.a6 r hl)) (cut r I.o) s := .load (open_o (F := F))
theorem all_o {inb hl} : Steps (F := F) c A I s (Prog.lift (.load A.a6 (Rect.unit (s := S4096x128) ![0, 0] S4096x128.size inb).toLoadRect hl)) I.o s :=
  (cut_all (s := S4096x128) (off := ![0, 0]) zero2 I.o) ▸ load_o (F := F)
theorem load_fn {r : LoadRect S512x128} {hl} : Steps (F := F) c A I s (Prog.lift (.load A.a7 r hl)) (cut r I.fn) s := .load (open_fn (F := F))
theorem all_fn {inb hl} : Steps (F := F) c A I s (Prog.lift (.load A.a7 (Rect.unit (s := S512x128) ![0, 0] S512x128.size inb).toLoadRect hl)) I.fn s :=
  (cut_all (s := S512x128) (off := ![0, 0]) zero2 I.fn) ▸ load_fn (F := F)
theorem load_ft {r : LoadRect S1x1x4096} {hl} : Steps (F := F) c A I s (Prog.lift (.load A.a8 r hl)) (cut r I.ft) s := .load (open_ft (F := F))
theorem all_ft {inb hl} : Steps (F := F) c A I s (Prog.lift (.load A.a8 (Rect.unit (s := S1x1x4096) ![0, 0, 0] S1x1x4096.size inb).toLoadRect hl)) I.ft s :=
  (cut_all (s := S1x1x4096) (off := ![0, 0, 0]) zero3 I.ft) ▸ load_ft (F := F)
theorem load_lse {r : LoadRect S1x1x4096} {hl} : Steps (F := F) c A I s (Prog.lift (.load A.a9 r hl)) (cut r I.lse) s := .load (open_lse (F := F))
theorem all_lse {inb hl} : Steps (F := F) c A I s (Prog.lift (.load A.a9 (Rect.unit (s := S1x1x4096) ![0, 0, 0] S1x1x4096.size inb).toLoadRect hl)) I.lse s :=
  (cut_all (s := S1x1x4096) (off := ![0, 0, 0]) zero3 I.lse) ▸ load_lse (F := F)
theorem load_dl {r : LoadRect S1x1x4096} {hl} : Steps (F := F) c A I s (Prog.lift (.load A.a10 r hl)) (cut r I.dl) s := .load (open_dl (F := F))
theorem all_dl {inb hl} : Steps (F := F) c A I s (Prog.lift (.load A.a10 (Rect.unit (s := S1x1x4096) ![0, 0, 0] S1x1x4096.size inb).toLoadRect hl)) I.dl s :=
  (cut_all (s := S1x1x4096) (off := ![0, 0, 0]) zero3 I.dl) ▸ load_dl (F := F)
theorem load_odk {r : LoadRect S512x128} {hl} : Steps (F := F) c A I s (Prog.lift (.load A.a11 r hl)) (cut r s.odk) s := .load (open_odk (F := F) s.odk)
theorem all_odk {inb hl} : Steps (F := F) c A I s (Prog.lift (.load A.a11 (Rect.unit (s := S512x128) ![0, 0] S512x128.size inb).toLoadRect hl)) s.odk s :=
  (cut_all (s := S512x128) (off := ![0, 0]) zero2 s.odk) ▸ load_odk (F := F)
theorem store_odk {r : Rect S512x128} {w : r.shape.Idx → Elt F .bf16} {hx hm} :
    Steps (F := F) c A I s (Prog.lift (.store A.a11 r w Finset.univ hx hm)) ⟨⟩ { s with odk := lay r s.odk w } := .store (X := s.odk) (open_odk (F := F) (lay r s.odk w))
theorem fill_odk {inb} {w : S512x128.Idx → Elt F .bf16} {hx hm} :
    Steps (F := F) c A I s (Prog.lift (.store A.a11 (Rect.unit (s := S512x128) ![0, 0] S512x128.size inb) w Finset.univ hx hm)) ⟨⟩ { s with odk := w } :=
  .store (X := s.odk) ((lay_all (s := S512x128) (off := ![0, 0]) (inb := inb) zero2 s.odk w).symm ▸ open_odk (F := F) w)
theorem load_odv {r : LoadRect S512x128} {hl} : Steps (F := F) c A I s (Prog.lift (.load A.a12 r hl)) (cut r s.odv) s := .load (open_odv (F := F) s.odv)
theorem all_odv {inb hl} : Steps (F := F) c A I s (Prog.lift (.load A.a12 (Rect.unit (s := S512x128) ![0, 0] S512x128.size inb).toLoadRect hl)) s.odv s :=
  (cut_all (s := S512x128) (off := ![0, 0]) zero2 s.odv) ▸ load_odv (F := F)
theorem store_odv {r : Rect S512x128} {w : r.shape.Idx → Elt F .bf16} {hx hm} :
    Steps (F := F) c A I s (Prog.lift (.store A.a12 r w Finset.univ hx hm)) ⟨⟩ { s with odv := lay r s.odv w } := .store (X := s.odv) (open_odv (F := F) (lay r s.odv w))
theorem fill_odv {inb} {w : S512x128.Idx → Elt F .bf16} {hx hm} :
    Steps (F := F) c A I s (Prog.lift (.store A.a12 (Rect.unit (s := S512x128) ![0, 0] S512x128.size inb) w Finset.univ hx hm)) ⟨⟩ { s with odv := w } :=
  .store (X := s.odv) ((lay_all (s := S512x128) (off := ![0, 0]) (inb := inb) zero2 s.odv w).symm ▸ open_odv (F := F) w)
theorem load_odq {r : LoadRect S128x4096} {hl} : Steps (F := F) c A I s (Prog.lift (.load A.a13 r hl)) (cut r s.odq) s := .load (open_odq (F := F) s.odq)
theorem all_odq {inb hl} : Steps (F := F) c A I s (Prog.lift (.load A.a13 (Rect.unit (s := S128x4096) ![0, 0] S128x4096.size inb).toLoadRect hl)) s.odq s :=
  (cut_all (s := S128x4096) (off := ![0, 0]) zero2 s.odq) ▸ load_odq (F := F)
theorem store_odq {r : Rect S128x4096} {w : r.shape.Idx → Elt F .bf16} {hx hm} :
    Steps (F := F) c A I s (Prog.lift (.store A.a13 r w Finset.univ hx hm)) ⟨⟩ { s with odq := lay r s.odq w } := .store (X := s.odq) (open_odq (F := F) (lay r s.odq w))
theorem fill_odq {inb} {w : S128x4096.Idx → Elt F .bf16} {hx hm} :
    Steps (F := F) c A I s (Prog.lift (.store A.a13 (Rect.unit (s := S128x4096) ![0, 0] S128x4096.size inb) w Finset.univ hx hm)) ⟨⟩ { s with odq := w } :=
  .store (X := s.odq) ((lay_all (s := S128x4096) (off := ![0, 0]) (inb := inb) zero2 s.odq w).symm ▸ open_odq (F := F) w)
theorem load_odf {r : LoadRect S1x1x4096} {hl} : Steps (F := F) c A I s (Prog.lift (.load A.a14 r hl)) (cut r s.odf) s := .load (open_odf (F := F) s.odf)
theorem all_odf {inb hl} : Steps (F := F) c A I s (Prog.lift (.load A.a14 (Rect.unit (s := S1x1x4096) ![0, 0, 0] S1x1x4096.size inb).toLoadRect hl)) s.odf s :=
  (cut_all (s := S1x1x4096) (off := ![0, 0, 0]) zero3 s.odf) ▸ load_odf (F := F)
theorem store_odf {r : Rect S1x1x4096} {w : r.shape.Idx → Elt F .f32} {hx hm} :
    Steps (F := F) c A I s (Prog.lift (.store A.a14 r w Finset.univ hx hm)) ⟨⟩ { s with odf := lay r s.odf w } := .store (X := s.odf) (open_odf (F := F) (lay r s.odf w))
theorem fill_odf {inb} {w : S1x1x4096.Idx → Elt F .f32} {hx hm} :
    Steps (F := F) c A I s (Prog.lift (.store A.a14 (Rect.unit (s := S1x1x4096) ![0, 0, 0] S1x1x4096.size inb) w Finset.univ hx hm)) ⟨⟩ { s with odf := w } :=
  .store (X := s.odf) ((lay_all (s := S1x1x4096) (off := ![0, 0, 0]) (inb := inb) zero3 s.odf w).symm ▸ open_odf (F := F) w)
theorem load_odg {r : LoadRect S4096x128} {hl} : Steps (F := F) c A I s (Prog.lift (.load A.a15 r hl)) (cut r s.odg) s := .load (open_odg (F := F) s.odg)
theorem all_odg {inb hl} : Steps (F := F) c A I s (Prog.lift (.load A.a15 (Rect.unit (s := S4096x128) ![0, 0] S4096x128.size inb).toLoadRect hl)) s.odg s :=
  (cut_all (s := S4096x128) (off := ![0, 0]) zero2 s.odg) ▸ load_odg (F := F)
theorem store_odg {r : Rect S4096x128} {w : r.shape.Idx → Elt F .f32} {hx hm} :
    Steps (F := F) c A I s (Prog.lift (.store A.a15 r w Finset.univ hx hm)) ⟨⟩ { s with odg := lay r s.odg w } := .store (X := s.odg) (open_odg (F := F) (lay r s.odg w))
theorem fill_odg {inb} {w : S4096x128.Idx → Elt F .f32} {hx hm} :
    Steps (F := F) c A I s (Prog.lift (.store A.a15 (Rect.unit (s := S4096x128) ![0, 0] S4096x128.size inb) w Finset.univ hx hm)) ⟨⟩ { s with odg := w } :=
  .store (X := s.odg) ((lay_all (s := S4096x128) (off := ![0, 0]) (inb := inb) zero2 s.odg w).symm ▸ open_odg (F := F) w)
theorem load_dk {r : LoadRect S512x128} {hl} : Steps (F := F) c A I s (Prog.lift (.load A.a16 r hl)) (cut r s.dk) s := .load (open_dk (F := F) s.dk)
theorem all_dk {inb hl} : Steps (F := F) c A I s (Prog.lift (.load A.a16 (Rect.unit (s := S512x128) ![0, 0] S512x128.size inb).toLoadRect hl)) s.dk s :=
  (cut_all (s := S512x128) (off := ![0, 0]) zero2 s.dk) ▸ load_dk (F := F)
theorem store_dk {r : Rect S512x128} {w : r.shape.Idx → Elt F .f32} {hx hm} :
    Steps (F := F) c A I s (Prog.lift (.store A.a16 r w Finset.univ hx hm)) ⟨⟩ { s with dk := lay r s.dk w } := .store (X := s.dk) (open_dk (F := F) (lay r s.dk w))
theorem fill_dk {inb} {w : S512x128.Idx → Elt F .f32} {hx hm} :
    Steps (F := F) c A I s (Prog.lift (.store A.a16 (Rect.unit (s := S512x128) ![0, 0] S512x128.size inb) w Finset.univ hx hm)) ⟨⟩ { s with dk := w } :=
  .store (X := s.dk) ((lay_all (s := S512x128) (off := ![0, 0]) (inb := inb) zero2 s.dk w).symm ▸ open_dk (F := F) w)
theorem load_dv {r : LoadRect S512x128} {hl} : Steps (F := F) c A I s (Prog.lift (.load A.a17 r hl)) (cut r s.dv) s := .load (open_dv (F := F) s.dv)
theorem all_dv {inb hl} : Steps (F := F) c A I s (Prog.lift (.load A.a17 (Rect.unit (s := S512x128) ![0, 0] S512x128.size inb).toLoadRect hl)) s.dv s :=
  (cut_all (s := S512x128) (off := ![0, 0]) zero2 s.dv) ▸ load_dv (F := F)
theorem store_dv {r : Rect S512x128} {w : r.shape.Idx → Elt F .f32} {hx hm} :
    Steps (F := F) c A I s (Prog.lift (.store A.a17 r w Finset.univ hx hm)) ⟨⟩ { s with dv := lay r s.dv w } := .store (X := s.dv) (open_dv (F := F) (lay r s.dv w))
theorem fill_dv {inb} {w : S512x128.Idx → Elt F .f32} {hx hm} :
    Steps (F := F) c A I s (Prog.lift (.store A.a17 (Rect.unit (s := S512x128) ![0, 0] S512x128.size inb) w Finset.univ hx hm)) ⟨⟩ { s with dv := w } :=
  .store (X := s.dv) ((lay_all (s := S512x128) (off := ![0, 0]) (inb := inb) zero2 s.dv w).symm ▸ open_dv (F := F) w)
theorem load_dq {r : LoadRect S8x128x512} {hl} : Steps (F := F) c A I s (Prog.lift (.load A.a18 r hl)) (cut r s.dq) s := .load (open_dq (F := F) s.dq)
theorem all_dq {inb hl} : Steps (F := F) c A I s (Prog.lift (.load A.a18 (Rect.unit (s := S8x128x512) ![0, 0, 0] S8x128x512.size inb).toLoadRect hl)) s.dq s :=
  (cut_all (s := S8x128x512) (off := ![0, 0, 0]) zero3 s.dq) ▸ load_dq (F := F)
theorem store_dq {r : Rect S8x128x512} {w : r.shape.Idx → Elt F .f32} {hx hm} :
    Steps (F := F) c A I s (Prog.lift (.store A.a18 r w Finset.univ hx hm)) ⟨⟩ { s with dq := lay r s.dq w } := .store (X := s.dq) (open_dq (F := F) (lay r s.dq w))
theorem fill_dq {inb} {w : S8x128x512.Idx → Elt F .f32} {hx hm} :
    Steps (F := F) c A I s (Prog.lift (.store A.a18 (Rect.unit (s := S8x128x512) ![0, 0, 0] S8x128x512.size inb) w Finset.univ hx hm)) ⟨⟩ { s with dq := w } :=
  .store (X := s.dq) ((lay_all (s := S8x128x512) (off := ![0, 0, 0]) (inb := inb) zero3 s.dq w).symm ▸ open_dq (F := F) w)
theorem load_df {r : LoadRect S8x1x512} {hl} : Steps (F := F) c A I s (Prog.lift (.load A.a19 r hl)) (cut r s.df) s := .load (open_df (F := F) s.df)
theorem all_df {inb hl} : Steps (F := F) c A I s (Prog.lift (.load A.a19 (Rect.unit (s := S8x1x512) ![0, 0, 0] S8x1x512.size inb).toLoadRect hl)) s.df s :=
  (cut_all (s := S8x1x512) (off := ![0, 0, 0]) zero3 s.df) ▸ load_df (F := F)
theorem store_df {r : Rect S8x1x512} {w : r.shape.Idx → Elt F .f32} {hx hm} :
    Steps (F := F) c A I s (Prog.lift (.store A.a19 r w Finset.univ hx hm)) ⟨⟩ { s with df := lay r s.df w } := .store (X := s.df) (open_df (F := F) (lay r s.df w))
theorem fill_df {inb} {w : S8x1x512.Idx → Elt F .f32} {hx hm} :
    Steps (F := F) c A I s (Prog.lift (.store A.a19 (Rect.unit (s := S8x1x512) ![0, 0, 0] S8x1x512.size inb) w Finset.univ hx hm)) ⟨⟩ { s with df := w } :=
  .store (X := s.df) ((lay_all (s := S8x1x512) (off := ![0, 0, 0]) (inb := inb) zero3 s.df w).symm ▸ open_df (F := F) w)
theorem load_dg {r : LoadRect S512x1} {hl} : Steps (F := F) c A I s (Prog.lift (.load A.a20 r hl)) (cut r s.dg) s := .load (open_dg (F := F) s.dg)
theorem all_dg {inb hl} : Steps (F := F) c A I s (Prog.lift (.load A.a20 (Rect.unit (s := S512x1) ![0, 0] S512x1.size inb).toLoadRect hl)) s.dg s :=
  (cut_all (s := S512x1) (off := ![0, 0]) zero2 s.dg) ▸ load_dg (F := F)
theorem store_dg {r : Rect S512x1} {w : r.shape.Idx → Elt F .f32} {hx hm} :
    Steps (F := F) c A I s (Prog.lift (.store A.a20 r w Finset.univ hx hm)) ⟨⟩ { s with dg := lay r s.dg w } := .store (X := s.dg) (open_dg (F := F) (lay r s.dg w))
theorem fill_dg {inb} {w : S512x1.Idx → Elt F .f32} {hx hm} :
    Steps (F := F) c A I s (Prog.lift (.store A.a20 (Rect.unit (s := S512x1) ![0, 0] S512x1.size inb) w Finset.univ hx hm)) ⟨⟩ { s with dg := w } :=
  .store (X := s.dg) ((lay_all (s := S512x1) (off := ![0, 0]) (inb := inb) zero2 s.dg w).symm ▸ open_dg (F := F) w)
theorem load_fk {r : LoadRect S512x1} {hl} : Steps (F := F) c A I s (Prog.lift (.load A.a21 r hl)) (cut r s.fk) s := .load (open_fk (F := F) s.fk)
theorem all_fk {inb hl} : Steps (F := F) c A I s (Prog.lift (.load A.a21 (Rect.unit (s := S512x1) ![0, 0] S512x1.size inb).toLoadRect hl)) s.fk s :=
  (cut_all (s := S512x1) (off := ![0, 0]) zero2 s.fk) ▸ load_fk (F := F)
theorem store_fk {r : Rect S512x1} {w : r.shape.Idx → Elt F .f32} {hx hm} :
    Steps (F := F) c A I s (Prog.lift (.store A.a21 r w Finset.univ hx hm)) ⟨⟩ { s with fk := lay r s.fk w } := .store (X := s.fk) (open_fk (F := F) (lay r s.fk w))
theorem fill_fk {inb} {w : S512x1.Idx → Elt F .f32} {hx hm} :
    Steps (F := F) c A I s (Prog.lift (.store A.a21 (Rect.unit (s := S512x1) ![0, 0] S512x1.size inb) w Finset.univ hx hm)) ⟨⟩ { s with fk := w } :=
  .store (X := s.fk) ((lay_all (s := S512x1) (off := ![0, 0]) (inb := inb) zero2 s.fk w).symm ▸ open_fk (F := F) w)

end Cert.KernelIdeal.Fox

end
-- ==== Proof.Update.lean ====
/- One update of the backward pass: a block of queries against the grid point's block of keys. The update as a program
   over the buffers, and what it leaves in the accumulators. -/
module

public import proofs.«01_k».proof.Proof.Access
public import Idealize.ShloMosaic.Lib.Pipeline.Value

@[expose] public section

noncomputable section

namespace Cert.KernelIdeal.Fox

open Idealize.ShloMosaic Idealize.ShloMosaic.TcCoe
open Idealize.SL Idealize.SL.RA Idealize.SL.BI
open Idealize.SL.Sem
open Cert.KernelIdeal Cert.KernelIdeal.Facts₀ Cert.KernelIdeal.Facts

variable {F : FTy → Type} [FloatOps F] [Named F]

/-! ## The values -/

/-- The scores of a tile, keys down and queries across, less each query's log-sum: scaled products plus the forget
    sums' differences. -/
def scores (k q : Vec F S512x128 .bf16) (fq l : Vec F S1x1x512 .f32) (fk : Vec F S512x1 .f32) : FVec F S512x512 .f32 :=
  subf (addf (mulf (matmul dot_S512x128_S512x128_S512x512_1_1_0_0_n_n none k q (constant S512x512 .f32 0x00000000#32))
      (broadcast S512x512 (Scalar.ofBits .f32 0x3DB504F3#32)))
    (subf (broadcastTo S512x512 (shapeCast S1x512 fq shapeCasts_S1x1x512_S1x512) broadcasts_S1x512_S512x512)
      (broadcastTo S512x512 fk broadcasts_S512x1_S512x512)))
    (broadcastTo S512x512 (shapeCast S1x512 l shapeCasts_S1x1x512_S1x512) broadcasts_S1x512_S512x512)

/-- A tile on the diagonal: keys after the query are masked. -/
def causal (x : FVec F S512x512 .f32) : FVec F S512x512 .f32 :=
  select (cmpi .sle (iota .tc S512x512 32 [0] iota_S512x512_d0_w32) (iota .tc S512x512 32 [1] iota_S512x512_d1_w32)) x
    (broadcast S512x512 (Named.named κ "mask" 0xF149F2CA#32))

/-- The gradient of a tile's scores, from its weights: weight times (value product less the query's row term). -/
def dscores (p : FVec F S512x512 .f32) (v o : Vec F S512x128 .bf16) (dl : Vec F S1x1x512 .f32) : FVec F S512x512 .f32 :=
  mulf p (subf (matmul dot_S512x128_S512x128_S512x512_1_1_0_0_n_n none v o (constant S512x512 .f32 0x00000000#32))
    (broadcastTo S512x512 (shapeCast S1x512 dl shapeCasts_S1x1x512_S1x512) broadcasts_S1x512_S512x512))

/-- A key or value block's gradient with a tile's part added. -/
def addRows (acc : Vec F S512x128 .f32) (w : FVec F S512x512 .f32) (x : Vec F S512x128 .bf16) : FVec F S512x128 .f32 :=
  addf acc (matmul dot_S512x512_S512x128_S512x128_1_0_0_1_n_n none (truncf .bf16 w bitsLt_bf16_f32) x (constant S512x128 .f32 0x00000000#32))

/-- A query slot's gradient with a tile's part added. -/
def addCols (acc : Vec F S1x128x512 .f32) (k : Vec F S512x128 .bf16) (w : FVec F S512x512 .f32) : FVec F S1x128x512 .f32 :=
  shapeCast S1x128x512 (addf (shapeCast S128x512 acc shapeCasts_S1x128x512_S128x512)
    (matmul dot_S512x128_S512x512_S128x512_0_0_1_1_n_n none k (truncf .bf16 w bitsLt_bf16_f32) (constant S128x512 .f32 0x00000000#32)))
    shapeCasts_S128x512_S1x128x512

/-- A query slot's forget gradient with a tile's column sums added. -/
def addSums (acc : Vec F S1x1x512 .f32) (w : FVec F S512x512 .f32) : FVec F S1x1x512 .f32 :=
  shapeCast S1x1x512 (addf (shapeCast S1x512 acc shapeCasts_S1x1x512_S1x512)
    (shapeCast S1x512 (multiReduction .add [0] S512 w 0x00000000#32 reduces_S512x512_S512 (.inl rfl) rfl) shapeCasts_S512_S1x512))
    shapeCasts_S1x512_S1x1x512

/-- A key block's forget gradient with a tile's row sums added. -/
def addTotals (acc : Vec F S512x1 .f32) (w : FVec F S512x512 .f32) : FVec F S512x1 .f32 :=
  addf acc (shapeCast S512x1 (multiReduction .add [1] S512 w 0x00000000#32 reduces_S512x512_S512_2 (.inl rfl) rfl) shapeCasts_S512_S512x1)

/-! ## The update -/

/-- Where an update finds its queries: their rows, their columns, and their slots among the accumulators. -/
structure Where where
  q : Fin 2 → ℕ
  hq : ∀ a, q a + S512x128.size a ≤ S4096x128.size a
  t : Fin 3 → ℕ
  ht : ∀ a, t a + S1x1x512.size a ≤ S1x1x4096.size a
  d : Fin 3 → ℕ
  hd : ∀ a, d a + S1x128x512.size a ≤ S8x128x512.size a
  f : Fin 3 → ℕ
  hf : ∀ a, f a + S1x1x512.size a ≤ S8x1x512.size a

/-- The rows of the queries. -/
abbrev Where.rq (W : Where) : Rect S4096x128 := Rect.unit (s := S4096x128) W.q S512x128.size W.hq
/-- The columns of the queries. -/
abbrev Where.rt (W : Where) : Rect S1x1x4096 := Rect.unit (s := S1x1x4096) W.t S1x1x512.size W.ht
/-- The slot of the queries' gradient. -/
abbrev Where.rd (W : Where) : Rect S8x128x512 := Rect.unit (s := S8x128x512) W.d S1x128x512.size W.hd
/-- The slot of the queries' forget gradient. -/
abbrev Where.rf (W : Where) : Rect S8x1x512 := Rect.unit (s := S8x1x512) W.f S1x1x512.size W.hf

/-- A tile's weights. -/
def weights (msk : FVec F S512x512 .f32 → FVec F S512x512 .f32) (W : Where) (I : In F) (s : St F) : FVec F S512x512 .f32 :=
  exp (msk (scores I.k (cut W.rq.toLoadRect I.q) (cut W.rt.toLoadRect I.ft) (cut W.rt.toLoadRect I.lse) s.fk))

/-- A tile's score gradient. -/
def grads (msk : FVec F S512x512 .f32 → FVec F S512x512 .f32) (W : Where) (I : In F) (s : St F) : FVec F S512x512 .f32 :=
  dscores (weights msk W I s) I.v (cut W.rq.toLoadRect I.o) (cut W.rt.toLoadRect I.dl)

/-- What an update leaves. -/
def update (msk : FVec F S512x512 .f32 → FVec F S512x512 .f32) (W : Where) (I : In F) (s : St F) : St F :=
  { s with
    dv := addRows s.dv (weights msk W I s) (cut W.rq.toLoadRect I.o)
    dk := addRows s.dk (grads msk W I s) (cut W.rq.toLoadRect I.q)
    dq := lay W.rd s.dq (addCols (cut W.rd.toLoadRect s.dq) I.k (grads msk W I s))
    df := lay W.rf s.df (addSums (cut W.rf.toLoadRect s.df) (grads msk W I s))
    dg := addTotals s.dg (grads msk W I s) }

/-- The update as the kernel runs it. -/
def upd (A : Bufs) (msk : FVec F S512x512 .f32 → FVec F S512x512 .f32) (W : Where) :
    Prog (TpuEff nD τ sig (Elt F) Λ₀ .tc) PUnit := do
  let q : Vec F S512x128 .bf16 ← Prog.lift (.load A.a5 W.rq.toLoadRect (View.loadsAt_vmem h_S512x128))
  let o : Vec F S512x128 .bf16 ← Prog.lift (.load A.a6 W.rq.toLoadRect (View.loadsAt_vmem h_S512x128))
  let k : Vec F S512x128 .bf16 ← Prog.lift (.load A.a3 (Rect.unit (s := S512x128) ![0, 0] S512x128.size inb_S512x128_S512x128_0_0).toLoadRect (View.loadsAt_vmem h_S512x128))
  let fq : Vec F S1x1x512 .f32 ← Prog.lift (.load A.a8 W.rt.toLoadRect (View.loadsAt_vmem h_S1x1x512))
  let fk : Vec F S512x1 .f32 ← Prog.lift (.load A.a21 (Rect.unit (s := S512x1) ![0, 0] S512x1.size inb_S512x1_S512x1_0_0).toLoadRect (View.loadsAt_vmem h_S512x1))
  let l : Vec F S1x1x512 .f32 ← Prog.lift (.load A.a9 W.rt.toLoadRect (View.loadsAt_vmem h_S1x1x512))
  let v : Vec F S512x128 .bf16 ← Prog.lift (.load A.a4 (Rect.unit (s := S512x128) ![0, 0] S512x128.size inb_S512x128_S512x128_0_0).toLoadRect (View.loadsAt_vmem h_S512x128))
  let dl : Vec F S1x1x512 .f32 ← Prog.lift (.load A.a10 W.rt.toLoadRect (View.loadsAt_vmem h_S1x1x512))
  let dv : Vec F S512x128 .f32 ← Prog.lift (.load A.a17 (Rect.unit (s := S512x128) ![0, 0] S512x128.size inb_S512x128_S512x128_0_0).toLoadRect (View.loadsAt_vmem h_S512x128))
  let _ : Vec F S512x128 .f32 ← Prog.lift (.load A.a17 (Rect.unit (s := S512x128) ![0, 0] S512x128.size inb_S512x128_S512x128_0_0).toLoadRect (View.loadsAt_vmem h_S512x128))
  Prog.lift (.store A.a17 (Rect.unit (s := S512x128) ![0, 0] S512x128.size inb_S512x128_S512x128_0_0)
    (shapeCast S512x128 (addRows dv (exp (msk (scores k q fq l fk))) o) shapeCasts_S512x128_S512x128) Finset.univ (View.stores_vmem_bits_univ h_S512x128 rfl) (.inl rfl))
  let dk : Vec F S512x128 .f32 ← Prog.lift (.load A.a16 (Rect.unit (s := S512x128) ![0, 0] S512x128.size inb_S512x128_S512x128_0_0).toLoadRect (View.loadsAt_vmem h_S512x128))
  let _ : Vec F S512x128 .f32 ← Prog.lift (.load A.a16 (Rect.unit (s := S512x128) ![0, 0] S512x128.size inb_S512x128_S512x128_0_0).toLoadRect (View.loadsAt_vmem h_S512x128))
  Prog.lift (.store A.a16 (Rect.unit (s := S512x128) ![0, 0] S512x128.size inb_S512x128_S512x128_0_0)
    (shapeCast S512x128 (addRows dk (dscores (exp (msk (scores k q fq l fk))) v o dl) q) shapeCasts_S512x128_S512x128) Finset.univ (View.stores_vmem_bits_univ h_S512x128 rfl) (.inl rfl))
  let dq : Vec F S1x128x512 .f32 ← Prog.lift (.load A.a18 W.rd.toLoadRect (View.loadsAt_vmem h_S1x128x512))
  let k' : Vec F S512x128 .bf16 ← Prog.lift (.load A.a3 (Rect.unit (s := S512x128) ![0, 0] S512x128.size inb_S512x128_S512x128_0_0).toLoadRect (View.loadsAt_vmem h_S512x128))
  let _ : Vec F S1x128x512 .f32 ← Prog.lift (.load A.a18 W.rd.toLoadRect (View.loadsAt_vmem h_S1x128x512))
  Prog.lift (.store A.a18 W.rd (addCols dq k' (dscores (exp (msk (scores k q fq l fk))) v o dl)) Finset.univ (View.stores_vmem_bits_univ h_S1x128x512 rfl) (.inl rfl))
  let df : Vec F S1x1x512 .f32 ← Prog.lift (.load A.a19 W.rf.toLoadRect (View.loadsAt_vmem h_S1x1x512))
  let _ : Vec F S1x1x512 .f32 ← Prog.lift (.load A.a19 W.rf.toLoadRect (View.loadsAt_vmem h_S1x1x512))
  Prog.lift (.store A.a19 W.rf (addSums df (dscores (exp (msk (scores k q fq l fk))) v o dl)) Finset.univ (View.stores_vmem_bits_univ h_S1x1x512 rfl) (.inl rfl))
  let dg : Vec F S512x1 .f32 ← Prog.lift (.load A.a20 (Rect.unit (s := S512x1) ![0, 0] S512x1.size inb_S512x1_S512x1_0_0).toLoadRect (View.loadsAt_vmem h_S512x1))
  let _ : Vec F S512x1 .f32 ← Prog.lift (.load A.a20 (Rect.unit (s := S512x1) ![0, 0] S512x1.size inb_S512x1_S512x1_0_0).toLoadRect (View.loadsAt_vmem h_S512x1))
  Prog.lift (.store A.a20 (Rect.unit (s := S512x1) ![0, 0] S512x1.size inb_S512x1_S512x1_0_0)
    (shapeCast S512x1 (addTotals dg (dscores (exp (msk (scores k q fq l fk))) v o dl)) shapeCasts_S512x1_S512x1) Finset.univ (View.stores_vmem_bits_univ h_S512x1 rfl) (.inl rfl))

/-- The update leaves what `update` says. -/
theorem steps_upd (c : Dev nD) (A : Bufs) (I : In F) (s : St F) (msk : FVec F S512x512 .f32 → FVec F S512x512 .f32) (W : Where) :
    Steps c A I s (upd A msk W) ⟨⟩ (update msk W I s) := by
  unfold upd
  simp only [shapeCast_self]
  refine load_q.bind ?_
  refine load_o.bind ?_
  refine all_k.bind ?_
  refine load_ft.bind ?_
  refine all_fk.bind ?_
  refine load_lse.bind ?_
  refine all_v.bind ?_
  refine load_dl.bind ?_
  refine all_dv.bind ?_
  refine all_dv.bind ?_
  refine fill_dv.bind ?_
  refine all_dk.bind ?_
  refine all_dk.bind ?_
  refine fill_dk.bind ?_
  refine load_dq.bind ?_
  refine all_k.bind ?_
  refine load_dq.bind ?_
  refine store_dq.bind ?_
  refine load_df.bind ?_
  refine load_df.bind ?_
  refine store_df.bind ?_
  refine all_dg.bind ?_
  refine all_dg.bind ?_
  exact fill_dg

end Cert.KernelIdeal.Fox

end
-- ==== Proof.Sweep.lean ====
/- A grid point's sweep over the query slots: its own slot's tile under the causal mask, then every later slot's. One
   branch of the body runs it for each key block. -/
module

public import proofs.«01_k».proof.Proof.Update

@[expose] public section

set_option maxRecDepth 16384

noncomputable section

namespace Cert.KernelIdeal.Fox

open Idealize.ShloMosaic Idealize.ShloMosaic.TcCoe
open Idealize.SL Idealize.SL.Sem
open Cert.KernelIdeal Cert.KernelIdeal.Facts₀ Cert.KernelIdeal.Facts

variable {F : FTy → Type} [FloatOps F] [Named F]

/-- The queries of slot `n`. -/
def slot (n : Fin 8) : Where where
  q := ![512 * n.val, 0]
  hq := by revert n; decide
  t := ![0, 0, 512 * n.val]
  ht := by revert n; decide
  d := ![n.val, 0, 0]
  hd := by revert n; decide
  f := ![n.val, 0, 0]
  hf := by revert n; decide

/-- A slot is told by its offsets. -/
theorem eq_slot (W : Where) (n : Fin 8) (hq : W.q = ![512 * n.val, 0]) (ht : W.t = ![0, 0, 512 * n.val]) (hd : W.d = ![n.val, 0, 0])
    (hf : W.f = ![n.val, 0, 0]) : W = slot n := by
  obtain ⟨q, _, t, _, d, _, f, _⟩ := W
  simp only at hq ht hd hf
  subst hq; subst ht; subst hd; subst hf
  rfl

/-- The unmasked updates of a list of slots, one after another. -/
def below (I : In F) : List (Fin 8) → St F → St F
  | [], s => s
  | n :: l, s => below I l (update (fun x => x) (slot n) I s)

/-- The sweep of key block `d`: its own slot under the mask, then the slots of `l`. -/
def sweep (d : Fin 8) (l : List (Fin 8)) (I : In F) (s : St F) : St F := below I l (update causal (slot d) I s)

/-- The updates as the kernel runs them. -/
def updBelow (A : Bufs) : List Where → Prog (TpuEff nD τ sig (Elt F) Λ₀ .tc) PUnit
  | [] => pure ⟨⟩
  | W :: l => upd A (fun x => x) W >>= fun _ => updBelow A l

theorem steps_below (c : Dev nD) (A : Bufs) (I : In F) (l : List (Fin 8)) : ∀ s : St F,
    Steps c A I s (updBelow A (l.map slot)) ⟨⟩ (below I l s) := by
  induction l with
  | nil => exact fun s => .pure _
  | cons n l ih => exact fun s => .bind (steps_upd c A I s _ _) (ih _)

theorem steps_sweep (c : Dev nD) (A : Bufs) (I : In F) (d : Fin 8) (l : List (Fin 8)) (s : St F) (W : Where) (L : List Where)
    (hW : W = slot d) (hL : L = l.map slot) :
    Steps c A I s (upd A causal W >>= fun _ => updBelow A L) ⟨⟩ (sweep d l I s) := by
  subst hW; subst hL
  exact .bind (steps_upd c A I s _ _) (steps_below c A I l _)

theorem coords2 (i : grid0.Coords) : (i 2).val = 0 := Nat.lt_one_iff.1 (i 2).isLt

/-- The slots key block 0 meets, at the offsets the kernel computes. -/
def w0 (i : grid0.Coords) (h : k0_cond5 i = 1#1) (r : Fin 8) : Where :=
  ⟨![512 * (0 + r.val), 0], (by revert r; decide), ![0, 0, 512 * (0 + r.val)], (by revert r; decide), (k0_off3 i (BitVec.ofNat 32 r.val)), (k0_off3_inb i h r), (k0_off4 i (BitVec.ofNat 32 r.val)), (k0_off4_inb i h r)⟩

theorem w0_eq (i : grid0.Coords) (h : k0_cond5 i = 1#1) (r : Fin 8) : w0 i h r = slot ⟨0 + r.val, by omega⟩ :=
  eq_slot _ _ rfl rfl ((Gen.k0_off3_eq i r).trans (by simp [coords2, Nat.add_comm])) ((Gen.k0_off4_eq i r).trans (by simp [coords2, Nat.add_comm]))

/-- The tiles of key block 0. -/
def tiles0 (A : Bufs) (i : grid0.Coords) (h : k0_cond5 i = 1#1) : Prog (TpuEff nD τ sig (Elt F) Λ₀ .tc) PUnit :=
  upd A causal (w0 i h 0) >>= fun _ => updBelow A [w0 i h 1, w0 i h 2, w0 i h 3, w0 i h 4, w0 i h 5, w0 i h 6, w0 i h 7]

theorem steps_tiles0 (c : Dev nD) (A : Bufs) (I : In F) (s : St F) (i : grid0.Coords) (h : k0_cond5 i = 1#1) :
    Steps c A I s (tiles0 A i h) ⟨⟩ (sweep 0 [1, 2, 3, 4, 5, 6, 7] I s) :=
  steps_sweep c A I 0 [1, 2, 3, 4, 5, 6, 7] s _ _ (w0_eq i h 0) (by simp only [w0_eq, List.map]; rfl)

/-- The slots key block 1 meets, at the offsets the kernel computes. -/
def w1 (i : grid0.Coords) (h : k0_cond6 i = 1#1) (r : Fin 7) : Where :=
  ⟨![512 * (1 + r.val), 0], (by revert r; decide), ![0, 0, 512 * (1 + r.val)], (by revert r; decide), (k0_off5 i (BitVec.ofNat 32 (1 + r.val))), (k0_off5_inb i h r), (k0_off6 i (BitVec.ofNat 32 (1 + r.val))), (k0_off6_inb i h r)⟩

theorem w1_eq (i : grid0.Coords) (h : k0_cond6 i = 1#1) (r : Fin 7) : w1 i h r = slot ⟨1 + r.val, by omega⟩ :=
  eq_slot _ _ rfl rfl ((Gen.k0_off5_eq i r).trans (by simp [coords2, Nat.add_comm])) ((Gen.k0_off6_eq i r).trans (by simp [coords2, Nat.add_comm]))

/-- The tiles of key block 1. -/
def tiles1 (A : Bufs) (i : grid0.Coords) (h : k0_cond6 i = 1#1) : Prog (TpuEff nD τ sig (Elt F) Λ₀ .tc) PUnit :=
  upd A causal (w1 i h 0) >>= fun _ => updBelow A [w1 i h 1, w1 i h 2, w1 i h 3, w1 i h 4, w1 i h 5, w1 i h 6]

theorem steps_tiles1 (c : Dev nD) (A : Bufs) (I : In F) (s : St F) (i : grid0.Coords) (h : k0_cond6 i = 1#1) :
    Steps c A I s (tiles1 A i h) ⟨⟩ (sweep 1 [2, 3, 4, 5, 6, 7] I s) :=
  steps_sweep c A I 1 [2, 3, 4, 5, 6, 7] s _ _ (w1_eq i h 0) (by simp only [w1_eq, List.map]; rfl)

/-- The slots key block 2 meets, at the offsets the kernel computes. -/
def w2 (i : grid0.Coords) (h : k0_cond7 i = 1#1) (r : Fin 6) : Where :=
  ⟨![512 * (2 + r.val), 0], (by revert r; decide), ![0, 0, 512 * (2 + r.val)], (by revert r; decide), (k0_off7 i (BitVec.ofNat 32 (2 + r.val))), (k0_off7_inb i h r), (k0_off8 i (BitVec.ofNat 32 (2 + r.val))), (k0_off8_inb i h r)⟩

theorem w2_eq (i : grid0.Coords) (h : k0_cond7 i = 1#1) (r : Fin 6) : w2 i h r = slot ⟨2 + r.val, by omega⟩ :=
  eq_slot _ _ rfl rfl ((Gen.k0_off7_eq i r).trans (by simp [coords2, Nat.add_comm])) ((Gen.k0_off8_eq i r).trans (by simp [coords2, Nat.add_comm]))

/-- The tiles of key block 2. -/
def tiles2 (A : Bufs) (i : grid0.Coords) (h : k0_cond7 i = 1#1) : Prog (TpuEff nD τ sig (Elt F) Λ₀ .tc) PUnit :=
  upd A causal (w2 i h 0) >>= fun _ => updBelow A [w2 i h 1, w2 i h 2, w2 i h 3, w2 i h 4, w2 i h 5]

theorem steps_tiles2 (c : Dev nD) (A : Bufs) (I : In F) (s : St F) (i : grid0.Coords) (h : k0_cond7 i = 1#1) :
    Steps c A I s (tiles2 A i h) ⟨⟩ (sweep 2 [3, 4, 5, 6, 7] I s) :=
  steps_sweep c A I 2 [3, 4, 5, 6, 7] s _ _ (w2_eq i h 0) (by simp only [w2_eq, List.map]; rfl)

/-- The slots key block 3 meets, at the offsets the kernel computes. -/
def w3 (i : grid0.Coords) (h : k0_cond8 i = 1#1) (r : Fin 5) : Where :=
  ⟨![512 * (3 + r.val), 0], (by revert r; decide), ![0, 0, 512 * (3 + r.val)], (by revert r; decide), (k0_off9 i (BitVec.ofNat 32 (3 + r.val))), (k0_off9_inb i h r), (k0_off10 i (BitVec.ofNat 32 (3 + r.val))), (k0_off10_inb i h r)⟩

theorem w3_eq (i : grid0.Coords) (h : k0_cond8 i = 1#1) (r : Fin 5) : w3 i h r = slot ⟨3 + r.val, by omega⟩ :=
  eq_slot _ _ rfl rfl ((Gen.k0_off9_eq i r).trans (by simp [coords2, Nat.add_comm])) ((Gen.k0_off10_eq i r).trans (by simp [coords2, Nat.add_comm]))

/-- The tiles of key block 3. -/
def tiles3 (A : Bufs) (i : grid0.Coords) (h : k0_cond8 i = 1#1) : Prog (TpuEff nD τ sig (Elt F) Λ₀ .tc) PUnit :=
  upd A causal (w3 i h 0) >>= fun _ => updBelow A [w3 i h 1, w3 i h 2, w3 i h 3, w3 i h 4]

theorem steps_tiles3 (c : Dev nD) (A : Bufs) (I : In F) (s : St F) (i : grid0.Coords) (h : k0_cond8 i = 1#1) :
    Steps c A I s (tiles3 A i h) ⟨⟩ (sweep 3 [4, 5, 6, 7] I s) :=
  steps_sweep c A I 3 [4, 5, 6, 7] s _ _ (w3_eq i h 0) (by simp only [w3_eq, List.map]; rfl)

/-- The slots key block 4 meets, at the offsets the kernel computes. -/
def w4 (i : grid0.Coords) (h : k0_cond9 i = 1#1) (r : Fin 4) : Where :=
  ⟨![512 * (4 + r.val), 0], (by revert r; decide), ![0, 0, 512 * (4 + r.val)], (by revert r; decide), (k0_off11 i (BitVec.ofNat 32 (4 + r.val))), (k0_off11_inb i h r), (k0_off12 i (BitVec.ofNat 32 (4 + r.val))), (k0_off12_inb i h r)⟩

theorem w4_eq (i : grid0.Coords) (h : k0_cond9 i = 1#1) (r : Fin 4) : w4 i h r = slot ⟨4 + r.val, by omega⟩ :=
  eq_slot _ _ rfl rfl ((Gen.k0_off11_eq i r).trans (by simp [coords2, Nat.add_comm])) ((Gen.k0_off12_eq i r).trans (by simp [coords2, Nat.add_comm]))

/-- The tiles of key block 4. -/
def tiles4 (A : Bufs) (i : grid0.Coords) (h : k0_cond9 i = 1#1) : Prog (TpuEff nD τ sig (Elt F) Λ₀ .tc) PUnit :=
  upd A causal (w4 i h 0) >>= fun _ => updBelow A [w4 i h 1, w4 i h 2, w4 i h 3]

theorem steps_tiles4 (c : Dev nD) (A : Bufs) (I : In F) (s : St F) (i : grid0.Coords) (h : k0_cond9 i = 1#1) :
    Steps c A I s (tiles4 A i h) ⟨⟩ (sweep 4 [5, 6, 7] I s) :=
  steps_sweep c A I 4 [5, 6, 7] s _ _ (w4_eq i h 0) (by simp only [w4_eq, List.map]; rfl)

/-- The slots key block 5 meets, at the offsets the kernel computes. -/
def w5 (i : grid0.Coords) (h : k0_cond10 i = 1#1) (r : Fin 3) : Where :=
  ⟨![512 * (5 + r.val), 0], (by revert r; decide), ![0, 0, 512 * (5 + r.val)], (by revert r; decide), (k0_off13 i (BitVec.ofNat 32 (5 + r.val))), (k0_off13_inb i h r), (k0_off14 i (BitVec.ofNat 32 (5 + r.val))), (k0_off14_inb i h r)⟩

theorem w5_eq (i : grid0.Coords) (h : k0_cond10 i = 1#1) (r : Fin 3) : w5 i h r = slot ⟨5 + r.val, by omega⟩ :=
  eq_slot _ _ rfl rfl ((Gen.k0_off13_eq i r).trans (by simp [coords2, Nat.add_comm])) ((Gen.k0_off14_eq i r).trans (by simp [coords2, Nat.add_comm]))

/-- The tiles of key block 5. -/
def tiles5 (A : Bufs) (i : grid0.Coords) (h : k0_cond10 i = 1#1) : Prog (TpuEff nD τ sig (Elt F) Λ₀ .tc) PUnit :=
  upd A causal (w5 i h 0) >>= fun _ => updBelow A [w5 i h 1, w5 i h 2]

theorem steps_tiles5 (c : Dev nD) (A : Bufs) (I : In F) (s : St F) (i : grid0.Coords) (h : k0_cond10 i = 1#1) :
    Steps c A I s (tiles5 A i h) ⟨⟩ (sweep 5 [6, 7] I s) :=
  steps_sweep c A I 5 [6, 7] s _ _ (w5_eq i h 0) (by simp only [w5_eq, List.map]; rfl)

/-- The slots key block 6 meets, at the offsets the kernel computes. -/
def w6 (i : grid0.Coords) (h : k0_cond11 i = 1#1) (r : Fin 2) : Where :=
  ⟨![512 * (6 + r.val), 0], (by revert r; decide), ![0, 0, 512 * (6 + r.val)], (by revert r; decide), (k0_off15 i (BitVec.ofNat 32 (6 + r.val))), (k0_off15_inb i h r), (k0_off16 i (BitVec.ofNat 32 (6 + r.val))), (k0_off16_inb i h r)⟩

theorem w6_eq (i : grid0.Coords) (h : k0_cond11 i = 1#1) (r : Fin 2) : w6 i h r = slot ⟨6 + r.val, by omega⟩ :=
  eq_slot _ _ rfl rfl ((Gen.k0_off15_eq i r).trans (by simp [coords2, Nat.add_comm])) ((Gen.k0_off16_eq i r).trans (by simp [coords2, Nat.add_comm]))

/-- The tiles of key block 6. -/
def tiles6 (A : Bufs) (i : grid0.Coords) (h : k0_cond11 i = 1#1) : Prog (TpuEff nD τ sig (Elt F) Λ₀ .tc) PUnit :=
  upd A causal (w6 i h 0) >>= fun _ => updBelow A [w6 i h 1]

theorem steps_tiles6 (c : Dev nD) (A : Bufs) (I : In F) (s : St F) (i : grid0.Coords) (h : k0_cond11 i = 1#1) :
    Steps c A I s (tiles6 A i h) ⟨⟩ (sweep 6 [7] I s) :=
  steps_sweep c A I 6 [7] s _ _ (w6_eq i h 0) (by simp only [w6_eq, List.map]; rfl)

/-- The slots key block 7 meets, at the offsets the kernel computes. -/
def w7 (i : grid0.Coords) (h : k0_cond12 i = 1#1)  : Where :=
  ⟨![512 * 7, 0], (by decide), ![0, 0, 512 * 7], (by decide), (k0_off17 i), (k0_off17_inb i h), (k0_off18 i), (k0_off18_inb i h)⟩

theorem w7_eq (i : grid0.Coords) (h : k0_cond12 i = 1#1) : w7 i h = slot 7 :=
  eq_slot _ _ rfl rfl ((Gen.k0_off17_eq i).trans (by simp [coords2, Nat.add_comm])) ((Gen.k0_off18_eq i).trans (by simp [coords2, Nat.add_comm]))

/-- The tile of key block 7. -/
def tiles7 (A : Bufs) (i : grid0.Coords) (h : k0_cond12 i = 1#1) : Prog (TpuEff nD τ sig (Elt F) Λ₀ .tc) PUnit :=
  upd A causal (w7 i h) >>= fun _ => updBelow A []

theorem steps_tiles7 (c : Dev nD) (A : Bufs) (I : In F) (s : St F) (i : grid0.Coords) (h : k0_cond12 i = 1#1) :
    Steps c A I s (tiles7 A i h) ⟨⟩ (sweep 7 [] I s) :=
  steps_sweep c A I 7 [] s _ _ (w7_eq i h) rfl

/-! ## Branches -/

variable {c : Dev nD} {A : Bufs} {I : In F} {s s' s'' : St F}

/-- A branch with the rest of the program after it: the branch runs to `s'` where its condition holds, the rest from there. -/
theorem Steps.join {C : Prop} [Decidable C] {α : Type} {R : PUnit → Prog (TpuEff nD τ sig (Elt F) Λ₀ .tc) α}
    {f : (PUnit → Prog (TpuEff nD τ sig (Elt F) Λ₀ .tc) α) → Prog (TpuEff nD τ sig (Elt F) Λ₀ .tc) α} {a : α}
    (p : C → Prog (TpuEff nD τ sig (Elt F) Λ₀ .tc) PUnit)
    (hf : ∀ R, f R = dite C (fun hc => p hc >>= R) (fun _ => R ⟨⟩))
    (h : ∀ hc, Steps c A I s (p hc) ⟨⟩ s') (hR : Steps c A I (if C then s' else s) (R ⟨⟩) a s'') :
    Steps c A I s (have j := R; f j) a s'' := by
  show Steps c A I s (f R) a s''
  rw [hf]
  by_cases hc : C
  · rw [dif_pos hc]; rw [if_pos hc] at hR; exact (h hc).bind hR
  · rw [dif_neg hc]; rw [if_neg hc] at hR; exact hR

/-- A branch that is never taken. -/
theorem Steps.never {C : Prop} [Decidable C] {α : Type} {p : C → Prog (TpuEff nD τ sig (Elt F) Λ₀ .tc) α}
    {q : ¬C → Prog (TpuEff nD τ sig (Elt F) Λ₀ .tc) α} {a : α} (hC : ¬C) (h : Steps c A I s (q hC) a s') :
    Steps c A I s (dite C p q) a s' := by
  rw [dif_neg hC]; exact h

end Cert.KernelIdeal.Fox

end
-- ==== Proof.Middle.lean ====
/- The middle of the body: the branches that run a key block's sweep. -/
module

public import proofs.«01_k».proof.Proof.Sweep

@[expose] public section

set_option maxRecDepth 16384

noncomputable section

namespace Cert.KernelIdeal.Fox

open Idealize.ShloMosaic Idealize.ShloMosaic.TcCoe
open Idealize.SL Idealize.SL.Sem
open Cert.KernelIdeal Cert.KernelIdeal.Facts₀ Cert.KernelIdeal.Facts

variable {F : FTy → Type} [FloatOps F] [Named F]
variable {c : Dev nD} {A : Bufs} {I : In F} {s : St F}

/-- The state after key block 0's branch. -/
def after0 (i : grid0.Coords) (I : In F) (s : St F) : St F :=
  if k0_cond5 i = 1#1 then sweep 0 [1, 2, 3, 4, 5, 6, 7] I s else s

/-- The state after key block 1's branch. -/
def after1 (i : grid0.Coords) (I : In F) (s : St F) : St F :=
  if k0_cond6 i = 1#1 then sweep 1 [2, 3, 4, 5, 6, 7] I s else s

/-- The state after key block 2's branch. -/
def after2 (i : grid0.Coords) (I : In F) (s : St F) : St F :=
  if k0_cond7 i = 1#1 then sweep 2 [3, 4, 5, 6, 7] I s else s

/-- The state after key block 3's branch. -/
def after3 (i : grid0.Coords) (I : In F) (s : St F) : St F :=
  if k0_cond8 i = 1#1 then sweep 3 [4, 5, 6, 7] I s else s

/-- The state after key block 4's branch. -/
def after4 (i : grid0.Coords) (I : In F) (s : St F) : St F :=
  if k0_cond9 i = 1#1 then sweep 4 [5, 6, 7] I s else s

/-- The state after key block 5's branch. -/
def after5 (i : grid0.Coords) (I : In F) (s : St F) : St F :=
  if k0_cond10 i = 1#1 then sweep 5 [6, 7] I s else s

/-- The state after key block 6's branch. -/
def after6 (i : grid0.Coords) (I : In F) (s : St F) : St F :=
  if k0_cond11 i = 1#1 then sweep 6 [7] I s else s

/-- The state after key block 7's branch. -/
def after7 (i : grid0.Coords) (I : In F) (s : St F) : St F :=
  if k0_cond12 i = 1#1 then sweep 7 [] I s else s

set_option maxHeartbeats 0 in
/-- The branches of key blocks 0 to 6. -/
theorem steps_part93 (i : grid0.Coords) (h3 : A.a3.IsWhole) (h4 : A.a4.IsWhole) (h5 : A.a5.IsWhole) (h6 : A.a6.IsWhole) (h7 : A.a7.IsWhole) (h8 : A.a8.IsWhole) (h9 : A.a9.IsWhole) (h10 : A.a10.IsWhole) (h11 : A.a11.IsWhole) (h12 : A.a12.IsWhole) (h13 : A.a13.IsWhole) (h14 : A.a14.IsWhole) (h15 : A.a15.IsWhole) (h16 : A.a16.IsWhole) (h17 : A.a17.IsWhole) (h18 : A.a18.IsWhole) (h19 : A.a19.IsWhole) (h20 : A.a20.IsWhole) (h21 : A.a21.IsWhole) (x y : BitVec 32) (z : BitVec 1) :
    Steps c A I s (k0_part93 i A.a3 h3 A.a4 h4 A.a5 h5 A.a6 h6 A.a7 h7 A.a8 h8 A.a9 h9 A.a10 h10 A.a11 h11 A.a12 h12 A.a13 h13 A.a14 h14 A.a15 h15 A.a16 h16 A.a17 h17 A.a18 h18 A.a19 h19 A.a20 h20 A.a21 h21 x y z) (Scalar.muli 8#32 y)
      (after6 i I (after5 i I (after4 i I (after3 i I (after2 i I (after1 i I (after0 i I s))))))) := by
  delta k0_part93
  refine Steps.join (tiles0 A i) (fun R => rfl) (steps_tiles0 c A I _ i) ?_
  refine Steps.join (tiles1 A i) (fun R => rfl) (steps_tiles1 c A I _ i) ?_
  refine Steps.join (tiles2 A i) (fun R => rfl) (steps_tiles2 c A I _ i) ?_
  refine Steps.join (tiles3 A i) (fun R => rfl) (steps_tiles3 c A I _ i) ?_
  refine Steps.join (tiles4 A i) (fun R => rfl) (steps_tiles4 c A I _ i) ?_
  refine Steps.join (tiles5 A i) (fun R => rfl) (steps_tiles5 c A I _ i) ?_
  refine Steps.join (tiles6 A i) (fun R => rfl) (steps_tiles6 c A I _ i) ?_
  exact .pure _

end Cert.KernelIdeal.Fox

end
-- ==== Proof.Ends.lean ====
/- The ends of the body: what it clears before a sweep, and what it writes out after one. -/
module

public import proofs.«01_k».proof.Proof.Sweep

@[expose] public section

set_option maxRecDepth 16384

noncomputable section

namespace Cert.KernelIdeal.Fox

open Idealize.ShloMosaic Idealize.ShloMosaic.TcCoe
open Idealize.SL Idealize.SL.Sem
open Cert.KernelIdeal Cert.KernelIdeal.Facts₀ Cert.KernelIdeal.Facts

variable {F : FTy → Type} [FloatOps F] [Named F]
variable {c : Dev nD} {A : Bufs} {I : In F} {s : St F}

/-! ## Before a sweep -/

/-- A zero of every element. -/
abbrev zeros (S : Shape) : FVec F S .f32 := broadcast S (Scalar.ofBits .f32 0x00000000#32)

/-- The condition of a head's first point. -/
def cond1 (i : grid0.Coords) : BitVec 1 :=
  Scalar.cmpi .ne (Scalar.extui (Scalar.andi (Scalar.cmpi .eq (BitVec.ofNat 32 (i 1).val) 0#32) (Scalar.cmpi .eq (BitVec.ofNat 32 (i 2).val) 0#32))) 0#32

/-- The condition of a key block's first point: its sweep is this pass's. -/
def cond3 (i : grid0.Coords) : BitVec 1 :=
  Scalar.cmpi .ne (Scalar.extui (Scalar.cmpi .eq (BitVec.ofNat 32 (i 2).val)
    (Scalar.select (Scalar.andi (Scalar.cmpi .ne
        (Scalar.subi (Scalar.extui (Scalar.cmpi .sgt (BitVec.ofNat 32 (i 1).val) 0#32)) (Scalar.extui (Scalar.cmpi .slt (BitVec.ofNat 32 (i 1).val) 0#32)))
        (Scalar.subi (Scalar.extui (Scalar.cmpi .sgt 8#32 0#32)) (Scalar.extui (Scalar.cmpi .slt 8#32 0#32))))
      (Scalar.cmpi .ne (Scalar.remsi (BitVec.ofNat 32 (i 1).val) 8#32) 0#32))
      (Scalar.subi (Scalar.divsi (BitVec.ofNat 32 (i 1).val) 8#32) 1#32) (Scalar.divsi (BitVec.ofNat 32 (i 1).val) 8#32)))) 0#32

/-- A head's query accumulators cleared. -/
def clearHead (s : St F) : St F := { s with dq := zeros S8x128x512, df := zeros S8x1x512 }

/-- The forget gradient of the keys cleared. -/
def clearAll (s : St F) : St F := { s with odg := zeros S4096x128 }

/-- A head's column of a block of forget sums. -/
def column (i : grid0.Coords) (X : Vec F S512x128 .f32) : FVec F S512x1 .f32 :=
  shapeCast S512x1 (multiReduction .add [1] S512 (select (cmpi .eq (iota .tc S512x128 32 [1] iota_S512x128_d1_w32) (broadcast S512x128 (BitVec.ofNat 32 (i 0).val)))
    X (broadcast S512x128 (Scalar.ofBits .f32 0x00000000#32))) 0x00000000#32 reduces_S512x128_S512 (.inl rfl) rfl) shapeCasts_S512_S512x1

/-- A key block's accumulators cleared, and its forget sums taken. -/
def clearBlock (i : grid0.Coords) (I : In F) (s : St F) : St F :=
  { s with dk := zeros S512x128, dv := zeros S512x128, dg := zeros S512x1, fk := column i I.fn }

def progHead (A : Bufs) : Prog (TpuEff nD τ sig (Elt F) Λ₀ .tc) PUnit := do
  let _ : Vec F S8x128x512 .f32 ← Prog.lift (.load A.a18 (Rect.unit (s := S8x128x512) ![0, 0, 0] S8x128x512.size inb_S8x128x512_S8x128x512_0_0_0).toLoadRect (View.loadsAt_vmem h_S8x128x512))
  Prog.lift (.store A.a18 (Rect.unit (s := S8x128x512) ![0, 0, 0] S8x128x512.size inb_S8x128x512_S8x128x512_0_0_0) (shapeCast S8x128x512 (zeros S8x128x512) shapeCasts_S8x128x512_S8x128x512) Finset.univ (View.stores_vmem_bits_univ h_S8x128x512 rfl) (.inl rfl))
  let _ : Vec F S8x1x512 .f32 ← Prog.lift (.load A.a19 (Rect.unit (s := S8x1x512) ![0, 0, 0] S8x1x512.size inb_S8x1x512_S8x1x512_0_0_0).toLoadRect (View.loadsAt_vmem h_S8x1x512))
  Prog.lift (.store A.a19 (Rect.unit (s := S8x1x512) ![0, 0, 0] S8x1x512.size inb_S8x1x512_S8x1x512_0_0_0) (shapeCast S8x1x512 (zeros S8x1x512) shapeCasts_S8x1x512_S8x1x512) Finset.univ (View.stores_vmem_bits_univ h_S8x1x512 rfl) (.inl rfl))

theorem steps_head : Steps c A I s (progHead (F := F) A) ⟨⟩ (clearHead s) := by
  unfold progHead
  simp only [shapeCast_self]
  refine all_dq.bind ?_
  refine fill_dq.bind ?_
  refine all_df.bind ?_
  exact fill_df

def progAll (A : Bufs) : Prog (TpuEff nD τ sig (Elt F) Λ₀ .tc) PUnit := do
  let _ : Vec F S4096x128 .f32 ← Prog.lift (.load A.a15 (Rect.unit (s := S4096x128) ![0, 0] S4096x128.size inb_S4096x128_S4096x128_0_0).toLoadRect (View.loadsAt_vmem h_S4096x128))
  Prog.lift (.store A.a15 (Rect.unit (s := S4096x128) ![0, 0] S4096x128.size inb_S4096x128_S4096x128_0_0) (zeros S4096x128) Finset.univ (View.stores_vmem_bits_univ h_S4096x128 rfl) (.inl rfl))

theorem steps_all : Steps c A I s (progAll (F := F) A) ⟨⟩ (clearAll s) := by
  unfold progAll
  refine all_odg.bind ?_
  exact fill_odg

def progBlock (A : Bufs) (i : grid0.Coords) : Prog (TpuEff nD τ sig (Elt F) Λ₀ .tc) PUnit := do
  let _ : Vec F S512x128 .f32 ← Prog.lift (.load A.a16 (Rect.unit (s := S512x128) ![0, 0] S512x128.size inb_S512x128_S512x128_0_0).toLoadRect (View.loadsAt_vmem h_S512x128))
  Prog.lift (.store A.a16 (Rect.unit (s := S512x128) ![0, 0] S512x128.size inb_S512x128_S512x128_0_0) (shapeCast S512x128 (zeros S512x128) shapeCasts_S512x128_S512x128) Finset.univ (View.stores_vmem_bits_univ h_S512x128 rfl) (.inl rfl))
  let _ : Vec F S512x128 .f32 ← Prog.lift (.load A.a17 (Rect.unit (s := S512x128) ![0, 0] S512x128.size inb_S512x128_S512x128_0_0).toLoadRect (View.loadsAt_vmem h_S512x128))
  Prog.lift (.store A.a17 (Rect.unit (s := S512x128) ![0, 0] S512x128.size inb_S512x128_S512x128_0_0) (shapeCast S512x128 (zeros S512x128) shapeCasts_S512x128_S512x128) Finset.univ (View.stores_vmem_bits_univ h_S512x128 rfl) (.inl rfl))
  let _ : Vec F S512x1 .f32 ← Prog.lift (.load A.a20 (Rect.unit (s := S512x1) ![0, 0] S512x1.size inb_S512x1_S512x1_0_0).toLoadRect (View.loadsAt_vmem h_S512x1))
  Prog.lift (.store A.a20 (Rect.unit (s := S512x1) ![0, 0] S512x1.size inb_S512x1_S512x1_0_0) (shapeCast S512x1 (zeros S512x1) shapeCasts_S512x1_S512x1) Finset.univ (View.stores_vmem_bits_univ h_S512x1 rfl) (.inl rfl))
  let x : Vec F S512x128 .f32 ← Prog.lift (.load A.a7 (Rect.unit (s := S512x128) ![0, 0] S512x128.size inb_S512x128_S512x128_0_0).toLoadRect (View.loadsAt_vmem h_S512x128))
  let _ : Vec F S512x1 .f32 ← Prog.lift (.load A.a21 (Rect.unit (s := S512x1) ![0, 0] S512x1.size inb_S512x1_S512x1_0_0).toLoadRect (View.loadsAt_vmem h_S512x1))
  Prog.lift (.store A.a21 (Rect.unit (s := S512x1) ![0, 0] S512x1.size inb_S512x1_S512x1_0_0) (shapeCast S512x1 (column i x) shapeCasts_S512x1_S512x1) Finset.univ (View.stores_vmem_bits_univ h_S512x1 rfl) (.inl rfl))

theorem steps_block (i : grid0.Coords) : Steps c A I s (progBlock A i) ⟨⟩ (clearBlock i I s) := by
  unfold progBlock
  simp only [shapeCast_self]
  refine all_dk.bind ?_
  refine fill_dk.bind ?_
  refine all_dv.bind ?_
  refine fill_dv.bind ?_
  refine all_dg.bind ?_
  refine fill_dg.bind ?_
  refine all_fn.bind ?_
  refine all_fk.bind ?_
  exact fill_fk

/-- No point meets a slot before its key block's. -/
theorem not4 (i : grid0.Coords) : ¬ k0_cond4 i = 1#1 := by
  have h : ∀ (x : Fin 8) (z : Fin 1), ¬ Scalar.cmpi .ne (Scalar.extui (Scalar.cmpi .slt (BitVec.ofNat 32 x.val) (Scalar.muli 8#32 (BitVec.ofNat 32 z.val)))) 0#32 = 1#1 := by decide
  exact h (i 1) (i 2)

set_option maxHeartbeats 0 in
/-- The first part of the body. -/
theorem steps_part92 (i : grid0.Coords) (h3 : A.a3.IsWhole) (h4 : A.a4.IsWhole) (h5 : A.a5.IsWhole) (h6 : A.a6.IsWhole) (h7 : A.a7.IsWhole) (h8 : A.a8.IsWhole) (h9 : A.a9.IsWhole) (h10 : A.a10.IsWhole) (h11 : A.a11.IsWhole) (h12 : A.a12.IsWhole) (h13 : A.a13.IsWhole) (h14 : A.a14.IsWhole) (h15 : A.a15.IsWhole) (h16 : A.a16.IsWhole) (h17 : A.a17.IsWhole) (h18 : A.a18.IsWhole) (h19 : A.a19.IsWhole) (h20 : A.a20.IsWhole) (h21 : A.a21.IsWhole) :
    Steps c A I s (k0_part92 i A.a3 h3 A.a4 h4 A.a5 h5 A.a6 h6 A.a7 h7 A.a8 h8 A.a9 h9 A.a10 h10 A.a11 h11 A.a12 h12 A.a13 h13 A.a14 h14 A.a15 h15 A.a16 h16 A.a17 h17 A.a18 h18 A.a19 h19 A.a20 h20 A.a21 h21)
      ⟨BitVec.ofNat 32 (i 0).val, BitVec.ofNat 32 (i 1).val, BitVec.ofNat 32 (i 2).val,
        Scalar.cmpi .eq (BitVec.ofNat 32 (i 1).val) (Scalar.addi (Scalar.muli 8#32 (BitVec.ofNat 32 (i 2).val)) 0#32)⟩
      (if cond3 i = 1#1 then clearBlock i I (if k0_cond2 i = 1#1 then clearAll (if cond1 i = 1#1 then clearHead s else s) else (if cond1 i = 1#1 then clearHead s else s))
        else (if k0_cond2 i = 1#1 then clearAll (if cond1 i = 1#1 then clearHead s else s) else (if cond1 i = 1#1 then clearHead s else s))) := by
  delta k0_part92
  refine Steps.join (C := cond1 i = 1#1) (fun _ => progHead (F := F) A) (fun R => rfl) (fun _ => steps_head) ?_
  refine Steps.join (fun _ => progAll (F := F) A) (fun R => rfl) (fun _ => steps_all) ?_
  refine Steps.join (C := cond3 i = 1#1) (fun _ => progBlock (F := F) A i) (fun R => rfl) (fun _ => steps_block i) ?_
  refine Steps.never (F := F) (not4 i) ?_
  exact .pure _

/-! ## After a sweep -/

theorem is13 (i : grid0.Coords) : k0_cond13 i = 1#1 := by
  have h : ∀ z : Fin 1, Scalar.cmpi .ne (Scalar.extui (Scalar.cmpi .eq (BitVec.ofNat 32 z.val) 0#32)) 0#32 = 1#1 := by decide
  exact h (i 2)

/-- A key block's rows of the keys' forget gradient. -/
abbrev rowsOf (i : grid0.Coords) : Rect S4096x128 := Rect.unit (s := S4096x128) (k0_off19 i) S512x128.size (k0_off19_inb i (is13 i))

/-- A gradient scaled and rounded. -/
def scaled (X : FVec F S512x128 .f32) : FVec F S512x128 .bf16 :=
  truncf .bf16 (mulf X (broadcast S512x128 (Scalar.ofBits .f32 0x3DB504F3#32))) bitsLt_bf16_f32

/-- A key block's forget gradient added at its head's lane. -/
def addLane (i : grid0.Coords) (acc : Vec F S512x128 .f32) (g : Vec F S512x1 .f32) : FVec F S512x128 .f32 :=
  addf acc (select (cmpi .eq (iota .tc S512x128 32 [1] iota_S512x128_d1_w32) (broadcast S512x128 (BitVec.ofNat 32 (i 0).val)))
    (broadcastTo S512x128 (subf (zeros S512x1) g) broadcasts_S512x1_S512x128) (zeros S512x128))

/-- What a key block's end writes. -/
def emit (i : grid0.Coords) (s : St F) : St F :=
  { s with
    odk := scaled s.dk
    odv := truncf .bf16 s.dv bitsLt_bf16_f32
    odg := lay (rowsOf i) s.odg (addLane i (cut (rowsOf i).toLoadRect s.odg) s.dg) }

def progEmit (A : Bufs) (h11 : A.a11.IsWhole) (h12 : A.a12.IsWhole) (i : grid0.Coords) : Prog (TpuEff nD τ sig (Elt F) Λ₀ .tc) PUnit := do
  let x : Vec F S512x128 .f32 ← Prog.lift (.load A.a16 (Rect.unit (s := S512x128) ![0, 0] S512x128.size inb_S512x128_S512x128_0_0).toLoadRect (View.loadsAt_vmem h_S512x128))
  let _ : Vec F S512x128 .bf16 ← Prog.lift (.load A.a11 (Rect.unit (s := S512x128) ![0, 0] S512x128.size inb_S512x128_S512x128_0_0).toLoadRect (View.loadsAt_vmem h_S512x128))
  Prog.lift (.store A.a11 (Rect.unit (s := S512x128) ![0, 0] S512x128.size inb_S512x128_S512x128_0_0) (scaled x) Finset.univ (View.stores_vmem h_S512x128 (h11.storeExact_slice rfl _ packedbf16_S512x128_S512x128_0_0) (fun _ => rfl)) (.inl rfl))
  let y : Vec F S512x128 .f32 ← Prog.lift (.load A.a17 (Rect.unit (s := S512x128) ![0, 0] S512x128.size inb_S512x128_S512x128_0_0).toLoadRect (View.loadsAt_vmem h_S512x128))
  let _ : Vec F S512x128 .bf16 ← Prog.lift (.load A.a12 (Rect.unit (s := S512x128) ![0, 0] S512x128.size inb_S512x128_S512x128_0_0).toLoadRect (View.loadsAt_vmem h_S512x128))
  Prog.lift (.store A.a12 (Rect.unit (s := S512x128) ![0, 0] S512x128.size inb_S512x128_S512x128_0_0) (truncf .bf16 y bitsLt_bf16_f32) Finset.univ (View.stores_vmem h_S512x128 (h12.storeExact_slice rfl _ packedbf16_S512x128_S512x128_0_0) (fun _ => rfl)) (.inl rfl))
  let z : Vec F S512x128 .f32 ← Prog.lift (.load A.a15 (rowsOf i).toLoadRect (View.loadsAt_vmem h_S512x128))
  let g : Vec F S512x1 .f32 ← Prog.lift (.load A.a20 (Rect.unit (s := S512x1) ![0, 0] S512x1.size inb_S512x1_S512x1_0_0).toLoadRect (View.loadsAt_vmem h_S512x1))
  let _ : Vec F S512x128 .f32 ← Prog.lift (.load A.a15 (rowsOf i).toLoadRect (View.loadsAt_vmem h_S512x128))
  Prog.lift (.store A.a15 (rowsOf i) (addf (shapeCast S512x128 z shapeCasts_S512x128_S512x128) (select (cmpi .eq (iota .tc S512x128 32 [1] iota_S512x128_d1_w32) (broadcast S512x128 (BitVec.ofNat 32 (i 0).val))) (broadcastTo S512x128 (shapeCast S512x1 (subf (zeros S512x1) g) shapeCasts_S512x1_S512x1) broadcasts_S512x1_S512x128) (zeros S512x128))) Finset.univ (View.stores_vmem_bits_univ h_S512x128 rfl) (.inl rfl))

theorem steps_emit (i : grid0.Coords) (h11 : A.a11.IsWhole) (h12 : A.a12.IsWhole) : Steps c A I s (progEmit (F := F) A h11 h12 i) ⟨⟩ (emit i s) := by
  unfold progEmit
  simp only [shapeCast_self]
  refine all_dk.bind ?_
  refine all_odk.bind ?_
  refine fill_odk.bind ?_
  refine all_dv.bind ?_
  refine all_odv.bind ?_
  refine fill_odv.bind ?_
  refine load_odg.bind ?_
  refine all_dg.bind ?_
  refine load_odg.bind ?_
  exact store_odg

/-- The columns of slot `n`. -/
abbrev colsOf (n : Fin 8) : Rect S128x4096 := Rect.unit (s := S128x4096) ![0, 512 * n.val] S128x512.size (by revert n; decide)

/-- A query slot's gradient, scaled and rounded. -/
def scaledCols (X : Vec F S1x128x512 .f32) : FVec F S128x512 .bf16 :=
  truncf .bf16 (mulf (shapeCast S128x512 X shapeCasts_S1x128x512_S128x512) (broadcast S128x512 (Scalar.ofBits .f32 0x3DB504F3#32))) bitsLt_bf16_f32

/-- What a head's end writes of slot `n`. -/
def put (n : Fin 8) (s : St F) : St F :=
  { s with
    odq := lay (colsOf n) s.odq (scaledCols (cut (slot n).rd.toLoadRect s.dq))
    odf := lay (slot n).rt s.odf (shapeCast S1x1x512 (shapeCast S1x512 (cut (slot n).rf.toLoadRect s.df) shapeCasts_S1x1x512_S1x512) shapeCasts_S1x512_S1x1x512) }

/-- What a head's end writes of a list of slots. -/
def puts : List (Fin 8) → St F → St F
  | [], s => s
  | n :: l, s => puts l (put n s)

theorem stores13 (h13 : A.a13.IsWhole) : ∀ n : Fin 8, (A.a13.access (colsOf n)).Stores Finset.univ
  | 0 => View.stores_vmem h_S128x512 (h13.storeExact_slice rfl _ packedbf16_S128x4096_S128x512_0_0) (fun _ => rfl)
  | 1 => View.stores_vmem h_S128x512 (h13.storeExact_slice rfl _ packedbf16_S128x4096_S128x512_0_512) (fun _ => rfl)
  | 2 => View.stores_vmem h_S128x512 (h13.storeExact_slice rfl _ packedbf16_S128x4096_S128x512_0_1024) (fun _ => rfl)
  | 3 => View.stores_vmem h_S128x512 (h13.storeExact_slice rfl _ packedbf16_S128x4096_S128x512_0_1536) (fun _ => rfl)
  | 4 => View.stores_vmem h_S128x512 (h13.storeExact_slice rfl _ packedbf16_S128x4096_S128x512_0_2048) (fun _ => rfl)
  | 5 => View.stores_vmem h_S128x512 (h13.storeExact_slice rfl _ packedbf16_S128x4096_S128x512_0_2560) (fun _ => rfl)
  | 6 => View.stores_vmem h_S128x512 (h13.storeExact_slice rfl _ packedbf16_S128x4096_S128x512_0_3072) (fun _ => rfl)
  | 7 => View.stores_vmem h_S128x512 (h13.storeExact_slice rfl _ packedbf16_S128x4096_S128x512_0_3584) (fun _ => rfl)

def progPut (A : Bufs) (h13 : A.a13.IsWhole) (n : Fin 8) : Prog (TpuEff nD τ sig (Elt F) Λ₀ .tc) PUnit := do
  let x : Vec F S1x128x512 .f32 ← Prog.lift (.load A.a18 (slot n).rd.toLoadRect (View.loadsAt_vmem h_S1x128x512))
  let _ : Vec F S128x512 .bf16 ← Prog.lift (.load A.a13 (colsOf n).toLoadRect (View.loadsAt_vmem h_S128x512))
  Prog.lift (.store A.a13 (colsOf n) (scaledCols x) Finset.univ (stores13 h13 n) (.inl rfl))
  let y : Vec F S1x1x512 .f32 ← Prog.lift (.load A.a19 (slot n).rf.toLoadRect (View.loadsAt_vmem h_S1x1x512))
  let _ : Vec F S1x1x512 .f32 ← Prog.lift (.load A.a14 (slot n).rt.toLoadRect (View.loadsAt_vmem h_S1x1x512))
  Prog.lift (.store A.a14 (slot n).rt (shapeCast S1x1x512 (shapeCast S1x512 y shapeCasts_S1x1x512_S1x512) shapeCasts_S1x512_S1x1x512) Finset.univ (View.stores_vmem_bits_univ h_S1x1x512 rfl) (.inl rfl))

theorem steps_put (h13 : A.a13.IsWhole) (n : Fin 8) : Steps c A I s (progPut (F := F) A h13 n) ⟨⟩ (put n s) := by
  unfold progPut
  refine load_dq.bind ?_
  refine load_odq.bind ?_
  refine store_odq.bind ?_
  refine load_df.bind ?_
  refine load_odf.bind ?_
  exact store_odf

def progPuts (A : Bufs) (h13 : A.a13.IsWhole) : List (Fin 8) → Prog (TpuEff nD τ sig (Elt F) Λ₀ .tc) PUnit
  | [] => pure ⟨⟩
  | n :: l => progPut A h13 n >>= fun _ => progPuts A h13 l

theorem steps_puts (h13 : A.a13.IsWhole) (l : List (Fin 8)) : ∀ s : St F, Steps c A I s (progPuts (F := F) A h13 l) ⟨⟩ (puts l s) := by
  induction l with
  | nil => exact fun s => .pure _
  | cons n l ih => exact fun s => .bind (steps_put h13 n) (ih _)

end Cert.KernelIdeal.Fox

end
-- ==== Proof.Body.lean ====
/- The whole body: what one grid point leaves in its buffers. -/
module

public import proofs.«01_k».proof.Proof.Middle
public import proofs.«01_k».proof.Proof.Ends

@[expose] public section

set_option maxRecDepth 16384

noncomputable section

namespace Cert.KernelIdeal.Fox

open Idealize.ShloMosaic Idealize.ShloMosaic.TcCoe
open Idealize.SL Idealize.SL.Sem
open Cert.KernelIdeal Cert.KernelIdeal.Facts₀ Cert.KernelIdeal.Facts

variable {F : FTy → Type} [FloatOps F] [Named F]
variable {c : Dev nD} {A : Bufs} {I : In F} {s : St F}

/-- What a grid point clears. -/
def cleared (i : grid0.Coords) (I : In F) (s : St F) : St F :=
  if cond3 i = 1#1 then clearBlock i I (if k0_cond2 i = 1#1 then clearAll (if cond1 i = 1#1 then clearHead s else s) else (if cond1 i = 1#1 then clearHead s else s))
    else (if k0_cond2 i = 1#1 then clearAll (if cond1 i = 1#1 then clearHead s else s) else (if cond1 i = 1#1 then clearHead s else s))

/-- What a grid point's sweep leaves. -/
def swept (i : grid0.Coords) (I : In F) (s : St F) : St F :=
  after7 i I (after6 i I (after5 i I (after4 i I (after3 i I (after2 i I (after1 i I (after0 i I s)))))))

/-- What a grid point writes. -/
def written (i : grid0.Coords) (s : St F) : St F :=
  if k0_cond14 i = 1#1 then puts [0, 1, 2, 3, 4, 5, 6, 7] (if k0_cond13 i = 1#1 then emit i s else s)
    else (if k0_cond13 i = 1#1 then emit i s else s)

/-- What a grid point leaves of the buffers' contents `s`, its blocks `I`. -/
def point (i : grid0.Coords) (I : In F) (s : St F) : St F := written i (swept i I (cleared i I s))

set_option maxHeartbeats 0 in
/-- The body leaves what `point` says. -/
theorem steps_body (i : grid0.Coords) (h3 : A.a3.IsWhole) (h4 : A.a4.IsWhole) (h5 : A.a5.IsWhole) (h6 : A.a6.IsWhole) (h7 : A.a7.IsWhole) (h8 : A.a8.IsWhole) (h9 : A.a9.IsWhole) (h10 : A.a10.IsWhole) (h11 : A.a11.IsWhole) (h12 : A.a12.IsWhole) (h13 : A.a13.IsWhole) (h14 : A.a14.IsWhole) (h15 : A.a15.IsWhole) (h16 : A.a16.IsWhole) (h17 : A.a17.IsWhole) (h18 : A.a18.IsWhole) (h19 : A.a19.IsWhole) (h20 : A.a20.IsWhole) (h21 : A.a21.IsWhole) :
    Steps c A I s (cc0_fox_bwd i A.a3 h3 A.a4 h4 A.a5 h5 A.a6 h6 A.a7 h7 A.a8 h8 A.a9 h9 A.a10 h10 A.a11 h11 A.a12 h12 A.a13 h13 A.a14 h14 A.a15 h15 A.a16 h16 A.a17 h17 A.a18 h18 A.a19 h19 A.a20 h20 A.a21 h21) ⟨⟩ (point i I s) := by
  delta cc0_fox_bwd
  refine Steps.bind (steps_part92 (s := s) i h3 h4 h5 h6 h7 h8 h9 h10 h11 h12 h13 h14 h15 h16 h17 h18 h19 h20 h21) ?_
  refine Steps.bind (steps_part93 i h3 h4 h5 h6 h7 h8 h9 h10 h11 h12 h13 h14 h15 h16 h17 h18 h19 h20 h21 _ _ _) ?_
  refine Steps.join (tiles7 (F := F) A i) (fun R => rfl) (steps_tiles7 c A I _ i) ?_
  refine Steps.join (fun _ => progEmit (F := F) A h11 h12 i) (fun R => rfl) (fun _ => steps_emit i h11 h12) ?_
  refine Steps.join (fun _ => progPuts (F := F) A h13 [0, 1, 2, 3, 4, 5, 6, 7]) (fun R => rfl) (fun _ => steps_puts h13 _ _) ?_
  exact .pure _

end Cert.KernelIdeal.Fox

end
-- ==== Proof.Point.lean ====
/- A grid point in closed form: which of the body's conditions hold at it, and that what it leaves does not depend on
   what the result blocks held before it. -/
module

public import proofs.«01_k».proof.Proof.Body

@[expose] public section

set_option maxRecDepth 16384

noncomputable section

namespace Cert.KernelIdeal.Fox

open Idealize.ShloMosaic Idealize.ShloMosaic.TcCoe
open Idealize.SL Idealize.SL.Sem
open Cert.KernelIdeal Cert.KernelIdeal.Facts₀ Cert.KernelIdeal.Facts

variable {F : FTy → Type} [FloatOps F] [Named F]

/-! ## The conditions -/

/-- The grid point of head `h` and key block `x`. -/
def at2 (h : Fin 32) (x : Fin 8) : grid0.Coords
  | ⟨0, _⟩ => h
  | ⟨1, _⟩ => x
  | ⟨2, _⟩ => ⟨0, Nat.zero_lt_one⟩

theorem at2_eta (i : grid0.Coords) : at2 (i 0) (i 1) = i := by
  funext a
  match a with
  | ⟨0, _⟩ => rfl
  | ⟨1, _⟩ => rfl
  | ⟨2, _⟩ => exact Fin.ext (coords2 i).symm

theorem at1 : ∀ x : Fin 8, cond1 (at2 0 x) = 1#1 ↔ x = 0 := by decide
theorem at2' : ∀ (h : Fin 32) (x : Fin 8), k0_cond2 (at2 h x) = 1#1 ↔ (h = 0 ∧ x = 0) := by decide
theorem at3 : ∀ x : Fin 8, cond3 (at2 0 x) = 1#1 := by decide
theorem at5 : ∀ x : Fin 8, k0_cond5 (at2 0 x) = 1#1 ↔ x = 0 := by decide
theorem at6 : ∀ x : Fin 8, k0_cond6 (at2 0 x) = 1#1 ↔ x = 1 := by decide
theorem at7 : ∀ x : Fin 8, k0_cond7 (at2 0 x) = 1#1 ↔ x = 2 := by decide
theorem at8 : ∀ x : Fin 8, k0_cond8 (at2 0 x) = 1#1 ↔ x = 3 := by decide
theorem at9 : ∀ x : Fin 8, k0_cond9 (at2 0 x) = 1#1 ↔ x = 4 := by decide
theorem at10 : ∀ x : Fin 8, k0_cond10 (at2 0 x) = 1#1 ↔ x = 5 := by decide
theorem at11 : ∀ x : Fin 8, k0_cond11 (at2 0 x) = 1#1 ↔ x = 6 := by decide
theorem at12 : ∀ x : Fin 8, k0_cond12 (at2 0 x) = 1#1 ↔ x = 7 := by decide
theorem at14 : ∀ x : Fin 8, k0_cond14 (at2 0 x) = 1#1 ↔ x = 7 := by decide

/-- The slots after key block `d`'s own. -/
def later : Fin 8 → List (Fin 8)
  | 0 => [1, 2, 3, 4, 5, 6, 7]
  | 1 => [2, 3, 4, 5, 6, 7]
  | 2 => [3, 4, 5, 6, 7]
  | 3 => [4, 5, 6, 7]
  | 4 => [5, 6, 7]
  | 5 => [6, 7]
  | 6 => [7]
  | 7 => []

/-- What a point starts its head and the whole run with. -/
def started (h : Fin 32) (x : Fin 8) (s : St F) : St F :=
  if x = 0 then (if h = 0 then clearAll (clearHead s) else clearHead s) else s

/-- What a point leaves: cleared, swept, written. -/
def leave (h : Fin 32) (x : Fin 8) (I : In F) (s : St F) : St F :=
  let r := emit (at2 h x) (sweep x (later x) I (clearBlock (at2 h x) I (started h x s)))
  if x = 7 then puts [0, 1, 2, 3, 4, 5, 6, 7] r else r

theorem cleared_eq (h : Fin 32) (x : Fin 8) (I : In F) (s : St F) :
    cleared (at2 h x) I s = clearBlock (at2 h x) I (started h x s) := by
  have c1 : cond1 (at2 h x) = 1#1 ↔ x = 0 := at1 x
  have c2 := at2' h x
  have c3 : cond3 (at2 h x) = 1#1 := at3 x
  unfold cleared started
  rw [if_pos c3]
  congr 1
  simp only [c1, c2]
  by_cases hx : x = 0 <;> by_cases hh : h = 0 <;> simp [hx, hh]

theorem swept_eq (h : Fin 32) (x : Fin 8) (I : In F) (s : St F) : swept (at2 h x) I s = sweep x (later x) I s := by
  have c5 : k0_cond5 (at2 h x) = 1#1 ↔ x = 0 := at5 x
  have c6 : k0_cond6 (at2 h x) = 1#1 ↔ x = 1 := at6 x
  have c7 : k0_cond7 (at2 h x) = 1#1 ↔ x = 2 := at7 x
  have c8 : k0_cond8 (at2 h x) = 1#1 ↔ x = 3 := at8 x
  have c9 : k0_cond9 (at2 h x) = 1#1 ↔ x = 4 := at9 x
  have c10 : k0_cond10 (at2 h x) = 1#1 ↔ x = 5 := at10 x
  have c11 : k0_cond11 (at2 h x) = 1#1 ↔ x = 6 := at11 x
  have c12 : k0_cond12 (at2 h x) = 1#1 ↔ x = 7 := at12 x
  unfold swept after7 after6 after5 after4 after3 after2 after1 after0
  simp only [c5, c6, c7, c8, c9, c10, c11, c12]
  fin_cases x <;> rfl

theorem point_eq (h : Fin 32) (x : Fin 8) (I : In F) (s : St F) : point (at2 h x) I s = leave h x I s := by
  have c14 : k0_cond14 (at2 h x) = 1#1 ↔ x = 7 := at14 x
  unfold point written leave
  rw [cleared_eq, swept_eq]
  simp only [c14, is13, if_true]

/-! ## What the result blocks held -/

/-- `s` with other contents in the result blocks written over. -/
def outs (s : St F) (a b : Vec F S512x128 .bf16) (q : Vec F S128x4096 .bf16) (f : Vec F S1x1x4096 .f32) : St F :=
  { s with odk := a, odv := b, odq := q, odf := f }

theorem below_outs (I : In F) (a b q f) : ∀ (l : List (Fin 8)) (s : St F), below I l (outs s a b q f) = outs (below I l s) a b q f
  | [], _ => rfl
  | n :: l, s => below_outs I a b q f l (update (fun x => x) (slot n) I s)

theorem sweep_outs (d : Fin 8) (l : List (Fin 8)) (I : In F) (s : St F) (a b q f) :
    sweep d l I (outs s a b q f) = outs (sweep d l I s) a b q f :=
  below_outs I a b q f l (update causal (slot d) I s)

theorem started_outs (h : Fin 32) (x : Fin 8) (s : St F) (a b q f) :
    started h x (outs s a b q f) = outs (started h x s) a b q f := by
  unfold started; split
  · split <;> rfl
  · rfl

/-! ## What a head's end writes -/

theorem mem_cols {n : Fin 8} {y : S128x4096.Idx} : y ∈ (colsOf n).set ↔ (y 1).val / 512 = n.val := by
  rw [Rect.mem_set_unit, Fin.forall_fin_two]
  have h0 : (y 0).val < 128 := (y 0).isLt
  show (0 ≤ (y 0).val ∧ (y 0).val < 0 + 128) ∧ (512 * n.val ≤ (y 1).val ∧ (y 1).val < 512 * n.val + 512) ↔ _
  omega

theorem mem_row {n : Fin 8} {y : S1x1x4096.Idx} : y ∈ (slot n).rt.set ↔ (y 2).val / 512 = n.val := by
  rw [Rect.mem_set_unit, Fin.forall_fin_succ, Fin.forall_fin_two]
  have h0 : (y 0).val < 1 := (y 0).isLt
  have h1 : (y 1).val < 1 := (y 1).isLt
  show (0 ≤ (y 0).val ∧ (y 0).val < 0 + 1) ∧ (0 ≤ (y 1).val ∧ (y 1).val < 0 + 1) ∧ (512 * n.val ≤ (y 2).val ∧ (y 2).val < 512 * n.val + 512) ↔ _
  omega

theorem puts_dq : ∀ (l : List (Fin 8)) (s : St F), (puts l s).dq = s.dq
  | [], _ => rfl
  | _ :: l, _ => puts_dq l _

theorem puts_df : ∀ (l : List (Fin 8)) (s : St F), (puts l s).df = s.df
  | [], _ => rfl
  | _ :: l, _ => puts_df l _

theorem puts_odq_off {n : Fin 8} {y : S128x4096.Idx} (hy : y ∈ (colsOf n).set) : ∀ (l : List (Fin 8)) (s : St F), n ∉ l → (puts l s).odq y = s.odq y
  | [], _, _ => rfl
  | k :: l, s, h => by
    refine (puts_odq_off hy l (put k s) fun hl => h (List.mem_cons_of_mem _ hl)).trans ?_
    refine lay_off _ _ _ fun hk => h ?_
    have : n = k := Fin.ext ((mem_cols.1 hy).symm.trans (mem_cols.1 hk))
    exact this ▸ List.mem_cons_self

theorem puts_odf_off {n : Fin 8} {y : S1x1x4096.Idx} (hy : y ∈ (slot n).rt.set) : ∀ (l : List (Fin 8)) (s : St F), n ∉ l → (puts l s).odf y = s.odf y
  | [], _, _ => rfl
  | k :: l, s, h => by
    refine (puts_odf_off hy l (put k s) fun hl => h (List.mem_cons_of_mem _ hl)).trans ?_
    refine lay_off _ _ _ fun hk => h ?_
    have : n = k := Fin.ext ((mem_row.1 hy).symm.trans (mem_row.1 hk))
    exact this ▸ List.mem_cons_self

/-- The columns of a slot in the list hold its gradient. -/
theorem puts_odq_on {n : Fin 8} (x : S128x512.Idx) : ∀ (l : List (Fin 8)) (s : St F), n ∈ l →
    (puts l s).odq ((colsOf n).emb x) = scaledCols (cut (slot n).rd.toLoadRect s.dq) x
  | [], _, h => by cases h
  | k :: l, s, h => by
    by_cases hl : n ∈ l
    · exact puts_odq_on x l (put k s) hl
    · refine (puts_odq_off ((colsOf n).idx_mem x) l (put k s) hl).trans ?_
      obtain rfl : n = k := (List.mem_cons.1 h).resolve_right hl
      exact lay_emb (colsOf n) _ _ x

/-- The lanes of a slot in the list hold its forget gradient. -/
theorem puts_odf_on {n : Fin 8} (x : S1x1x512.Idx) : ∀ (l : List (Fin 8)) (s : St F), n ∈ l →
    (puts l s).odf ((slot n).rt.emb x) = shapeCast S1x1x512 (shapeCast S1x512 (cut (slot n).rf.toLoadRect s.df) shapeCasts_S1x1x512_S1x512) shapeCasts_S1x512_S1x1x512 x
  | [], _, h => by cases h
  | k :: l, s, h => by
    by_cases hl : n ∈ l
    · exact puts_odf_on x l (put k s) hl
    · refine (puts_odf_off ((slot n).rt.idx_mem x) l (put k s) hl).trans ?_
      obtain rfl : n = k := (List.mem_cons.1 h).resolve_right hl
      exact lay_emb (slot n).rt _ _ x

/-- Every slot. -/
abbrev every : List (Fin 8) := [0, 1, 2, 3, 4, 5, 6, 7]

theorem mem_every : ∀ n : Fin 8, n ∈ every := by decide

theorem puts_shape : ∀ (l : List (Fin 8)) (s : St F), puts l s = { s with odq := (puts l s).odq, odf := (puts l s).odf }
  | [], _ => rfl
  | k :: l, s => puts_shape l (put k s)

/-- A head's end writes its two blocks whole. -/
theorem puts_outs (s : St F) (q f) : puts every { s with odq := q, odf := f } = puts every s := by
  have hq : (puts every { s with odq := q, odf := f }).odq = (puts every s).odq := by
    funext y
    have hy : (y 1).val < 4096 := (y 1).isLt
    have hm : y ∈ (colsOf ⟨(y 1).val / 512, by omega⟩).set := mem_cols.2 rfl
    obtain ⟨x, hx⟩ := LoadRect.exists_idx_of_mem _ hm
    rw [← hx]
    exact (puts_odq_on x _ _ (mem_every _)).trans (puts_odq_on x _ s (mem_every _)).symm
  have hf : (puts every { s with odq := q, odf := f }).odf = (puts every s).odf := by
    funext y
    have hy : (y 2).val < 4096 := (y 2).isLt
    have hm : y ∈ (slot ⟨(y 2).val / 512, by omega⟩).rt.set := mem_row.2 rfl
    obtain ⟨x, hx⟩ := LoadRect.exists_idx_of_mem _ hm
    rw [← hx]
    exact (puts_odf_on x _ _ (mem_every _)).trans (puts_odf_on x _ s (mem_every _)).symm
  rw [puts_shape every { s with odq := q, odf := f }, puts_shape every s, hq, hf]

/-! ## A point, whatever the result blocks held -/

/-- A point before its head's last writes the key and value blocks and leaves the queries' blocks. -/
theorem leave_before {h : Fin 32} {x : Fin 8} (hx : x ≠ 7) (I : In F) (s : St F) (a b q f) :
    leave h x I (outs s a b q f) = { leave h x I s with odq := q, odf := f } := by
  unfold leave
  simp only [if_neg hx]
  rw [started_outs]
  show emit (at2 h x) (sweep x (later x) I (outs (clearBlock (at2 h x) I (started h x s)) a b q f)) = _
  rw [sweep_outs]; rfl

/-- A head's last point writes every result block. -/
theorem leave_last {h : Fin 32} {x : Fin 8} (hx : x = 7) (I : In F) (s : St F) (a b q f) :
    leave h x I (outs s a b q f) = leave h x I s := by
  unfold leave
  simp only [if_pos hx]
  rw [started_outs]
  show puts every (emit (at2 h x) (sweep x (later x) I (outs (clearBlock (at2 h x) I (started h x s)) a b q f))) = _
  rw [sweep_outs]
  exact puts_outs (emit (at2 h x) (sweep x (later x) I (clearBlock (at2 h x) I (started h x s)))) q f

/-- The first point of all clears everything it reads. -/
theorem leave_first (I : In F) (s s' : St F) : leave 0 0 I s = leave 0 0 I (outs s' s.odk s.odv s.odq s.odf) := rfl

end Cert.KernelIdeal.Fox

end
-- ==== Proof.Run.lean ====
/- The run: what every grid point leaves, followed over the grid, and @main's run to it, over any values. -/
module

public import proofs.«01_k».proof.Proof.Point
public import proofs.«01_k».proof.Proof.Gen.KernelIdeal.Frame
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What every point leaves -/

/-- The blocks a point reads. -/
def ins (c : Dev nD) (t : Fin cfg0.N) : In F where
  k := iblk m c 0 t
  v := iblk m c 1 t
  q := iblk m c 2 t
  o := iblk m c 3 t
  fn := iblk m c 4 t
  ft := iblk m c 5 t
  lse := iblk m c 6 t
  dl := iblk m c 7 t

/-- Some contents, before the first point. -/
def blank : St F where
  odk := fun _ => Scalar.ofBits .bf16 0#16
  odv := fun _ => Scalar.ofBits .bf16 0#16
  odq := fun _ => Scalar.ofBits .bf16 0#16
  odf := fun _ => Scalar.ofBits .f32 0#32
  odg := fun _ => Scalar.ofBits .f32 0#32
  dk := fun _ => Scalar.ofBits .f32 0#32
  dv := fun _ => Scalar.ofBits .f32 0#32
  dq := fun _ => Scalar.ofBits .f32 0#32
  df := fun _ => Scalar.ofBits .f32 0#32
  dg := fun _ => Scalar.ofBits .f32 0#32
  fk := fun _ => Scalar.ofBits .f32 0#32

/-- The head of a point. -/
abbrev headOf (t : Fin cfg0.N) : Fin 32 := grid0.coords t 0
/-- The key block of a point. -/
abbrev blockOf (t : Fin cfg0.N) : Fin 8 := grid0.coords t 1

/-- The buffers' contents after `n` points. -/
def track (c : Dev nD) : ℕ → St F
  | 0 => blank
  | n + 1 => if h : n < cfg0.N then leave (headOf ⟨n, h⟩) (blockOf ⟨n, h⟩) (ins m c ⟨n, h⟩) (track c n) else track c n

theorem track_succ (c : Dev nD) (t : Fin cfg0.N) :
    track m c (t.val + 1) = leave (headOf t) (blockOf t) (ins m c t) (track m c t.val) := dif_pos t.isLt

theorem headOf_val (t : Fin cfg0.N) : (headOf t).val = t.val / 8 := by
  have ht : t.val < 256 := Nat.lt_of_lt_of_eq t.isLt N_0
  have e : (grid0.coords t 0).val = t.val / 8 % 32 := Pipeline.Grid.coords_val t 0 (by decide) rfl
  exact e.trans (Nat.mod_eq_of_lt (by omega))

theorem blockOf_val (t : Fin cfg0.N) : (blockOf t).val = t.val % 8 := by
  have e : (grid0.coords t 1).val = t.val / 1 % 8 := Pipeline.Grid.coords_val t 1 (by decide) rfl
  rw [Nat.div_one] at e; exact e

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)
abbrev ms12 (t : Fin cfg0.N) := win0_12.stage (cfg0.slots t 12)
abbrev scM0 : Memref sig .tc .vmem S512x128 .f32 := Memref.whole cc0_scratch0
abbrev scM1 : Memref sig .tc .vmem S512x128 .f32 := Memref.whole cc0_scratch1
abbrev scM2 : Memref sig .tc .vmem S8x128x512 .f32 := Memref.whole cc0_scratch2
abbrev scM3 : Memref sig .tc .vmem S8x1x512 .f32 := Memref.whole cc0_scratch3
abbrev scM4 : Memref sig .tc .vmem S512x1 .f32 := Memref.whole cc0_scratch4
abbrev scM5 : Memref sig .tc .vmem S512x1 .f32 := Memref.whole cc0_scratch5

/-- The buffers of a point. -/
def bufs (t : Fin cfg0.N) : Bufs where
  a3 := ms0 t
  a4 := ms1 t
  a5 := ms2 t
  a6 := ms3 t
  a7 := ms4 t
  a8 := ms5 t
  a9 := ms6 t
  a10 := ms7 t
  a11 := ms8 t
  a12 := ms9 t
  a13 := ms10 t
  a14 := ms11 t
  a15 := ms12 t
  a16 := scM0
  a17 := scM1
  a18 := scM2
  a19 := scM3
  a20 := scM4
  a21 := scM5

/-- What the core keeps from one point to the next. -/
def keeps (c : Dev nD) (s : St F) : sProp 𝕄 :=
  iprop(owns (c : Thread nD τ) scM0 fullShare s.dk ∗ owns (c : Thread nD τ) scM1 fullShare s.dv ∗ owns (c : Thread nD τ) scM2 fullShare s.dq ∗ owns (c : Thread nD τ) scM3 fullShare s.df ∗ owns (c : Thread nD τ) scM4 fullShare s.dg ∗ owns (c : Thread nD τ) scM5 fullShare s.fk)

/-- The same at anything. -/
def keepsAny (c : Dev nD) : sProp 𝕄 :=
  iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d))

theorem phiA_eq (c : Dev nD) :
    (Pipeline.ΦA spec0 c : sProp 𝕄) = iprop(keepsAny c ∗ (∃ r, prngReg c r)) := by
  unfold Pipeline.ΦA keepsAny; rw [scopedRest0_eq]; simp only [scM0, scM1, scM2, scM3, scM4, scM5, owns_whole]; try rfl

/-- The invariant before position `n`. -/
def PhiS (c : Dev nD) : ℕ → sProp 𝕄
  | 0 => Pipeline.ΦA spec0 c
  | n + 1 => iprop(keeps c (track m c (n + 1)) ∗ (∃ r, prngReg c r))

/-- The pipeline's proof data: the arrays as the region finds them, each input's buffer at its block, each result's at
    what the points so far leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (track m c (t.val + 1)).odk
    | ⟨9, _⟩ => (track m c (t.val + 1)).odv
    | ⟨10, _⟩ => (track m c (t.val + 1)).odq
    | ⟨11, _⟩ => (track m c (t.val + 1)).odf
    | ⟨12, _⟩ => (track m c (t.val + 1)).odg
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; rfl

theorem Phi_succ (c : Dev nD) (t : Fin cfg0.N) :
    (dats m 0 c).Φ t.succ = iprop(keeps c (track m c (t.val + 1)) ∗ (∃ r, prngReg c r)) := by
  dsimp only [dats]; rfl

theorem holds0 (c : Dev nD) (t : Fin cfg0.N) : (dats m 0 c).after 0 t = iblk m c 0 t := by dsimp only [dats]
theorem holds1 (c : Dev nD) (t : Fin cfg0.N) : (dats m 0 c).after 1 t = iblk m c 1 t := by dsimp only [dats]
theorem holds2 (c : Dev nD) (t : Fin cfg0.N) : (dats m 0 c).after 2 t = iblk m c 2 t := by dsimp only [dats]
theorem holds3 (c : Dev nD) (t : Fin cfg0.N) : (dats m 0 c).after 3 t = iblk m c 3 t := by dsimp only [dats]
theorem holds4 (c : Dev nD) (t : Fin cfg0.N) : (dats m 0 c).after 4 t = iblk m c 4 t := by dsimp only [dats]
theorem holds5 (c : Dev nD) (t : Fin cfg0.N) : (dats m 0 c).after 5 t = iblk m c 5 t := by dsimp only [dats]
theorem holds6 (c : Dev nD) (t : Fin cfg0.N) : (dats m 0 c).after 6 t = iblk m c 6 t := by dsimp only [dats]
theorem holds7 (c : Dev nD) (t : Fin cfg0.N) : (dats m 0 c).after 7 t = iblk m c 7 t := by dsimp only [dats]
theorem holds8 (c : Dev nD) (t : Fin cfg0.N) : (dats m 0 c).after 8 t = (track m c (t.val + 1)).odk := by dsimp only [dats]
theorem holds9 (c : Dev nD) (t : Fin cfg0.N) : (dats m 0 c).after 9 t = (track m c (t.val + 1)).odv := by dsimp only [dats]
theorem holds10 (c : Dev nD) (t : Fin cfg0.N) : (dats m 0 c).after 10 t = (track m c (t.val + 1)).odq := by dsimp only [dats]
theorem holds11 (c : Dev nD) (t : Fin cfg0.N) : (dats m 0 c).after 11 t = (track m c (t.val + 1)).odf := by dsimp only [dats]
theorem holds12 (c : Dev nD) (t : Fin cfg0.N) : (dats m 0 c).after 12 t = (track m c (t.val + 1)).odg := by dsimp only [dats]

theorem before0 (c : Dev nD) (t : Fin cfg0.N) (d) : (dats m 0 c).before 0 t d = iblk m c 0 t :=
  before0_0_of m (dats m 0 c) (A_eq m c 0) (holds0 m c) t d
theorem before1 (c : Dev nD) (t : Fin cfg0.N) (d) : (dats m 0 c).before 1 t d = iblk m c 1 t :=
  before0_1_of m (dats m 0 c) (A_eq m c 1) (holds1 m c) t d
theorem before2 (c : Dev nD) (t : Fin cfg0.N) (d) : (dats m 0 c).before 2 t d = iblk m c 2 t :=
  before0_2_of m (dats m 0 c) (A_eq m c 2) (holds2 m c) t d
theorem before3 (c : Dev nD) (t : Fin cfg0.N) (d) : (dats m 0 c).before 3 t d = iblk m c 3 t :=
  before0_3_of m (dats m 0 c) (A_eq m c 3) (holds3 m c) t d
theorem before4 (c : Dev nD) (t : Fin cfg0.N) (d) : (dats m 0 c).before 4 t d = iblk m c 4 t :=
  before0_4_of m (dats m 0 c) (A_eq m c 4) (holds4 m c) t d
theorem before5 (c : Dev nD) (t : Fin cfg0.N) (d) : (dats m 0 c).before 5 t d = iblk m c 5 t :=
  before0_5_of m (dats m 0 c) (A_eq m c 5) (holds5 m c) t d
theorem before6 (c : Dev nD) (t : Fin cfg0.N) (d) : (dats m 0 c).before 6 t d = iblk m c 6 t :=
  before0_6_of m (dats m 0 c) (A_eq m c 6) (holds6 m c) t d
theorem before7 (c : Dev nD) (t : Fin cfg0.N) (d) : (dats m 0 c).before 7 t d = iblk m c 7 t :=
  before0_7_of m (dats m 0 c) (A_eq m c 7) (holds7 m c) t d

/-! ## Where the results' blocks are live -/

theorem live8 (t : Fin cfg0.N) : cfg0.idle 8 (cfg0.grid.coords t) = false := by
  show (!(k0_cond13 (grid0.coords t) == 1#1)) = false
  rw [is13]; rfl
theorem live9 (t : Fin cfg0.N) : cfg0.idle 9 (cfg0.grid.coords t) = false := by
  show (!(k0_cond13 (grid0.coords t) == 1#1)) = false
  rw [is13]; rfl
theorem live12 (t : Fin cfg0.N) : cfg0.idle 12 (cfg0.grid.coords t) = false := by
  show (!(k0_cond2 (grid0.coords t) == 1#1) && !(k0_cond13 (grid0.coords t) == 1#1)) = false
  rw [is13]; simp
theorem is14 (t : Fin cfg0.N) : k0_cond14 (grid0.coords t) = 1#1 ↔ blockOf t = 7 := by
  rw [← at2_eta (grid0.coords t)]; exact at14 (blockOf t)
theorem live10 (t : Fin cfg0.N) (h : blockOf t = 7) : cfg0.idle 10 (cfg0.grid.coords t) = false := by
  show (!(k0_cond14 (grid0.coords t) == 1#1)) = false
  rw [(is14 t).2 h]; rfl
theorem live11 (t : Fin cfg0.N) (h : blockOf t = 7) : cfg0.idle 11 (cfg0.grid.coords t) = false := by
  show (!(k0_cond14 (grid0.coords t) == 1#1)) = false
  rw [(is14 t).2 h]; rfl
theorem idle10 (t : Fin cfg0.N) (h : blockOf t ≠ 7) : cfg0.idle 10 (cfg0.grid.coords t) = true := by
  show (!(k0_cond14 (grid0.coords t) == 1#1)) = true
  simp [beq_eq_false_iff_ne.2 fun e => h ((is14 t).1 e)]
theorem idle11 (t : Fin cfg0.N) (h : blockOf t ≠ 7) : cfg0.idle 11 (cfg0.grid.coords t) = true := by
  show (!(k0_cond14 (grid0.coords t) == 1#1)) = true
  simp [beq_eq_false_iff_ne.2 fun e => h ((is14 t).1 e)]
theorem mod7 (t : Fin cfg0.N) (h : blockOf t ≠ 7) : ¬ t.val % 8 = 7 := fun e => h (Fin.ext ((blockOf_val t).trans e))
theorem noflush10 (t : Fin cfg0.N) (h : blockOf t ≠ 7) : (cfg0.win 10).flush t = false :=
  eq_false_of_ne_true fun e => mod7 t h ((flush0_10 t).1 e)
theorem noflush11 (t : Fin cfg0.N) (h : blockOf t ≠ 7) : (cfg0.win 11).flush t = false :=
  eq_false_of_ne_true fun e => mod7 t h ((flush0_11 t).1 e)

/-- The keys' forget gradient's block holds what the point before left. -/
theorem before12 (c : Dev nD) (t : Fin cfg0.N) (ht : t.val ≠ 0) (d) : (dats m 0 c).before 12 t d = (track m c t.val).odg := by
  have hN : t.val < 256 := Nat.lt_of_lt_of_eq t.isLt N_0
  have hf : (cfg0.win 12).flush ⟨t.val - 1, Nat.lt_of_le_of_lt (Nat.sub_le _ _) t.isLt⟩ = false :=
    eq_false_of_ne_true fun e => by have := (flush0_12 _).1 e; simp only at this; omega
  rw [(dats m 0 c).before_of_pos 12 t ht ((cfg0.win 12).fetch_out rfl t), hf, if_neg Bool.false_ne_true]
  unfold Dat.left
  rw [live12]
  show (dats m 0 c).after 12 _ = _
  rw [holds12]
  show (track m c (t.val - 1 + 1)).odg = _
  rw [Nat.sub_add_cancel (Nat.pos_of_ne_zero ht)]

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, holds0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, holds1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, holds2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, holds3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, holds4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, holds5]
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, holds6]
theorem leaves7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, holds7]
theorem leaves8 (c : Dev nD) (t : Fin cfg0.N) : (dats m 0 c).leavesExact 8 t = owns (c : Thread nD τ) (ms8 t) fullShare (track m c (t.val + 1)).odk := by
  unfold Dat.leavesExact; rw [live8, holds8]
theorem leaves9 (c : Dev nD) (t : Fin cfg0.N) : (dats m 0 c).leavesExact 9 t = owns (c : Thread nD τ) (ms9 t) fullShare (track m c (t.val + 1)).odv := by
  unfold Dat.leavesExact; rw [live9, holds9]
theorem leaves12 (c : Dev nD) (t : Fin cfg0.N) : (dats m 0 c).leavesExact 12 t = owns (c : Thread nD τ) (ms12 t) fullShare (track m c (t.val + 1)).odg := by
  unfold Dat.leavesExact; rw [live12, holds12]
theorem leaves10 (c : Dev nD) (t : Fin cfg0.N) (h : blockOf t = 7) : (dats m 0 c).leavesExact 10 t = owns (c : Thread nD τ) (ms10 t) fullShare (track m c (t.val + 1)).odq := by
  unfold Dat.leavesExact; rw [live10 t h, holds10]
theorem leaves10_idle (c : Dev nD) (t : Fin cfg0.N) (h : blockOf t ≠ 7) : (dats m 0 c).leavesExact 10 t = iprop(∃ d, owns (c : Thread nD τ) (ms10 t) fullShare ((dats m 0 c).before 10 t d)) :=
  (dats m 0 c).leavesExact_idle 10 t (idle10 t h) (noflush10 t h)
theorem leaves11 (c : Dev nD) (t : Fin cfg0.N) (h : blockOf t = 7) : (dats m 0 c).leavesExact 11 t = owns (c : Thread nD τ) (ms11 t) fullShare (track m c (t.val + 1)).odf := by
  unfold Dat.leavesExact; rw [live11 t h, holds11]
theorem leaves11_idle (c : Dev nD) (t : Fin cfg0.N) (h : blockOf t ≠ 7) : (dats m 0 c).leavesExact 11 t = iprop(∃ d, owns (c : Thread nD τ) (ms11 t) fullShare ((dats m 0 c).before 11 t d)) :=
  (dats m 0 c).leavesExact_idle 11 t (idle11 t h) (noflush11 t h)

/-! ## The body at a point -/

/-- The point's body, from contents `s`, its blocks in place. -/
theorem body_at (c : Dev nD) (t : Fin cfg0.N) (s : St F) :
    hold c (bufs t) (ins m c t) s ⊢ wp frame (wpE (defs₀ (F := F)) Variants.none (c : Thread nD τ) none) Set.univ (bodyAt0 t)
      (fun _ => hold c (bufs t) (ins m c t) (leave (headOf t) (blockOf t) (ins m c t) s)) := by
  rw [← point_eq, show at2 (headOf t) (blockOf t) = grid0.coords t from at2_eta _]
  exact steps_body (A := bufs t) (c := c) (I := ins m c t) (s := s) (grid0.coords t) _ _ _ _ _ _ _ _ _ _ _ _ _ _ _ _ _ _ _ Set.univ _ .rfl

theorem body_wand (c : Dev nD) (t : Fin cfg0.N) (s : St F) (Q : sProp 𝕄) :
    iprop(hold c (bufs t) (ins m c t) s ∗ (hold c (bufs t) (ins m c t) (leave (headOf t) (blockOf t) (ins m c t) s) -∗ Q))
      ⊢ wp frame (wpE (defs₀ (F := F)) Variants.none (c : Thread nD τ) none) Set.univ (bodyAt0 t) (fun _ => Q) := by
  refine (sep_mono_l (body_at m c t s)).trans ?_
  refine (wp_frame_r _ _ _).trans (wp_mono _ _ _ fun _ => ?_)
  iintro ⟨H, K⟩
  iapply K
  iexact H

def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t)

theorem PhiS_zero (c : Dev nD) (n : ℕ) (hn : n = 0) : PhiS m c n = Pipeline.ΦA spec0 c := by
  subst hn; rfl

theorem PhiS_pos (c : Dev nD) (n : ℕ) (hn : n ≠ 0) : PhiS m c n = iprop(keeps c (track m c n) ∗ (∃ r, prngReg c r)) := by
  cases n with
  | zero => exact absurd rfl hn
  | succ n => rfl

set_option maxHeartbeats 0 in
/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before0, before1, before2, before3, before4, before5, before6, before7]
  rw [show (dats m 0 c).owesAt () t.succ = (dats m 0 c).owesAt () t.castSucc from rfl, Phi_succ,
    leaves0, leaves1, leaves2, leaves3, leaves4, leaves5, leaves6, leaves7, leaves8, leaves9, leaves12]
  by_cases hz : t.val = 0
  · have h0 : headOf t = 0 := Fin.ext ((headOf_val t).trans (by rw [hz]; rfl))
    have b0 : blockOf t = 0 := Fin.ext ((blockOf_val t).trans (by rw [hz]; rfl))
    have hl : blockOf t ≠ 7 := by rw [b0]; decide
    · skip
      rw [Phi_castSucc, PhiS_zero m c _ hz, phiA_eq]; unfold keepsAny
      rw [leaves10_idle m c t hl, leaves11_idle m c t hl]
      iintro ⟨⟨⟨⟨%e16, H16⟩, ⟨%e17, H17⟩, ⟨%e18, H18⟩, ⟨%e19, H19⟩, ⟨%e20, H20⟩, ⟨%e21, H21⟩⟩, Hg⟩, Ho, ⟨%d0, H3⟩, ⟨%d1, H4⟩, ⟨%d2, H5⟩, ⟨%d3, H6⟩, ⟨%d4, H7⟩, ⟨%d5, H8⟩, ⟨%d6, H9⟩, ⟨%d7, H10⟩, ⟨%d8, H11⟩, ⟨%d9, H12⟩, ⟨%d10, H13⟩, ⟨%d11, H14⟩, ⟨%d12, H15⟩⟩
      have hs : leave (headOf t) (blockOf t) (ins m c t) (⟨((dats m 0 c).before 8 t d8), ((dats m 0 c).before 9 t d9), ((dats m 0 c).before 10 t d10), ((dats m 0 c).before 11 t d11), ((dats m 0 c).before 12 t d12), e16, e17, e18, e19, e20, e21⟩ : St F) = ({ track m c (t.val + 1) with odq := ((dats m 0 c).before 10 t d10), odf := ((dats m 0 c).before 11 t d11) } : St F) := by
        rw [track_succ]; exact (by rw [h0, b0]; exact leave_first (F := F) _ _ _ : _ = leave (headOf t) (blockOf t) (ins m c t) (outs (track m c t.val) ((dats m 0 c).before 8 t d8) ((dats m 0 c).before 9 t d9) ((dats m 0 c).before 10 t d10) ((dats m 0 c).before 11 t d11))).trans (leave_before hl _ _ _ _ _ _)
      iapply (body_wand m c t (⟨((dats m 0 c).before 8 t d8), ((dats m 0 c).before 9 t d9), ((dats m 0 c).before 10 t d10), ((dats m 0 c).before 11 t d11), ((dats m 0 c).before 12 t d12), e16, e17, e18, e19, e20, e21⟩ : St F) _)
      rw [hs]
      isplitl [H3 H4 H5 H6 H7 H8 H9 H10 H11 H12 H13 H14 H15 H16 H17 H18 H19 H20 H21]
      · unfold hold bufs ins
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexact H21
      unfold hold bufs ins
      iintro ⟨H3, H4, H5, H6, H7, H8, H9, H10, H11, H12, H13, H14, H15, H16, H17, H18, H19, H20, H21⟩
      isplitl [H16 H17 H18 H19 H20 H21 Hg]
      · isplitr [Hg]
        · unfold keeps
          isplitl [H16]; · iexact H16
          isplitl [H17]; · iexact H17
          isplitl [H18]; · iexact H18
          isplitl [H19]; · iexact H19
          isplitl [H20]; · iexact H20
          iexact H21
        iexact Hg
      isplitl [Ho]; · iexact Ho
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists d10; iexact H13
      isplitl [H14]; · iexists d11; iexact H14
      iexact H15
  · by_cases hl : blockOf t = 7
    · skip
      rw [Phi_castSucc, PhiS_pos m c _ hz]; unfold keeps
      rw [leaves10 m c t hl, leaves11 m c t hl]
      iintro ⟨⟨⟨H16, H17, H18, H19, H20, H21⟩, Hg⟩, Ho, ⟨%d0, H3⟩, ⟨%d1, H4⟩, ⟨%d2, H5⟩, ⟨%d3, H6⟩, ⟨%d4, H7⟩, ⟨%d5, H8⟩, ⟨%d6, H9⟩, ⟨%d7, H10⟩, ⟨%d8, H11⟩, ⟨%d9, H12⟩, ⟨%d10, H13⟩, ⟨%d11, H14⟩, ⟨%d12, H15⟩⟩
      rw [before12 m c t hz d12]
      have hs : leave (headOf t) (blockOf t) (ins m c t) (outs (track m c t.val) ((dats m 0 c).before 8 t d8) ((dats m 0 c).before 9 t d9) ((dats m 0 c).before 10 t d10) ((dats m 0 c).before 11 t d11)) = track m c (t.val + 1) := by
        rw [track_succ]; exact (leave_last hl _ _ _ _ _ _)
      iapply (body_wand m c t (outs (track m c t.val) ((dats m 0 c).before 8 t d8) ((dats m 0 c).before 9 t d9) ((dats m 0 c).before 10 t d10) ((dats m 0 c).before 11 t d11)) _)
      rw [hs]
      isplitl [H3 H4 H5 H6 H7 H8 H9 H10 H11 H12 H13 H14 H15 H16 H17 H18 H19 H20 H21]
      · unfold hold bufs ins
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexact H21
      unfold hold bufs ins
      iintro ⟨H3, H4, H5, H6, H7, H8, H9, H10, H11, H12, H13, H14, H15, H16, H17, H18, H19, H20, H21⟩
      isplitl [H16 H17 H18 H19 H20 H21 Hg]
      · isplitr [Hg]
        · skip
          isplitl [H16]; · iexact H16
          isplitl [H17]; · iexact H17
          isplitl [H18]; · iexact H18
          isplitl [H19]; · iexact H19
          isplitl [H20]; · iexact H20
          iexact H21
        iexact Hg
      isplitl [Ho]; · iexact Ho
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · skip
      rw [Phi_castSucc, PhiS_pos m c _ hz]; unfold keeps
      rw [leaves10_idle m c t hl, leaves11_idle m c t hl]
      iintro ⟨⟨⟨H16, H17, H18, H19, H20, H21⟩, Hg⟩, Ho, ⟨%d0, H3⟩, ⟨%d1, H4⟩, ⟨%d2, H5⟩, ⟨%d3, H6⟩, ⟨%d4, H7⟩, ⟨%d5, H8⟩, ⟨%d6, H9⟩, ⟨%d7, H10⟩, ⟨%d8, H11⟩, ⟨%d9, H12⟩, ⟨%d10, H13⟩, ⟨%d11, H14⟩, ⟨%d12, H15⟩⟩
      rw [before12 m c t hz d12]
      have hs : leave (headOf t) (blockOf t) (ins m c t) (outs (track m c t.val) ((dats m 0 c).before 8 t d8) ((dats m 0 c).before 9 t d9) ((dats m 0 c).before 10 t d10) ((dats m 0 c).before 11 t d11)) = ({ track m c (t.val + 1) with odq := ((dats m 0 c).before 10 t d10), odf := ((dats m 0 c).before 11 t d11) } : St F) := by
        rw [track_succ]; exact (leave_before hl _ _ _ _ _ _)
      iapply (body_wand m c t (outs (track m c t.val) ((dats m 0 c).before 8 t d8) ((dats m 0 c).before 9 t d9) ((dats m 0 c).before 10 t d10) ((dats m 0 c).before 11 t d11)) _)
      rw [hs]
      isplitl [H3 H4 H5 H6 H7 H8 H9 H10 H11 H12 H13 H14 H15 H16 H17 H18 H19 H20 H21]
      · unfold hold bufs ins
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexact H21
      unfold hold bufs ins
      iintro ⟨H3, H4, H5, H6, H7, H8, H9, H10, H11, H12, H13, H14, H15, H16, H17, H18, H19, H20, H21⟩
      isplitl [H16 H17 H18 H19 H20 H21 Hg]
      · isplitr [Hg]
        · skip
          isplitl [H16]; · iexact H16
          isplitl [H17]; · iexact H17
          isplitl [H18]; · iexact H18
          isplitl [H19]; · iexact H19
          isplitl [H20]; · iexact H20
          iexact H21
        iexact Hg
      isplitl [Ho]; · iexact Ho
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists d10; iexact H13
      isplitl [H14]; · iexists d11; iexact H14
      iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 256 := N_0; omega), phiA_eq]
  unfold keeps keepsAny
  iintro ⟨⟨H0, H1, H2, H3, H4, H5⟩, Hg⟩
  isplitr [Hg]
  · skip
    isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

/-! ## The run -/

set_option backward.isDefEq.respectTransparency.types false in
/-- Every execution of @main ends with the arrays at what the points leave, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The argument arrays end as they began, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Fox

end
-- ==== Proof.Math.lean ====
/-
  The mathematics of one attention head's gradients, over the real numbers.

  `Head` holds a head's queries, keys, values, output gradients, the running totals of its log forget gates, the scale,
  and one number per query that its row of scores is shifted by before the exponential. The gradients of the scores are
  the same whichever shift is taken and whether the softmax's own derivative is taken in one step (`ds`) or through the
  quotient (`ref_ds`).
-/
module

public import Mathlib.Analysis.SpecialFunctions.Log.Basic
public import Mathlib.Data.EReal.Inv
public import Mathlib.Algebra.BigOperators.Fin
public import Mathlib.Algebra.BigOperators.Field

@[expose] public section

noncomputable section

namespace Cert.Fox

/-- What one head of the attention is given. -/
structure Head where
  q : Fin 4096 → Fin 128 → ℝ
  k : Fin 4096 → Fin 128 → ℝ
  v : Fin 4096 → Fin 128 → ℝ
  g : Fin 4096 → Fin 128 → ℝ
  f : Fin 4096 → ℝ
  c : ℝ
  M : Fin 4096 → ℝ

namespace Head

variable (D : Head)

/-- The score of query `i` against key `j`. -/
def s (i j : Fin 4096) : ℝ := (∑ d, D.q i d * D.k j d) * D.c + (D.f i - D.f j)
/-- Its exponential, shifted; nothing for a key after the query. -/
def e (i j : Fin 4096) : ℝ := if j ≤ i then Real.exp (D.s i j - D.M i) else 0
def z (i : Fin 4096) : ℝ := ∑ j, D.e i j
/-- The attention weight. -/
def p (i j : Fin 4096) : ℝ := D.e i j / D.z i
/-- The gradient at the weight. -/
def dp (i j : Fin 4096) : ℝ := ∑ d, D.g i d * D.v j d
/-- The row total the softmax's derivative subtracts: the output against its gradient. -/
def Δ (i : Fin 4096) : ℝ := ∑ d, D.g i d * ∑ j, D.p i j * D.v j d
/-- The gradient at the score. -/
def ds (i j : Fin 4096) : ℝ := D.p i j * (D.dp i j - D.Δ i)

/-- The gradients of the key, the value, the query and the two ends of a forget sum's difference. -/
def dk (j : Fin 4096) (b : Fin 128) : ℝ := (∑ i, D.ds i j * D.q i b) * D.c
def dv (j : Fin 4096) (b : Fin 128) : ℝ := ∑ i, D.p i j * D.g i b
def dq (i : Fin 4096) (b : Fin 128) : ℝ := (∑ j, D.k j b * D.ds i j) * D.c
def dfq (i : Fin 4096) : ℝ := ∑ j, D.ds i j
def dfk (j : Fin 4096) : ℝ := -∑ i, D.ds i j

theorem e_nonneg (i j : Fin 4096) : 0 ≤ D.e i j := by unfold e; split <;> positivity

theorem z_pos (i : Fin 4096) : 0 < D.z i :=
  Finset.sum_pos' (fun j _ => D.e_nonneg i j) ⟨i, Finset.mem_univ i, by simp [e, Real.exp_pos]⟩

theorem p_late {i j : Fin 4096} (h : i < j) : D.p i j = 0 := by simp [p, e, not_le.2 h]

theorem ds_late {i j : Fin 4096} (h : i < j) : D.ds i j = 0 := by simp [ds, D.p_late h]

/-- The weight in one exponential. -/
theorem exp_sub {i j : Fin 4096} (h : j ≤ i) : Real.exp (D.s i j - (D.M i + Real.log (D.z i))) = D.p i j := by
  have hz := D.z_pos i
  rw [← sub_sub, Real.exp_sub, Real.exp_log hz, p, e, if_pos h]

theorem Δ_eq (i : Fin 4096) : D.Δ i = ∑ j, D.dp i j * D.p i j := by
  simp only [Δ, dp, Finset.mul_sum, Finset.sum_mul]
  rw [Finset.sum_comm]
  exact Finset.sum_congr rfl fun j _ => Finset.sum_congr rfl fun d _ => by ring

/-- The gradient at the score through the quotient `e / z`. -/
theorem ref_ds (i j : Fin 4096) :
    (D.dp i j / D.z i + -∑ l, (D.dp i l * (1 / (D.z i * D.z i))) * D.e i l) * D.e i j = D.ds i j := by
  have hz := (D.z_pos i).ne'
  have h : ∑ l, (D.dp i l * (1 / (D.z i * D.z i))) * D.e i l = D.Δ i / D.z i := by
    rw [Δ_eq, Finset.sum_div]
    refine Finset.sum_congr rfl fun l _ => ?_
    unfold p
    field_simp
  rw [h, ds, p]
  field_simp
  ring

end Head

/-- The extended real of a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Position `r` of block `n`. -/
def pos (n : Fin 8) (r : Fin 512) : Fin 4096 := ⟨512 * n.val + r.val, by omega⟩

/-- A sum over the positions, block by block. -/
theorem sum_pos {M : Type*} [AddCommMonoid M] (f : Fin 4096 → M) : ∑ i, f i = ∑ n : Fin 8, ∑ r : Fin 512, f (pos n r) := by
  rw [← Fintype.sum_prod_type' (f := fun n r => f (pos n r))]
  refine (Equiv.sum_comp (finProdFinEquiv (m := 8) (n := 512)) f).symm.trans (Finset.sum_congr rfl fun x _ => ?_)
  congr 1
  apply Fin.ext
  simp [finProdFinEquiv, pos]
  omega

/-- The block and the place in it of a position. -/
theorem pos_eta (i : Fin 4096) : pos ⟨i.val / 512, by omega⟩ ⟨i.val % 512, by omega⟩ = i := Fin.ext (by simp [pos]; omega)

theorem pos_lt {n x : Fin 8} (h : n < x) (r a : Fin 512) : pos n r < pos x a := by
  simp only [pos, Fin.lt_def] at *; omega

theorem pos_le {n x : Fin 8} (r a : Fin 512) : pos x a ≤ pos n r ↔ x < n ∨ (x = n ∧ a ≤ r) := by
  simp only [pos, Fin.lt_def, Fin.le_def, Fin.ext_iff] at *; omega

end Cert.Fox

end

end
-- ==== Proof.Given.lean ====
/-
  What the arguments hold, as numbers: one `Head` for each of the heads, read off the three arrays the programs are given.
-/
module

public import proofs.«01_k».proof.Proof.Math
public import proofs.«01_k».proof.Proof.Gen.ReferenceIdeal.Read
public import Idealize.ShloMosaic.Lib.ValueIdx

@[expose] public section

set_option maxRecDepth 16384

noncomputable section

namespace Cert.Fox

open Idealize.ShloMosaic Idealize.ShloMosaic.TcCoe Idealize.ShloMosaic.ValueIdx
open Cert.ReferenceIdeal Cert.ReferenceIdeal.Gen Cert.ReferenceIdeal.Read

/-- Column `d` of head `h` among the queries, the keys and the values of the projection, and of an array of one part. -/
def colq (h : Fin 32) (d : Fin 128) : Fin 16384 := ⟨128 * h.val + d.val, by omega⟩
def colk (h : Fin 32) (d : Fin 128) : Fin 16384 := ⟨4096 + (128 * h.val + d.val), by omega⟩
def colv (h : Fin 32) (d : Fin 128) : Fin 16384 := ⟨8192 + (128 * h.val + d.val), by omega⟩
def colg (h : Fin 32) (d : Fin 128) : Fin 4096 := ⟨128 * h.val + d.val, by omega⟩
def colf (h : Fin 32) : Fin 128 := ⟨h.val, by omega⟩

variable (x0 : S4096x16384.Idx → EReal) (x1 : S4096x4096.Idx → EReal) (x2 : S4096x128.Idx → EReal)

/-- The arrays hold the heads' numbers. -/
structure Given (D : Fin 32 → Head) : Prop where
  c : ∀ h, (Ideal.ofBits .f32 0x3DB504F3#32 : EReal) = ((D h).c : EReal)
  q : ∀ i h d, x0 (ix2 i (colq h d)) = (((D h).q i d : ℝ) : EReal)
  k : ∀ i h d, x0 (ix2 i (colk h d)) = (((D h).k i d : ℝ) : EReal)
  v : ∀ i h d, x0 (ix2 i (colv h d)) = (((D h).v i d : ℝ) : EReal)
  g : ∀ i h d, x1 (ix2 i (colg h d)) = (((D h).g i d : ℝ) : EReal)
  f : ∀ i h, x2 (ix2 i (colf h)) = (((D h).f i : ℝ) : EReal)

variable {x0 x1 x2} {D : Fin 32 → Head}

/-- The queries, the keys, the values and the output's gradient, each head's own. -/
theorem q_apply (G : Given x0 x1 x2 D) (y : S32x4096x128.Idx) : val_main_v6 (F := Ideal) x0 y = (((D (y 0)).q (y 1) (y 2) : ℝ) : EReal) := by
  rw [val_main_v6_apply, val_main_v5_apply, val_main_v4_apply, val_main_v0_apply]
  refine Eq.trans ?_ (G.q (y 1) (y 0) (y 2))
  have h0 : (y 0).val < 32 := (y 0).isLt
  have h1 : (y 1).val < 4096 := (y 1).isLt
  have h2 : (y 2).val < 128 := (y 2).isLt
  refine congrArg x0 (funext fun a => Fin.ext ?_)
  match a with
  | ⟨0, _⟩ => show (((y 1).val * 32 + (y 0).val) * 128 + (y 2).val) / 4096 = (y 1).val; omega
  | ⟨1, _⟩ => show (((y 1).val * 32 + (y 0).val) * 128 + (y 2).val) % 4096 = 128 * (y 0).val + (y 2).val; omega

theorem k_apply (G : Given x0 x1 x2 D) (y : S32x4096x128.Idx) : val_main_v9 (F := Ideal) x0 y = (((D (y 0)).k (y 1) (y 2) : ℝ) : EReal) := by
  rw [val_main_v9_apply, val_main_v8_apply, val_main_v7_apply, val_main_v1_apply]
  refine Eq.trans ?_ (G.k (y 1) (y 0) (y 2))
  have h0 : (y 0).val < 32 := (y 0).isLt
  have h1 : (y 1).val < 4096 := (y 1).isLt
  have h2 : (y 2).val < 128 := (y 2).isLt
  refine congrArg x0 (funext fun a => Fin.ext ?_)
  match a with
  | ⟨0, _⟩ => show (((y 1).val * 32 + (y 0).val) * 128 + (y 2).val) / 4096 = (y 1).val; omega
  | ⟨1, _⟩ => show 4096 + (((y 1).val * 32 + (y 0).val) * 128 + (y 2).val) % 4096 = 4096 + (128 * (y 0).val + (y 2).val); omega

theorem v_apply (G : Given x0 x1 x2 D) (y : S32x4096x128.Idx) : val_main_v63 (F := Ideal) x0 y = (((D (y 0)).v (y 1) (y 2) : ℝ) : EReal) := by
  rw [val_main_v63_apply, val_main_v62_apply, val_main_v61_apply, val_main_v2_apply]
  refine Eq.trans ?_ (G.v (y 1) (y 0) (y 2))
  have h0 : (y 0).val < 32 := (y 0).isLt
  have h1 : (y 1).val < 4096 := (y 1).isLt
  have h2 : (y 2).val < 128 := (y 2).isLt
  refine congrArg x0 (funext fun a => Fin.ext ?_)
  match a with
  | ⟨0, _⟩ => show (((y 1).val * 32 + (y 0).val) * 128 + (y 2).val) / 4096 = (y 1).val; omega
  | ⟨1, _⟩ => show 8192 + (((y 1).val * 32 + (y 0).val) * 128 + (y 2).val) % 4096 = 8192 + (128 * (y 0).val + (y 2).val); omega

theorem g_apply (G : Given x0 x1 x2 D) (y : S32x4096x128.Idx) : val_main_v70 (F := Ideal) x1 y = (((D (y 0)).g (y 1) (y 2) : ℝ) : EReal) := by
  rw [val_main_v70_apply, val_main_v69_apply, val_main_v68_apply]
  refine Eq.trans ?_ (G.g (y 1) (y 0) (y 2))
  have h0 : (y 0).val < 32 := (y 0).isLt
  have h1 : (y 1).val < 4096 := (y 1).isLt
  have h2 : (y 2).val < 128 := (y 2).isLt
  refine congrArg x1 (funext fun a => Fin.ext ?_)
  match a with
  | ⟨0, _⟩ => show (((y 1).val * 32 + (y 0).val) * 128 + (y 2).val) / 4096 = (y 1).val; omega
  | ⟨1, _⟩ => show (((y 1).val * 32 + (y 0).val) * 128 + (y 2).val) % 4096 = 128 * (y 0).val + (y 2).val; omega

/-- The running totals of the log forget gates, for the query's end and for the key's. -/
theorem fi_apply (G : Given x0 x1 x2 D) (y : S32x4096x4096.Idx) : val_main_v19 (F := Ideal) x2 y = (((D (y 0)).f (y 1) : ℝ) : EReal) := by
  rw [val_main_v19_apply, val_main_v16_apply, val_main_v15_apply, val_main_v3_apply]
  refine Eq.trans ?_ (G.f (y 1) (y 0))
  refine congrArg x2 (funext fun a => Fin.ext ?_)
  match a with
  | ⟨0, _⟩ => rfl
  | ⟨1, _⟩ => rfl

theorem fj_apply (G : Given x0 x1 x2 D) (y : S32x4096x4096.Idx) : val_main_v20 (F := Ideal) x2 y = (((D (y 0)).f (y 2) : ℝ) : EReal) := by
  rw [val_main_v20_apply, val_main_v18_apply, val_main_v17_apply, val_main_v3_apply]
  refine Eq.trans ?_ (G.f (y 2) (y 0))
  refine congrArg x2 (funext fun a => Fin.ext ?_)
  match a with
  | ⟨0, _⟩ => rfl
  | ⟨1, _⟩ => rfl

/-- The scores. -/
theorem s_apply (G : Given x0 x1 x2 D) (y : S32x4096x4096.Idx) : val_main_v22 (F := Ideal) x0 x2 y = (((D (y 0)).s (y 1) (y 2) : ℝ) : EReal) := by
  rw [val_main_v22_apply, val_main_v21_apply, val_main_v14_apply, val_main_v12_apply, val_main_v11_apply, val_main_v10_apply,
    val_main_v13_apply, val_main_cst_apply, fi_apply G, fj_apply G]
  simp only [q_apply G, k_apply G]
  simp only [Ideal.addf_def, Ideal.subf_def, Ideal.mulf_def, ← EReal.coe_mul, ← coe_sum, ← EReal.coe_sub]
  show (((∑ d, (D (y 0)).q (y 1) d * (D (y 0)).k (y 2) d : ℝ) : EReal) * Ideal.ofBits .f32 0x3DB504F3#32) + _ = _
  rw [G.c (y 0), ← EReal.coe_mul, ← EReal.coe_add]
  rfl

theorem sle_iff (j i : Fin 4096) : IntOp.cmpi .sle (BitVec.ofNat 32 j.val) (BitVec.ofNat 32 i.val) = 1#1 ↔ j ≤ i := by
  have ha : (BitVec.ofNat 32 j.val).toInt = j.val := by
    rw [BitVec.toInt_eq_toNat_of_lt] <;> simp <;> omega
  have hr : (BitVec.ofNat 32 i.val).toInt = i.val := by
    rw [BitVec.toInt_eq_toNat_of_lt] <;> simp <;> omega
  simp only [IntOp.cmpi, BitVec.sle, ha, hr, Fin.le_def]
  by_cases h : j.val ≤ i.val
  · simp [h]
  · simp [h]

/-- What the mask keeps: a key no later than the query. -/
theorem keep_apply {α : Type} (y : S32x4096x4096.Idx) (a b : α) :
    Scalar.select (val_main_v30_1 (F := Ideal) y) a b = if (show Fin 4096 from y 2) ≤ y 1 then a else b := by
  rw [val_main_v30_1_apply, val_main_v29_apply, val_main_v28_apply, val_main_v26_apply, val_main_v27_apply, val_main_v24_apply,
    val_main_v25_apply, val_main_v23_apply, val_main_v23_apply]
  show Scalar.select (IntOp.cmpi .sle (BitVec.ofNat 32 (show Fin 4096 from y 2).val) (BitVec.ofNat 32 (show Fin 4096 from y 1).val)) a b = _
  by_cases h : (show Fin 4096 from y 2) ≤ y 1
  · rw [(sle_iff _ _).2 h, if_pos h, select_one]
  · rw [eq_zero_of_ne_one (fun e => h ((sle_iff _ _).1 e)), if_neg h, select_zero]

/-- The masked scores. -/
theorem masked_apply (G : Given x0 x1 x2 D) (y : S32x4096x4096.Idx) :
    val_main_v30_0 (F := Ideal) x0 x2 y = if (show Fin 4096 from y 2) ≤ y 1 then (((D (y 0)).s (y 1) (y 2) : ℝ) : EReal) else ⊥ := by
  rw [val_main_v30_0_apply, keep_apply, s_apply G, val_main_call0_v2_apply]
  rfl

/-! ## The largest score of a row -/

theorem foldl_max_lt {ι : Type*} (x : ι → EReal) (l : List ι) (b : EReal) (hb : b < ⊤) (hx : ∀ n, x n < ⊤) :
    l.foldl (fun r n => max r (x n)) b < ⊤ := by
  induction l generalizing b with
  | nil => exact hb
  | cons a l ih => exact ih _ (max_lt hb (hx a))

theorem le_foldl_max_init {ι : Type*} (x : ι → EReal) (l : List ι) (b : EReal) : b ≤ l.foldl (fun r n => max r (x n)) b := by
  induction l generalizing b with
  | nil => exact le_rfl
  | cons a l ih => exact (le_max_left _ _).trans (ih _)

theorem le_foldl_max {ι : Type*} (x : ι → EReal) (l : List ι) (b : EReal) {n : ι} (h : n ∈ l) : x n ≤ l.foldl (fun r n => max r (x n)) b := by
  induction l generalizing b with
  | nil => cases h
  | cons a l ih =>
    rcases List.mem_cons.1 h with rfl | h
    · exact (le_max_right _ _).trans (le_foldl_max_init x l _)
    · exact ih _ h

/-- The row's largest score is a number: every score is one or is masked, and the diagonal is never masked. -/
theorem top_real (G : Given x0 x1 x2 D) (y : S32x4096.Idx) :
    val_main_v31 (F := Ideal) x0 x2 y = (((val_main_v31 (F := Ideal) x0 x2 y).toReal : ℝ) : EReal) := by
  refine (EReal.coe_toReal (ne_of_lt ?_) (ne_of_gt ?_)).symm
  · unfold val_main_v31 Host.reduce
    refine foldl_max_lt _ _ _ (by show (Ideal.ofBits .f32 0xFF800000#32 : EReal) < ⊤; exact bot_lt_top) fun n => ?_
    rw [masked_apply G]
    split
    · exact EReal.coe_lt_top _
    · exact bot_lt_top
  · have hd : (⊥ : EReal) < val_main_v30_0 (F := Ideal) x0 x2 (ix3 (y 0) (y 1) (y 1)) := by
      rw [masked_apply G, if_pos (le_refl (show Fin 4096 from y 1))]
      exact EReal.bot_lt_coe _
    refine hd.trans_le ?_
    unfold val_main_v31 Host.reduce
    have := le_foldl_max (fun n => val_main_v30_0 (F := Ideal) x0 x2 (S32x4096x4096.rowMajor.symm n))
      ((List.finRange S32x4096x4096.numel).filter fun n => reducesTo_S32x4096x4096_S32x4096_d2.drop (S32x4096x4096.rowMajor.symm n) = y)
      (val_main_cst_1 (F := Ideal) (Shape.Idx.first h_S_)) (n := S32x4096x4096.rowMajor (ix3 (y 0) (y 1) (y 1)))
      (List.mem_filter.2 ⟨List.mem_finRange _, by
        rw [decide_eq_true_eq, Equiv.symm_apply_apply]
        funext b
        match b with
        | ⟨0, _⟩ => rfl
        | ⟨1, _⟩ => rfl⟩)
    rw [Equiv.symm_apply_apply] at this
    exact this

end Cert.Fox

end

end
-- ==== Proof.Reference.lean ====
/-
  The reference's results, as numbers: the gradients of every head by the formulas of `Head`.
-/
module

public import proofs.«01_k».proof.Proof.Given
public import Idealize.ShloMosaic.Lib.KernelVsHost
public import Idealize.ShloMosaic.Lib.IdealHost

@[expose] public section

set_option maxRecDepth 16384

noncomputable section

namespace Cert.Fox

open Idealize.ShloMosaic Idealize.ShloMosaic.TcCoe Idealize.ShloMosaic.ValueIdx
open Cert.ReferenceIdeal Cert.ReferenceIdeal.Gen Cert.ReferenceIdeal.Read

theorem div_real (a : ℝ) {b : ℝ} (hb : b ≠ 0) : Ideal.div (a : EReal) (b : EReal) = ((a / b : ℝ) : EReal) := by
  rw [Ideal.div_coe hb, ← EReal.coe_mul, div_eq_mul_inv]
  congr 2
  exact one_div b

/-- The bits of one. -/
theorem one_bits : (Ideal.ofBits .f32 0x3F800000#32 : EReal) = ((1 : ℝ) : EReal) := by
  rw [Ideal.ofBits_one_f32, EReal.coe_one]

theorem exp_masked (D : Head) (i j : Fin 4096) :
    Ideal.exp ((if j ≤ i then ((D.s i j : ℝ) : EReal) else ⊥) - ((D.M i : ℝ) : EReal)) = ((D.e i j : ℝ) : EReal) := by
  unfold Head.e
  split
  · rw [← EReal.coe_sub]; rfl
  · rw [EReal.bot_sub]; rfl

theorem ds_masked (D : Head) (i j : Fin 4096) :
    (if j ≤ i then (Ideal.div ((D.dp i j : ℝ) : EReal) ((D.z i : ℝ) : EReal)
      + ((-∑ l, (D.dp i l * (1 / (D.z i * D.z i))) * D.e i l : ℝ) : EReal)) * ((D.e i j : ℝ) : EReal) else (0 : EReal)) = ((D.ds i j : ℝ) : EReal) := by
  split
  · rw [div_real _ (D.z_pos i).ne', ← EReal.coe_add, ← EReal.coe_mul, D.ref_ds]
  · rename_i h
    rw [D.ds_late (not_le.1 h), EReal.coe_zero]

variable {x0 : S4096x16384.Idx → EReal} {x1 : S4096x4096.Idx → EReal} {x2 : S4096x128.Idx → EReal} {D : Fin 32 → Head}

/-- Each row is shifted by its largest score. -/
def Tops (x0 : S4096x16384.Idx → EReal) (x2 : S4096x128.Idx → EReal) (D : Fin 32 → Head) : Prop :=
  ∀ y : S32x4096.Idx, val_main_v31 (F := Ideal) x0 x2 y = (((D (y 0)).M (y 1) : ℝ) : EReal)

variable (G : Given x0 x1 x2 D) (T : Tops x0 x2 D)
include G T

theorem e_apply (y : S32x4096x4096.Idx) : val_main_v51 (F := Ideal) x0 x2 y = (((D (y 0)).e (y 1) (y 2) : ℝ) : EReal) := by
  rw [val_main_v51_apply, val_main_v50_apply, masked_apply G, val_main_v49_apply, val_main_v48_apply, val_main_v38_apply, val_main_v37_apply, T]
  refine Eq.trans (congrArg Ideal.exp (congrArg (fun t : EReal => (if (show Fin 4096 from y 2) ≤ y 1 then (((D (y 0)).s (y 1) (y 2) : ℝ) : EReal) else ⊥) - t) ?_)) (exp_masked (D (y 0)) (y 1) (y 2))
  exact max_eq_right bot_le

theorem z_apply (y : S32x4096.Idx) : val_main_v52 (F := Ideal) x0 x2 y = (((D (y 0)).z (y 1) : ℝ) : EReal) := by
  rw [val_main_v52_apply]
  simp only [e_apply G T]
  rw [← coe_sum]
  refine Eq.trans (congrArg (· + _) Ideal.ofBits_zero_f32) ?_
  rw [zero_add]
  rfl

theorem zc_apply (y : S32x4096x1.Idx) : val_main_v53 (F := Ideal) x0 x2 y = (((D (y 0)).z (y 1) : ℝ) : EReal) := by
  rw [val_main_v53_apply, z_apply G T]
  rfl

theorem p_apply (y : S32x4096x4096.Idx) : val_main_v60 (F := Ideal) x0 x2 y = (((D (y 0)).p (y 1) (y 2) : ℝ) : EReal) := by
  rw [val_main_v60_apply, val_main_v59_apply, val_main_v55_apply, e_apply G T, val_main_v54_apply, zc_apply G T]
  exact div_real _ ((D (y 0)).z_pos (y 1)).ne'

omit T in
theorem dp_apply (y : S32x4096x4096.Idx) : val_main_v78 (F := Ideal) x0 x1 y = (((D (y 0)).dp (y 1) (y 2) : ℝ) : EReal) := by
  rw [val_main_v78_apply, val_main_v77_apply, val_main_v73_apply]
  simp only [g_apply G, v_apply G, ← EReal.coe_mul, ← coe_sum]
  rfl

/-- The row total the quotient's denominator takes. -/
theorem w_apply (y : S32x4096.Idx) : val_main_v82 (F := Ideal) x0 x1 x2 y
    = ((∑ l, ((D (y 0)).dp (y 1) l * (1 / ((D (y 0)).z (y 1) * (D (y 0)).z (y 1)))) * (D (y 0)).e (y 1) l : ℝ) : EReal) := by
  have h : ∀ l : S32x4096x4096.Idx, val_main_v81 (F := Ideal) x0 x1 x2 l
      = ((((D (l 0)).dp (l 1) (l 2) * (1 / ((D (l 0)).z (l 1) * (D (l 0)).z (l 1)))) * (D (l 0)).e (l 1) (l 2) : ℝ) : EReal) := fun l => by
    rw [val_main_v81_apply, val_main_v80_apply, dp_apply G, e_apply G T, val_main_v79_apply, val_main_v58_apply, val_main_v57_apply,
      val_main_v56_apply, zc_apply G T, val_main_cst_10_apply]
    have hz := ((D (l 0)).z_pos (l 1)).ne'
    refine Eq.trans (congrArg (fun t => _ * t * _) ((congrArg₂ Ideal.div one_bits (EReal.coe_mul _ _).symm).trans (div_real 1 (mul_ne_zero hz hz)))) ?_
    rw [← EReal.coe_mul, ← EReal.coe_mul]
    rfl
  rw [val_main_v82_apply]
  simp only [h]
  rw [← coe_sum]
  refine Eq.trans (congrArg (· + _) Ideal.ofBits_zero_f32) ?_
  rw [zero_add]
  rfl

theorem wn_apply (y : S32x4096.Idx) : val_main_v87 (F := Ideal) x0 x1 x2 y
    = ((-∑ l, ((D (y 0)).dp (y 1) l * (1 / ((D (y 0)).z (y 1) * (D (y 0)).z (y 1)))) * (D (y 0)).e (y 1) l : ℝ) : EReal) := by
  have hy : ∀ k, idx_main_v83 (idx_main_v87 y k) = y := fun k => funext fun a => Fin.ext (by
    have h0 : (y 0).val < 32 := (y 0).isLt
    have h1 : (y 1).val < 4096 := (y 1).isLt
    have hk := k.isLt
    match a with
    | ⟨0, _⟩ => show (((y 0).val * 4096 + (y 1).val) * 1 + k.val) / 4096 = (y 0).val; omega
    | ⟨1, _⟩ => show (((y 0).val * 4096 + (y 1).val) * 1 + k.val) % 4096 = (y 1).val; omega)
  rw [val_main_v87_apply, Fin.sum_univ_one, val_main_v84_apply, val_main_v83_apply, hy, w_apply G T]
  refine Eq.trans (congrArg (· + _) Ideal.ofBits_zero_f32) ?_
  rw [zero_add]
  exact (EReal.coe_neg _).symm

theorem ds_apply (y : S32x4096x4096.Idx) : val_main_v91 (F := Ideal) x0 x1 x2 y = (((D (y 0)).ds (y 1) (y 2) : ℝ) : EReal) := by
  rw [val_main_v91_apply, keep_apply, val_main_v90_apply, val_main_v89_apply, val_main_v86_apply, dp_apply G, val_main_v85_apply, zc_apply G T,
    val_main_v88_apply, wn_apply G T, e_apply G T, val_main_call1_v0_apply, val_main_call1_cst_apply]
  refine Eq.trans ?_ (ds_masked (D (y 0)) (y 1) (y 2))
  refine congrArg (ite _ _) Ideal.ofBits_zero_f32

theorem dsc_apply (y : S32x4096x4096.Idx) : val_main_v104 (F := Ideal) x0 x1 x2 y = (((D (y 0)).ds (y 1) (y 2) * (D (y 0)).c : ℝ) : EReal) := by
  rw [val_main_v104_apply, val_main_v103_apply, val_main_v102_apply, ds_apply G T, val_main_v101_apply, val_main_cst_17_apply]
  exact (congrArg (_ * ·) (G.c (y 0))).trans (EReal.coe_mul _ _).symm

/-! ## The results -/

theorem dv_apply (y : S4096x4096.Idx) : val_main_v76 (F := Ideal) x0 x1 x2 y
    = (((D ⟨(show Fin 4096 from y 1).val / 128, by have := (show Fin 4096 from y 1).isLt; omega⟩).dv (y 0)
        ⟨(show Fin 4096 from y 1).val % 128, Nat.mod_lt _ (by decide)⟩ : ℝ) : EReal) := by
  have h0 : (y 0).val < 4096 := (y 0).isLt
  have h1 : (y 1).val < 4096 := (y 1).isLt
  have hy : idx_main_v75 (idx_main_v76 y) = ix3 (⟨(y 1).val / 128, by omega⟩ : Fin 32) (⟨(y 0).val, h0⟩ : Fin 4096) (⟨(y 1).val % 128, by omega⟩ : Fin 128) := funext fun a => Fin.ext (by
    match a with
    | ⟨0, _⟩ => show ((y 0).val * 4096 + (y 1).val) / 128 % 32 = (y 1).val / 128; omega
    | ⟨1, _⟩ => show ((y 0).val * 4096 + (y 1).val) / 4096 = (y 0).val; omega
    | ⟨2, _⟩ => show ((y 0).val * 4096 + (y 1).val) % 128 = (y 1).val % 128; omega)
  rw [val_main_v76_apply, val_main_v75_apply, hy, val_main_v74_apply, val_main_v72_apply, val_main_v71_apply]
  simp only [g_apply G, p_apply G T, ← EReal.coe_mul, ← coe_sum]
  unfold Head.dv
  exact congrArg Real.toEReal (Finset.sum_congr rfl fun i _ => mul_comm _ _)

theorem dk_apply (y : S4096x4096.Idx) : val_main_v109 (F := Ideal) x0 x1 x2 y
    = (((D ⟨(show Fin 4096 from y 1).val / 128, by have := (show Fin 4096 from y 1).isLt; omega⟩).dk (y 0)
        ⟨(show Fin 4096 from y 1).val % 128, Nat.mod_lt _ (by decide)⟩ : ℝ) : EReal) := by
  have h0 : (y 0).val < 4096 := (y 0).isLt
  have h1 : (y 1).val < 4096 := (y 1).isLt
  have hy : idx_main_v108 (idx_main_v109 y) = ix3 (⟨(y 1).val / 128, by omega⟩ : Fin 32) (⟨(y 0).val, h0⟩ : Fin 4096) (⟨(y 1).val % 128, by omega⟩ : Fin 128) := funext fun a => Fin.ext (by
    match a with
    | ⟨0, _⟩ => show ((y 0).val * 4096 + (y 1).val) / 128 % 32 = (y 1).val / 128; omega
    | ⟨1, _⟩ => show ((y 0).val * 4096 + (y 1).val) / 4096 = (y 0).val; omega
    | ⟨2, _⟩ => show ((y 0).val * 4096 + (y 1).val) % 128 = (y 1).val % 128; omega)
  rw [val_main_v109_apply, val_main_v108_apply, hy, val_main_v107_apply, val_main_v105_apply]
  simp only [q_apply G, dsc_apply G T, ← EReal.coe_mul, ← coe_sum]
  unfold Head.dk
  rw [Finset.sum_mul]
  exact congrArg Real.toEReal (Finset.sum_congr rfl fun i _ => mul_right_comm _ _ _)

theorem dq_apply (y : S4096x4096.Idx) : val_main_v113 (F := Ideal) x0 x1 x2 y
    = (((D ⟨(show Fin 4096 from y 0).val / 128, by have := (show Fin 4096 from y 0).isLt; omega⟩).dq (y 1)
        ⟨(show Fin 4096 from y 0).val % 128, Nat.mod_lt _ (by decide)⟩ : ℝ) : EReal) := by
  have h0 : (y 0).val < 4096 := (y 0).isLt
  have h1 : (y 1).val < 4096 := (y 1).isLt
  have hy : idx_main_v111 (idx_main_v112 (idx_main_v113 y)) = ix3 (⟨(y 0).val / 128, by omega⟩ : Fin 32) (⟨(y 1).val, h1⟩ : Fin 4096) (⟨(y 0).val % 128, by omega⟩ : Fin 128) := funext fun a => Fin.ext (by
    match a with
    | ⟨0, _⟩ => show ((y 1).val * 4096 + (y 0).val) / 128 % 32 = (y 0).val / 128; omega
    | ⟨1, _⟩ => show ((y 1).val * 4096 + (y 0).val) / 4096 = (y 1).val; omega
    | ⟨2, _⟩ => show ((y 1).val * 4096 + (y 0).val) % 128 = (y 0).val % 128; omega)
  rw [val_main_v113_apply, val_main_v112_apply, val_main_v111_apply, hy, val_main_v110_apply, val_main_v106_apply]
  simp only [k_apply G, dsc_apply G T, ← EReal.coe_mul, ← coe_sum]
  unfold Head.dq
  rw [Finset.sum_mul]
  refine congrArg Real.toEReal (Finset.sum_congr rfl fun j _ => ?_)
  exact (mul_comm _ _).trans (mul_assoc _ _ _).symm

theorem dfq_apply (y : S32x1x4096.Idx) : val_main_v115 (F := Ideal) x0 x1 x2 y = (((D (y 0)).dfq (y 2) : ℝ) : EReal) := by
  have h0 : (y 0).val < 32 := (y 0).isLt
  have h2 : (y 2).val < 4096 := (y 2).isLt
  have hy : ∀ k, idx_main_v93 (idx_main_v99 (idx_main_v100 (idx_main_v114 (idx_main_v115 y))) k) = ix2 (⟨(y 0).val, h0⟩ : Fin 32) (⟨(y 2).val, h2⟩ : Fin 4096) := fun k => funext fun a => Fin.ext (by
    have hk := k.isLt
    match a with
    | ⟨0, _⟩ => show (((y 0).val * 4096 + (y 2).val) * 1 + k.val) / 4096 = (y 0).val; omega
    | ⟨1, _⟩ => show (((y 0).val * 4096 + (y 2).val) * 1 + k.val) % 4096 = (y 2).val; omega)
  rw [val_main_v115_apply, val_main_v114_apply, val_main_v100_apply, val_main_v99_apply, Fin.sum_univ_one, val_main_v93_apply, hy, val_main_v92_apply]
  simp only [ds_apply G T]
  rw [← coe_sum]
  refine Eq.trans (congrArg₂ (· + ·) Ideal.ofBits_zero_f32 (congrArg (· + _) Ideal.ofBits_zero_f32)) ?_
  rw [zero_add, zero_add]
  rfl

theorem dfk_apply (y : S4096x32.Idx) : val_main_v98 (F := Ideal) x0 x1 x2 y = (((D (y 1)).dfk (y 0) : ℝ) : EReal) := by
  have h0 : (y 0).val < 4096 := (y 0).isLt
  have h1 : (y 1).val < 32 := (y 1).isLt
  have hy : ∀ k, idx_main_v96 (idx_main_v97 (idx_main_v98 y) k) = ix2 (⟨(y 1).val, h1⟩ : Fin 32) (⟨(y 0).val, h0⟩ : Fin 4096) := fun k => funext fun a => Fin.ext (by
    have hk := k.isLt
    match a with
    | ⟨0, _⟩ => show (((y 1).val * 1 + k.val) * 4096 + (y 0).val) / 4096 = (y 1).val; omega
    | ⟨1, _⟩ => show (((y 1).val * 1 + k.val) * 4096 + (y 0).val) % 4096 = (y 0).val; omega)
  rw [val_main_v98_apply, val_main_v97_apply, Fin.sum_univ_one, val_main_v96_apply, hy, val_main_v95_apply]
  have h : ∀ l : S32x4096x4096.Idx, val_main_v94 (F := Ideal) x0 x1 x2 l = ((-(D (l 0)).ds (l 1) (l 2) : ℝ) : EReal) := fun l => by
    rw [val_main_v94_apply, ds_apply G T]
    exact (EReal.coe_neg _).symm
  simp only [h]
  rw [← coe_sum]
  refine Eq.trans (congrArg₂ (· + ·) Ideal.ofBits_zero_f32 (congrArg (· + _) Ideal.ofBits_zero_f32)) ?_
  rw [zero_add, zero_add]
  unfold Head.dfk
  rw [Finset.sum_neg_distrib]
  rfl

theorem dfp_apply (y : S4096x128.Idx) : val_main_v116 (F := Ideal) x0 x1 x2 y
    = ((if hl : (show Fin 128 from y 1).val < 32 then (D ⟨(show Fin 128 from y 1).val, hl⟩).dfk (y 0) else 0 : ℝ) : EReal) := by
  have h0 : (y 0).val < 4096 := (y 0).isLt
  unfold val_main_v116
  split
  · rename_i hl
    rw [pad_apply_of_inside _ _ _ _ _ _ _ y (ix2 (⟨(y 0).val, h0⟩ : Fin 4096) (⟨(show Fin 128 from y 1).val, hl⟩ : Fin 32)) (fun a => by
      match a with
      | ⟨0, _⟩ => show (y 0).val = 0 + (y 0).val * (0 + 1); omega
      | ⟨1, _⟩ => show (y 1).val = 0 + (y 1).val * (0 + 1); omega), dfk_apply G T]
    rfl
  · rename_i hl
    rw [pad_apply_of_not_inside _ _ _ _ _ _ _ y (1 : Fin 2) (fun h => hl (by
      have := h.2.2
      change ((y 1).val - 0) / (0 + 1) < 32 at this
      show (y 1).val < 32
      omega)), val_main_call2_v0_apply, val_main_c_apply]
    show (((0#32 : BitVec 32).toInt : ℝ) : EReal) = ((0 : ℝ) : EReal)
    simp

end Cert.Fox

end

end
-- ==== Proof.Host.lean ====
/-
  What the kernel is handed besides the arguments: each query's forget sum, its log-sum and its row total, computed from
  the arguments before the kernel starts.
-/
module

public import proofs.«01_k».proof.Proof.Reference
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Fox

open Idealize.ShloMosaic Idealize.ShloMosaic.TcCoe Idealize.ShloMosaic.StableHlo
open Cert.KernelIdeal Cert.KernelIdeal.Gen
open Cert.ReferenceIdeal.Read

/-- The exponentials of the scores `S`, each row shifted by `M`, and what is made of them. -/
def expOf (S : FVec Ideal S32x4096x4096 .f32) (M : FVec Ideal S32x4096 .f32) : FVec Ideal S32x4096x4096 .f32 :=
  Host.exp (subf S (broadcastInDim S32x4096x4096 ![0, 1, 2] bcast_S32x4096x1_S32x4096x4096_0_1_2
    (broadcastInDim S32x4096x1 ![0, 1] bcast_S32x4096_S32x4096x1_0_1 M)))

/-- A row's largest score. -/
def topOf (S : FVec Ideal S32x4096x4096 .f32) : FVec Ideal S32x4096 .f32 :=
  Host.reduce FloatOps.maximumf S (constant S_ .f32 0xFF800000#32) reducesTo_S32x4096x4096_S32x4096_d2 h_S_

/-- A row's sum of exponentials. -/
def sumOf (S : FVec Ideal S32x4096x4096 .f32) (M : FVec Ideal S32x4096 .f32) : FVec Ideal S32x4096 .f32 :=
  Host.reduceAdd (expOf S M) (constant S_ .f32 0x00000000#32) reducesTo_S32x4096x4096_S32x4096_d2 h_S_

/-- The attention's output. -/
def outOf (S : FVec Ideal S32x4096x4096 .f32) (M : FVec Ideal S32x4096 .f32) (v : FVec Ideal S32x4096x128 .f32) : FVec Ideal S32x4096x128 .f32 :=
  Host.dotGeneral dot_S32x4096x4096_S32x4096x128_S32x4096x128_2_1_1_2_0_0 none
    (Host.divf (expOf S M) (broadcastInDim S32x4096x4096 ![0, 1, 2] bcast_S32x4096x1_S32x4096x4096_0_1_2
      (broadcastInDim S32x4096x1 ![0, 1] bcast_S32x4096_S32x4096x1_0_1 (sumOf S M)))) v

/-- A row's log-sum, and its total of the output against the output's gradient. -/
def logOf (S : FVec Ideal S32x4096x4096 .f32) (M : FVec Ideal S32x4096 .f32) : FVec Ideal S32x4096 .f32 :=
  addf M (Host.log (sumOf S M))

def totOf (S : FVec Ideal S32x4096x4096 .f32) (M : FVec Ideal S32x4096 .f32) (v o : FVec Ideal S32x4096x128 .f32) : FVec Ideal S32x4096 .f32 :=
  Host.reduceAdd (mulf o (outOf S M v)) (constant S_ .f32 0x00000000#32) reducesTo_S32x4096x128_S32x4096_d2 h_S_

variable (m : (ℓ : Loc nD τ sig) → Buf (Elt Ideal) ℓ) (c : Dev nD)

theorem V_forget : V m c main_v50 = val_main_v18 (F := Ideal) (m ((c : Thread nD τ).loc main_arg2)) := by
  entry_read
  rfl

/-- The last stretch of the host's operations, from any contents before it. -/
theorem last_log (σ : Valuation τ sig (Elt Ideal)) :
    (StableHlo.after (hostOps0_2 (F := Ideal)) σ (Proc.devRef .tc main_v51) : FVec Ideal S32x1x4096 .f32)
      = broadcastInDim S32x1x4096 ![0, 2] bcast_S32x4096_S32x1x4096_0_2 (logOf (σ (Proc.devRef .tc main_v30)) (topOf (σ (Proc.devRef .tc main_v30)))) := by
  unfold logOf sumOf expOf topOf
  simp only [hostOps0_2]
  after_results_simp

theorem last_tot (σ : Valuation τ sig (Elt Ideal)) :
    (StableHlo.after (hostOps0_2 (F := Ideal)) σ (Proc.devRef .tc main_v52) : FVec Ideal S32x1x4096 .f32)
      = broadcastInDim S32x1x4096 ![0, 2] bcast_S32x4096_S32x1x4096_0_2 (totOf (σ (Proc.devRef .tc main_v30)) (topOf (σ (Proc.devRef .tc main_v30)))
        (σ (Proc.devRef .tc main_v11)) (extf .f32 (transpose S32x4096x128 [1, 0, 2] (shapeCast S4096x32x128 (σ (Proc.devRef .tc main_arg1) : FVec Ideal S4096x4096 .bf16) shapeCasts_S4096x4096_S4096x32x128) transposes_S4096x32x128_S32x4096x128_1_0_2) bitsLt_bf16_f32)) := by
  unfold totOf outOf sumOf expOf topOf
  simp only [hostOps0_2]
  after_results_simp
  rfl

/-- The contents once the masked scores are made. -/
abbrev mid : Valuation τ sig (Elt Ideal) := StableHlo.after (hostOps0 (F := Ideal) ++ hostOps0_1) (fun b => m (c, b))

theorem mid_scores : mid m c main_v30
    = val_main_v30_0 (F := Ideal) (m ((c : Thread nD τ).loc main_arg0)) (m ((c : Thread nD τ).loc main_arg2)) := by
  simp only [mid, hostOps0, hostOps0_1, List.cons_append, List.nil_append]
  after_results_simp
  rfl

theorem mid_values : mid m c main_v11 = val_main_v63 (F := Ideal) (m ((c : Thread nD τ).loc main_arg0)) := by
  simp only [mid, hostOps0, hostOps0_1, List.cons_append, List.nil_append]
  after_results_simp
  rfl

theorem mid_grads : mid m c main_arg1 = m ((c : Thread nD τ).loc main_arg1) := by
  simp only [mid, hostOps0, hostOps0_1, List.cons_append, List.nil_append]
  after_results_simp

theorem V_split (b : DevRef τ sig) : StableHlo.after (List.flatten [hostOps0 (F := Ideal), hostOps0_1, hostOps0_2]) (fun b => m (c, b)) b
    = StableHlo.after hostOps0_2 (mid m c) b := by
  rw [← StableHlo.after_append]
  simp only [List.flatten_cons, List.flatten_nil, List.append_nil, List.append_assoc]

theorem V_log : V m c main_v51 = broadcastInDim S32x1x4096 ![0, 2] bcast_S32x4096_S32x1x4096_0_2
    (logOf (val_main_v30_0 (F := Ideal) (m ((c : Thread nD τ).loc main_arg0)) (m ((c : Thread nD τ).loc main_arg2)))
      (val_main_v31 (F := Ideal) (m ((c : Thread nD τ).loc main_arg0)) (m ((c : Thread nD τ).loc main_arg2)))) := by
  refine (V_split m c _).trans ((last_log _).trans ?_)
  rw [mid_scores]
  rfl

theorem V_tot : V m c main_v52 = broadcastInDim S32x1x4096 ![0, 2] bcast_S32x4096_S32x1x4096_0_2
    (totOf (val_main_v30_0 (F := Ideal) (m ((c : Thread nD τ).loc main_arg0)) (m ((c : Thread nD τ).loc main_arg2)))
      (val_main_v31 (F := Ideal) (m ((c : Thread nD τ).loc main_arg0)) (m ((c : Thread nD τ).loc main_arg2)))
      (val_main_v63 (F := Ideal) (m ((c : Thread nD τ).loc main_arg0)))
      (val_main_v70 (F := Ideal) (m ((c : Thread nD τ).loc main_arg1)))) := by
  refine (V_split m c _).trans ((last_tot _).trans ?_)
  rw [mid_scores, mid_values, mid_grads]
  rfl

/-! ## The same, as numbers -/

open Cert.Fox

variable {x0 : S4096x16384.Idx → EReal} {x1 : S4096x4096.Idx → EReal} {x2 : S4096x128.Idx → EReal} {D : Fin 32 → Head}
variable (G : Given x0 x1 x2 D) (T : Tops x0 x2 D)
include G T

omit G T in
theorem top_eq : val_main_v38 (F := Ideal) x0 x2 = val_main_v31 (F := Ideal) x0 x2 := by
  funext y
  rw [val_main_v38_apply, val_main_v37_apply]
  exact max_eq_right bot_le

omit G T in
theorem sumOf_eq : sumOf (val_main_v30_0 (F := Ideal) x0 x2) (val_main_v31 (F := Ideal) x0 x2) = val_main_v52 (F := Ideal) x0 x2 := by
  unfold val_main_v52 val_main_v51 val_main_v50 val_main_v49 val_main_v48 sumOf expOf
  rw [top_eq]
  generalize val_main_v30_0 (F := Ideal) x0 x2 = S
  generalize val_main_v31 (F := Ideal) x0 x2 = M
  rfl

omit G T in
theorem outOf_eq : outOf (val_main_v30_0 (F := Ideal) x0 x2) (val_main_v31 (F := Ideal) x0 x2) (val_main_v63 (F := Ideal) x0)
    = val_main_v64 (F := Ideal) x0 x2 := by
  unfold val_main_v64 val_main_v60 val_main_v59 val_main_v55 val_main_v54 val_main_v53 outOf
  rw [sumOf_eq]
  unfold val_main_v51 val_main_v50 val_main_v49 val_main_v48 expOf
  rw [top_eq]
  generalize val_main_v52 (F := Ideal) x0 x2 = Z
  generalize val_main_v30_0 (F := Ideal) x0 x2 = S
  generalize val_main_v31 (F := Ideal) x0 x2 = M
  generalize val_main_v63 (F := Ideal) x0 = v
  rfl

theorem o_apply (y : S32x4096x128.Idx) : val_main_v64 (F := Ideal) x0 x2 y = ((∑ j, (D (y 0)).p (y 1) j * (D (y 0)).v j (y 2) : ℝ) : EReal) := by
  rw [val_main_v64_apply]
  simp only [p_apply G T, v_apply G, ← EReal.coe_mul, ← coe_sum]
  rfl

omit G T in
theorem log_add (M Z : FVec Ideal S32x4096 .f32) (y : S32x4096.Idx) : addf M (Host.log Z) y = M y + Ideal.log (Z y) := rfl

omit G T in
theorem log_real (D : Head) (i : Fin 4096) (M z : EReal) (hM : M = ((D.M i : ℝ) : EReal)) (hz : z = ((D.z i : ℝ) : EReal)) :
    M + Ideal.log z = ((D.M i + Real.log (D.z i) : ℝ) : EReal) := by
  rw [hM, hz, Ideal.log_coe, if_neg (not_le.2 (D.z_pos i)), ← EReal.coe_add]

theorem logOf_apply (y : S32x4096.Idx) : logOf (val_main_v30_0 (F := Ideal) x0 x2) (val_main_v31 (F := Ideal) x0 x2) y
    = (((D (y 0)).M (y 1) + Real.log ((D (y 0)).z (y 1)) : ℝ) : EReal) := by
  unfold logOf
  rw [sumOf_eq, log_add]
  exact log_real (D (y 0)) (y 1) _ _ (T y) (z_apply G T y)

theorem totOf_apply (y : S32x4096.Idx) : totOf (val_main_v30_0 (F := Ideal) x0 x2) (val_main_v31 (F := Ideal) x0 x2)
    (val_main_v63 (F := Ideal) x0) (val_main_v70 (F := Ideal) x1) y = (((D (y 0)).Δ (y 1) : ℝ) : EReal) := by
  unfold totOf
  rw [outOf_eq]
  have hx : ∀ l : S32x4096x128.Idx, (mulf (val_main_v70 (F := Ideal) x1) (val_main_v64 (F := Ideal) x0 x2) : FVec Ideal S32x4096x128 .f32) l
      = (((D (l 0)).g (l 1) (l 2) * ∑ j, (D (l 0)).p (l 1) j * (D (l 0)).v j (l 2) : ℝ) : EReal) := fun l => by
    rw [ValueIdx.mulf_apply, g_apply G, o_apply G T]
    exact (EReal.coe_mul _ _).symm
  generalize (mulf (val_main_v70 (F := Ideal) x1) (val_main_v64 (F := Ideal) x0 x2) : FVec Ideal S32x4096x128 .f32) = w at hx
  simp only [Host.reduceAdd, Ideal.hostReduceAdd_def]
  rw [Ideal.hostReduceAdd_single reducesTo_S32x4096x128_S32x4096_d2 (by decide)]
  simp only [hx]
  rw [← coe_sum]
  refine Eq.trans (congrArg (· + _) Ideal.ofBits_zero_f32) ?_
  rw [zero_add]
  rfl

theorem logOf_at (h : Fin 32) (i : Fin 4096) : logOf (val_main_v30_0 (F := Ideal) x0 x2) (val_main_v31 (F := Ideal) x0 x2) (ValueIdx.ix2 h i)
    = (((D h).M i + Real.log ((D h).z i) : ℝ) : EReal) := logOf_apply G T (ValueIdx.ix2 h i)

theorem totOf_at (h : Fin 32) (i : Fin 4096) : totOf (val_main_v30_0 (F := Ideal) x0 x2) (val_main_v31 (F := Ideal) x0 x2)
    (val_main_v63 (F := Ideal) x0) (val_main_v70 (F := Ideal) x1) (ValueIdx.ix2 h i) = (((D h).Δ i : ℝ) : EReal) :=
  totOf_apply G T (ValueIdx.ix2 h i)

omit G T in
theorem lane_apply {α : Type} (x : S32x4096.Idx → α) (h : Fin 32) (i : Fin 4096) :
    broadcastInDim S32x1x4096 ![0, 2] bcast_S32x4096_S32x1x4096_0_2 x (ValueIdx.ix3 h (0 : Fin 1) i) = x (ValueIdx.ix2 h i) :=
  broadcastInDim_apply _ bcast_S32x4096_S32x1x4096_0_2 x _ _ (fun a => match a with
    | ⟨0, _⟩ => by show h.val = if (32 : Nat) = 1 then 0 else h.val; rw [if_neg (by decide)]
    | ⟨1, _⟩ => by show i.val = if (4096 : Nat) = 1 then 0 else i.val; rw [if_neg (by decide)])

end Cert.KernelIdeal.Fox

end

end
-- ==== Proof.Tile.lean ====
/-
  A tile's values. With the point's blocks holding a head's numbers (`Reads`), the weights and score gradients an update
  computes are the head's, and what it adds to each accumulator is a sum of them over the tile.
-/
module

public import proofs.«01_k».proof.Proof.Math
public import proofs.«01_k».proof.Proof.Point
public import Idealize.ShloMosaic.Lib.ValueLayout
public import Idealize.ShloMosaic.Lib.ValueLayoutCasts
public import Idealize.ShloMosaic.PureOps.Ideal.Laws

@[expose] public section

set_option maxRecDepth 16384

noncomputable section

namespace Cert.KernelIdeal.Fox

open Idealize.ShloMosaic Idealize.ShloMosaic.TcCoe Idealize.ShloMosaic.ValueIdx
open Cert.KernelIdeal Cert.KernelIdeal.Facts₀ Cert.KernelIdeal.Facts
open Cert.Fox

/-! ## The contractions -/

/-- Rows against rows. -/
theorem dotRows (x y : FVec Ideal S512x128 .bf16) (a r : Fin 512) :
    matmul (F := Ideal) dot_S512x128_S512x128_S512x512_1_1_0_0_n_n none x y (constant S512x512 .f32 0x00000000#32) (ix2 a r) = ∑ d : Fin 128, x (ix2 a d) * y (ix2 r d) := by
  refine (Ideal.matmul_constant_zero_apply _ none x y _).trans ?_
  rw [← Equiv.sum_comp (contrEquiv1 dot_S512x128_S512x128_S512x512_1_1_0_0_n_n 128 rfl rfl).symm]
  refine Finset.sum_congr rfl fun k _ => ?_
  have hk := contrEquiv1_symm_val dot_S512x128_S512x128_S512x512_1_1_0_0_n_n 128 rfl rfl k
  congr 1
  · refine congrArg x (funext fun b => Fin.ext ?_)
    match b with
    | ⟨0, _⟩ => rfl
    | ⟨1, _⟩ => exact (dot_S512x128_S512x128_S512x512_1_1_0_0_n_n.lhsIdx_val_of_single rfl _ _).trans hk
  · refine congrArg y (funext fun b => Fin.ext ?_)
    match b with
    | ⟨0, _⟩ => rfl
    | ⟨1, _⟩ => exact (dot_S512x128_S512x128_S512x512_1_1_0_0_n_n.rhsIdx_val_of_single rfl _ _).trans hk

/-- A tile against rows. -/
theorem dotTile (w : FVec Ideal S512x512 .bf16) (x : FVec Ideal S512x128 .bf16) (a : Fin 512) (b : Fin 128) :
    matmul (F := Ideal) dot_S512x512_S512x128_S512x128_1_0_0_1_n_n none w x (constant S512x128 .f32 0x00000000#32) (ix2 a b) = ∑ r : Fin 512, w (ix2 a r) * x (ix2 r b) := by
  refine (Ideal.matmul_constant_zero_apply _ none w x _).trans ?_
  rw [← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  congr 1
  · refine congrArg w (funext fun b => Fin.ext ?_)
    match b with
    | ⟨0, _⟩ => rfl
    | ⟨1, _⟩ => exact (dot_S512x512_S512x128_S512x128_1_0_0_1_n_n.lhsIdx_val_of_single rfl _ _).trans hk
  · refine congrArg x (funext fun b => Fin.ext ?_)
    match b with
    | ⟨0, _⟩ => exact (dot_S512x512_S512x128_S512x128_1_0_0_1_n_n.rhsIdx_val_of_single rfl _ _).trans hk
    | ⟨1, _⟩ => rfl

/-- Columns against a tile. -/
theorem dotCols (x : FVec Ideal S512x128 .bf16) (w : FVec Ideal S512x512 .bf16) (d : Fin 128) (r : Fin 512) :
    matmul (F := Ideal) dot_S512x128_S512x512_S128x512_0_0_1_1_n_n none x w (constant S128x512 .f32 0x00000000#32) (ix2 d r) = ∑ a : Fin 512, x (ix2 a d) * w (ix2 a r) := by
  refine (Ideal.matmul_constant_zero_apply _ none x w _).trans ?_
  rw [← Equiv.sum_comp (contrEquiv1 dot_S512x128_S512x512_S128x512_0_0_1_1_n_n 512 rfl rfl).symm]
  refine Finset.sum_congr rfl fun k _ => ?_
  have hk := contrEquiv1_symm_val dot_S512x128_S512x512_S128x512_0_0_1_1_n_n 512 rfl rfl k
  congr 1
  · refine congrArg x (funext fun b => Fin.ext ?_)
    match b with
    | ⟨0, _⟩ => exact (dot_S512x128_S512x512_S128x512_0_0_1_1_n_n.lhsIdx_val_of_single rfl _ _).trans hk
    | ⟨1, _⟩ => rfl
  · refine congrArg w (funext fun b => Fin.ext ?_)
    match b with
    | ⟨0, _⟩ => exact (dot_S512x128_S512x512_S128x512_0_0_1_1_n_n.rhsIdx_val_of_single rfl _ _).trans hk
    | ⟨1, _⟩ => rfl

/-! ## Layouts -/

section
variable {α : Type}

theorem cut_rows (n : Fin 8) (X : S4096x128.Idx → α) (r : Fin 512) (d : Fin 128) :
    cut (slot n).rq.toLoadRect X (ix2 r d) = X (ix2 (pos n r) d) :=
  congrArg X (funext fun b => Fin.ext (by
    match b with
    | ⟨0, _⟩ => show 512 * n.val + 1 * r.val = 512 * n.val + r.val; omega
    | ⟨1, _⟩ => show 0 + 1 * d.val = d.val; omega))

theorem cut_lanes (n : Fin 8) (X : S1x1x4096.Idx → α) (r : Fin 512) :
    cut (slot n).rt.toLoadRect X (ix3 (0 : Fin 1) (0 : Fin 1) r) = X (ix3 (0 : Fin 1) (0 : Fin 1) (pos n r)) :=
  congrArg X (funext fun b => Fin.ext (by
    match b with
    | ⟨0, _⟩ => rfl
    | ⟨1, _⟩ => rfl
    | ⟨2, _⟩ => show 512 * n.val + 1 * r.val = 512 * n.val + r.val; omega))

theorem cut_slot (n : Fin 8) (X : S8x128x512.Idx → α) (d : Fin 128) (r : Fin 512) :
    cut (slot n).rd.toLoadRect X (ix3 (0 : Fin 1) d r) = X (ix3 n d r) :=
  congrArg X (funext fun b => Fin.ext (by
    match b with
    | ⟨0, _⟩ => show n.val + 1 * 0 = n.val; omega
    | ⟨1, _⟩ => show 0 + 1 * d.val = d.val; omega
    | ⟨2, _⟩ => show 0 + 1 * r.val = r.val; omega))

theorem cut_line (n : Fin 8) (X : S8x1x512.Idx → α) (r : Fin 512) :
    cut (slot n).rf.toLoadRect X (ix3 (0 : Fin 1) (0 : Fin 1) r) = X (ix3 n (0 : Fin 1) r) :=
  congrArg X (funext fun b => Fin.ext (by
    match b with
    | ⟨0, _⟩ => show n.val + 1 * 0 = n.val; omega
    | ⟨1, _⟩ => rfl
    | ⟨2, _⟩ => show 0 + 1 * r.val = r.val; omega))

/-- A slot laid back in: read there it is what was laid, elsewhere what was. -/
theorem lay_slot (n m : Fin 8) (X : S8x128x512.Idx → α) (w : S1x128x512.Idx → α) (d : Fin 128) (r : Fin 512) :
    lay (slot n).rd X w (ix3 m d r) = if n = m then w (ix3 (0 : Fin 1) d r) else X (ix3 m d r) := by
  by_cases h : n = m
  · subst h
    rw [if_pos rfl]
    have e : (slot n).rd.emb (ix3 (0 : Fin 1) d r) = ix3 n d r := funext fun b => Fin.ext (by
      match b with
      | ⟨0, _⟩ => show n.val + 1 * 0 = n.val; omega
      | ⟨1, _⟩ => show 0 + 1 * d.val = d.val; omega
      | ⟨2, _⟩ => show 0 + 1 * r.val = r.val; omega)
    rw [← e]
    exact lay_emb _ _ _ _
  · rw [if_neg h]
    refine lay_off _ _ _ fun hm => h ?_
    have := (Rect.mem_set_unit.1 hm) 0
    have h1 : n.val ≤ m.val ∧ m.val < n.val + 1 := this
    exact Fin.ext (by omega)

theorem lay_line (n m : Fin 8) (X : S8x1x512.Idx → α) (w : S1x1x512.Idx → α) (r : Fin 512) :
    lay (slot n).rf X w (ix3 m (0 : Fin 1) r) = if n = m then w (ix3 (0 : Fin 1) (0 : Fin 1) r) else X (ix3 m (0 : Fin 1) r) := by
  by_cases h : n = m
  · subst h
    rw [if_pos rfl]
    have e : (slot n).rf.emb (ix3 (0 : Fin 1) (0 : Fin 1) r) = ix3 n (0 : Fin 1) r := funext fun b => Fin.ext (by
      match b with
      | ⟨0, _⟩ => show n.val + 1 * 0 = n.val; omega
      | ⟨1, _⟩ => rfl
      | ⟨2, _⟩ => show 0 + 1 * r.val = r.val; omega)
    rw [← e]
    exact lay_emb _ _ _ _
  · rw [if_neg h]
    refine lay_off _ _ _ fun hm => h ?_
    have := (Rect.mem_set_unit.1 hm) 0
    have h1 : n.val ≤ m.val ∧ m.val < n.val + 1 := this
    exact Fin.ext (by omega)

/-- One row over a tile. -/
theorem row_apply (X : S1x1x512.Idx → α) (a r : Fin 512) :
    broadcastTo S512x512 (shapeCast S1x512 X shapeCasts_S1x1x512_S1x512) broadcasts_S1x512_S512x512 (ix2 a r) = X (ix3 (0 : Fin 1) (0 : Fin 1) r) :=
  (broadcastTo_apply _ _ _ (ix2 (0 : Fin 1) r) (fun b => match b with | ⟨0, _⟩ => rfl | ⟨1, _⟩ => rfl)).trans
    (shapeCast_1ab_ab_apply _ _ _ _)

/-- One column over a tile. -/
theorem col_apply (X : S512x1.Idx → α) (a r : Fin 512) :
    broadcastTo S512x512 X broadcasts_S512x1_S512x512 (ix2 a r) = X (ix2 a (0 : Fin 1)) :=
  broadcastTo_apply _ _ _ (ix2 a (0 : Fin 1)) (fun b => match b with | ⟨0, _⟩ => rfl | ⟨1, _⟩ => rfl)

end

/-- A tile's column sums. -/
theorem sums_apply (w : FVec Ideal S512x512 .f32) (r : Fin 512) :
    multiReduction (F := Ideal) .add [0] S512 w 0x00000000#32 reduces_S512x512_S512 (.inl rfl) rfl (ix1 r) = ∑ a : Fin 512, w (ix2 a r) := by
  refine (Ideal.multiReduction_add_single w _ _ _ _ _).trans (Finset.sum_congr rfl fun a _ => congrArg w (funext fun b => Fin.ext ?_))
  match b with
  | ⟨0, _⟩ => rfl
  | ⟨1, _⟩ => rfl

/-- A tile's row sums. -/
theorem totals_apply (w : FVec Ideal S512x512 .f32) (a : Fin 512) :
    multiReduction (F := Ideal) .add [1] S512 w 0x00000000#32 reduces_S512x512_S512_2 (.inl rfl) rfl (ix1 a) = ∑ r : Fin 512, w (ix2 a r) := by
  refine (Ideal.multiReduction_add_single w _ _ _ _ _).trans (Finset.sum_congr rfl fun a _ => congrArg w (funext fun b => Fin.ext ?_))
  match b with
  | ⟨0, _⟩ => rfl
  | ⟨1, _⟩ => rfl

/-- The mask is below every number. -/
theorem mask_eq : Named.named (F := Ideal) κ "mask" (φ := .f32) 0xF149F2CA#32 = (⊥ : EReal) := rfl

theorem exp_bot : Ideal.exp (⊥ : EReal) = 0 := rfl

theorem exp_real (r : ℝ) : Ideal.exp (r : EReal) = (Real.exp r : ℝ) := rfl

/-- The order of two positions in a tile, as the kernel compares them. -/
theorem sle_iff : ∀ a r : Fin 512, IntOp.cmpi .sle (BitVec.ofNat 32 a.val) (BitVec.ofNat 32 r.val) = 1#1 ↔ a ≤ r := by
  intro a r
  have ha : (BitVec.ofNat 32 a.val).toInt = a.val := by
    rw [BitVec.toInt_eq_toNat_of_lt] <;> simp <;> omega
  have hr : (BitVec.ofNat 32 r.val).toInt = r.val := by
    rw [BitVec.toInt_eq_toNat_of_lt] <;> simp <;> omega
  simp only [IntOp.cmpi, BitVec.sle, ha, hr, Fin.le_def]
  by_cases h : a.val ≤ r.val
  · simp [h]
  · simp [h]

theorem causal_apply (x : FVec Ideal S512x512 .f32) (a r : Fin 512) : causal x (ix2 a r) = if a ≤ r then x (ix2 a r) else (⊥ : EReal) := by
  unfold causal
  rw [select_apply]
  show Scalar.select (IntOp.cmpi .sle (BitVec.ofNat 32 (0 * 512 + a.val)) (BitVec.ofNat 32 (0 * 512 + r.val))) _ _ = _
  rw [Nat.zero_mul, Nat.zero_add, Nat.zero_add]
  by_cases h : a ≤ r
  · rw [(sle_iff a r).2 h, if_pos h, select_one]
  · rw [eq_zero_of_ne_one (fun e => h ((sle_iff a r).1 e)), if_neg h, select_zero]
    exact mask_eq

end Cert.KernelIdeal.Fox

end

end
-- ==== Proof.Sums.lean ====
/-
  What the updates add. A point's sweep adds to each accumulator the sum, over the query slots from its key block's own
  on, of the tiles' parts; the tiles before it are all zero, so the sum is over every slot.
-/
module

public import proofs.«01_k».proof.Proof.Tile
public import Idealize.ShloMosaic.Lib.ValueIdx

@[expose] public section

set_option maxRecDepth 16384

noncomputable section

namespace Cert.KernelIdeal.Fox

open Idealize.ShloMosaic Idealize.ShloMosaic.TcCoe Idealize.ShloMosaic.ValueIdx
open Cert.KernelIdeal Cert.KernelIdeal.Facts₀ Cert.KernelIdeal.Facts
open Cert.Fox

/-- The lane of a head among the forget sums. -/
def lane (h : Fin 32) : Fin 128 := ⟨h.val, by omega⟩

/-- The point's blocks hold the head's numbers: its own keys and values, and every query's. -/
structure Reads (D : Head) (h : Fin 32) (x : Fin 8) (I : In Ideal) : Prop where
  c : (Scalar.ofBits (F := Ideal) .f32 0x3DB504F3#32 : EReal) = (D.c : EReal)
  k : ∀ a d, I.k (ix2 a d) = ((D.k (pos x a) d : ℝ) : EReal)
  v : ∀ a d, I.v (ix2 a d) = ((D.v (pos x a) d : ℝ) : EReal)
  q : ∀ i d, I.q (ix2 i d) = ((D.q i d : ℝ) : EReal)
  o : ∀ i d, I.o (ix2 i d) = ((D.g i d : ℝ) : EReal)
  fn : ∀ a, I.fn (ix2 a (lane h)) = ((D.f (pos x a) : ℝ) : EReal)
  ft : ∀ i, I.ft (ix3 (0 : Fin 1) (0 : Fin 1) i) = ((D.f i : ℝ) : EReal)
  lse : ∀ i, I.lse (ix3 (0 : Fin 1) (0 : Fin 1) i) = ((D.M i + Real.log (D.z i) : ℝ) : EReal)
  dl : ∀ i, I.dl (ix3 (0 : Fin 1) (0 : Fin 1) i) = ((D.Δ i : ℝ) : EReal)

/-- The keys' forget sums are taken. -/
def Keyed (D : Head) (x : Fin 8) (s : St Ideal) : Prop := ∀ a, s.fk (ix2 a (0 : Fin 1)) = ((D.f (pos x a) : ℝ) : EReal)

variable {D : Head} {h : Fin 32} {x n : Fin 8} {I : In Ideal} {s : St Ideal}

theorem scores_apply (R : Reads D h x I) (K : Keyed D x s) (a r : Fin 512) :
    scores I.k (cut (slot n).rq.toLoadRect I.q) (cut (slot n).rt.toLoadRect I.ft) (cut (slot n).rt.toLoadRect I.lse) s.fk (ix2 a r)
      = ((D.s (pos n r) (pos x a) - (D.M (pos n r) + Real.log (D.z (pos n r))) : ℝ) : EReal) := by
  unfold scores
  rw [subf_apply, addf_apply, mulf_apply, subf_apply, dotRows, row_apply, row_apply, col_apply, broadcast_apply, cut_lanes, cut_lanes,
    R.ft, R.lse, R.c, K a]
  simp only [cut_rows, R.k, R.q, ← EReal.coe_mul, ← coe_sum]
  simp only [Ideal.addf_def, Ideal.subf_def, Ideal.mulf_def, ← EReal.coe_mul, ← EReal.coe_add, ← EReal.coe_sub]
  unfold Head.s
  simp only [mul_comm]

/-- How a slot is masked: its own block under the mask, a later one not. -/
def Masked (x n : Fin 8) (msk : FVec Ideal S512x512 .f32 → FVec Ideal S512x512 .f32) : Prop :=
  (msk = causal ∧ x = n) ∨ (msk = (fun y => y) ∧ x < n)

variable {msk : FVec Ideal S512x512 .f32 → FVec Ideal S512x512 .f32}

theorem weights_apply (R : Reads D h x I) (K : Keyed D x s) (hm : Masked x n msk) (a r : Fin 512) :
    weights msk (slot n) I s (ix2 a r) = ((D.p (pos n r) (pos x a) : ℝ) : EReal) := by
  unfold weights
  show Ideal.exp (msk _ (ix2 a r)) = _
  rcases hm with ⟨rfl, rfl⟩ | ⟨rfl, hlt⟩
  · rw [causal_apply]
    by_cases har : a ≤ r
    · rw [if_pos har, scores_apply R K, exp_real, D.exp_sub ((pos_le r a).2 (.inr ⟨rfl, har⟩))]
    · rw [if_neg har, exp_bot, D.p_late]
      · rfl
      · exact not_le.1 fun hle => har (((pos_le r a).1 hle).resolve_left (lt_irrefl _)).2
  · show Ideal.exp (scores (F := Ideal) I.k _ _ _ _ (ix2 a r)) = _
    rw [scores_apply R K, exp_real, D.exp_sub ((pos_le r a).2 (.inl hlt))]

theorem grads_apply (R : Reads D h x I) (K : Keyed D x s) (hm : Masked x n msk) (a r : Fin 512) :
    grads msk (slot n) I s (ix2 a r) = ((D.ds (pos n r) (pos x a) : ℝ) : EReal) := by
  unfold grads dscores
  rw [mulf_apply, subf_apply, dotRows, row_apply, cut_lanes, R.dl, weights_apply R K hm]
  simp only [cut_rows, R.v, R.o, ← EReal.coe_mul, ← coe_sum]
  simp only [Ideal.subf_def, Ideal.mulf_def, ← EReal.coe_mul, ← EReal.coe_sub]
  unfold Head.ds Head.dp
  simp only [mul_comm]

/-! ## One update -/

theorem update_dv (R : Reads D h x I) (K : Keyed D x s) (hm : Masked x n msk) (a : Fin 512) (b : Fin 128) :
    (update msk (slot n) I s).dv (ix2 a b) = s.dv (ix2 a b) + ((∑ r, D.p (pos n r) (pos x a) * D.g (pos n r) b : ℝ) : EReal) := by
  show addRows s.dv (weights msk (slot n) I s) _ (ix2 a b) = _
  unfold addRows
  rw [addf_apply, dotTile]
  simp only [truncf_apply, weights_apply R K hm, cut_rows, R.o, coe_sum, EReal.coe_mul]

theorem update_dk (R : Reads D h x I) (K : Keyed D x s) (hm : Masked x n msk) (a : Fin 512) (b : Fin 128) :
    (update msk (slot n) I s).dk (ix2 a b) = s.dk (ix2 a b) + ((∑ r, D.ds (pos n r) (pos x a) * D.q (pos n r) b : ℝ) : EReal) := by
  show addRows s.dk (grads msk (slot n) I s) _ (ix2 a b) = _
  unfold addRows
  rw [addf_apply, dotTile]
  simp only [truncf_apply, grads_apply R K hm, cut_rows, R.q, coe_sum, EReal.coe_mul]

theorem update_dg (R : Reads D h x I) (K : Keyed D x s) (hm : Masked x n msk) (a : Fin 512) :
    (update msk (slot n) I s).dg (ix2 a (0 : Fin 1)) = s.dg (ix2 a (0 : Fin 1)) + ((∑ r, D.ds (pos n r) (pos x a) : ℝ) : EReal) := by
  show addTotals s.dg (grads msk (slot n) I s) (ix2 a (0 : Fin 1)) = _
  unfold addTotals
  rw [addf_apply, shapeCast_a_a1_apply, totals_apply]
  simp only [grads_apply R K hm, coe_sum]

theorem update_dq (R : Reads D h x I) (K : Keyed D x s) (hm : Masked x n msk) (m : Fin 8) (d : Fin 128) (r : Fin 512) :
    (update msk (slot n) I s).dq (ix3 m d r)
      = s.dq (ix3 m d r) + ((if n = m then ∑ a, D.k (pos x a) d * D.ds (pos m r) (pos x a) else 0 : ℝ) : EReal) := by
  show lay (slot n).rd s.dq _ (ix3 m d r) = _
  rw [lay_slot]
  by_cases e : n = m
  · subst e
    rw [if_pos rfl, if_pos rfl]
    unfold addCols
    rw [shapeCast_ab_1ab_apply, addf_apply, shapeCast_1ab_ab_apply, cut_slot, dotCols]
    simp only [truncf_apply, grads_apply R K hm, R.k, coe_sum, EReal.coe_mul]
  · rw [if_neg e, if_neg e, EReal.coe_zero, add_zero]

theorem update_df (R : Reads D h x I) (K : Keyed D x s) (hm : Masked x n msk) (m : Fin 8) (r : Fin 512) :
    (update msk (slot n) I s).df (ix3 m (0 : Fin 1) r)
      = s.df (ix3 m (0 : Fin 1) r) + ((if n = m then ∑ a, D.ds (pos m r) (pos x a) else 0 : ℝ) : EReal) := by
  show lay (slot n).rf s.df _ (ix3 m (0 : Fin 1) r) = _
  rw [lay_line]
  by_cases e : n = m
  · subst e
    rw [if_pos rfl, if_pos rfl]
    unfold addSums
    rw [shapeCast_ab_1ab_apply, addf_apply, shapeCast_1ab_ab_apply, cut_line, shapeCast_a_1a_apply, sums_apply]
    simp only [grads_apply R K hm, coe_sum]
  · rw [if_neg e, if_neg e, EReal.coe_zero, add_zero]

/-! ## A sweep -/

/-- An accumulator every update adds a slot's part to holds the slots' sum after the sweep. -/
theorem sweep_add (φ : St Ideal → EReal) (T : Fin 8 → ℝ)
    (hφ : ∀ (n : Fin 8) (msk : FVec Ideal S512x512 .f32 → FVec Ideal S512x512 .f32) (s : St Ideal), Masked x n msk → Keyed D x s →
      φ (update msk (slot n) I s) = φ s + (T n : EReal))
    (hT : ∀ n, n < x → T n = 0) (K : Keyed D x s) : φ (sweep x (later x) I s) = φ s + ((∑ n, T n : ℝ) : EReal) := by
  have below_add : ∀ (l : List (Fin 8)) (s : St Ideal), (∀ n ∈ l, x < n) → Keyed D x s → φ (below I l s) = φ s + ((l.map T).sum : EReal) := by
    intro l
    induction l with
    | nil => intro s _ _; simp [below]
    | cons n l ih =>
      intro s hl K
      show φ (below I l (update (fun y => y) (slot n) I s)) = _
      rw [ih _ (fun m hm => hl m (List.mem_cons_of_mem _ hm)) (show Keyed D x (update (fun y => y) (slot n) I s) from K),
        hφ n _ s (.inr ⟨rfl, hl n List.mem_cons_self⟩) K, List.map_cons, List.sum_cons, EReal.coe_add, add_assoc]
  have hl : ∀ x : Fin 8, ∀ n ∈ later x, x < n := by decide
  have hs : T x + ((later x).map T).sum = ∑ n, T n := by
    rw [Fin.sum_univ_eight]
    match x, hT with
    | 0, hT => simp only [later, List.map_cons, List.map_nil, List.sum_cons, List.sum_nil, zero_add, add_zero, add_assoc]
    | 1, hT => simp only [later, List.map_cons, List.map_nil, List.sum_cons, List.sum_nil, hT 0 (by decide), zero_add, add_zero, add_assoc]
    | 2, hT => simp only [later, List.map_cons, List.map_nil, List.sum_cons, List.sum_nil, hT 0 (by decide), hT 1 (by decide), zero_add, add_zero, add_assoc]
    | 3, hT => simp only [later, List.map_cons, List.map_nil, List.sum_cons, List.sum_nil, hT 0 (by decide), hT 1 (by decide), hT 2 (by decide), zero_add, add_zero, add_assoc]
    | 4, hT => simp only [later, List.map_cons, List.map_nil, List.sum_cons, List.sum_nil, hT 0 (by decide), hT 1 (by decide), hT 2 (by decide), hT 3 (by decide), zero_add, add_zero, add_assoc]
    | 5, hT => simp only [later, List.map_cons, List.map_nil, List.sum_cons, List.sum_nil, hT 0 (by decide), hT 1 (by decide), hT 2 (by decide), hT 3 (by decide), hT 4 (by decide), zero_add, add_zero, add_assoc]
    | 6, hT => simp only [later, List.map_cons, List.map_nil, List.sum_cons, List.sum_nil, hT 0 (by decide), hT 1 (by decide), hT 2 (by decide), hT 3 (by decide), hT 4 (by decide), hT 5 (by decide), zero_add, add_zero, add_assoc]
    | 7, hT => simp only [later, List.map_cons, List.map_nil, List.sum_cons, List.sum_nil, hT 0 (by decide), hT 1 (by decide), hT 2 (by decide), hT 3 (by decide), hT 4 (by decide), hT 5 (by decide), hT 6 (by decide), zero_add, add_zero, add_assoc]
  unfold sweep
  rw [below_add _ _ (hl x) (show Keyed D x (update causal (slot x) I s) from K), hφ x _ s (.inl ⟨rfl, rfl⟩) K, add_assoc, ← EReal.coe_add, hs]

end Cert.KernelIdeal.Fox

end

end
-- ==== Proof.Leave.lean ====
/-
  What a point leaves, as numbers: the key block's gradients whole, the query slots' gradients with the block's part
  added, the keys' forget gradient at the block's rows and the head's lane.
-/
module

public import proofs.«01_k».proof.Proof.Sums
public import proofs.«01_k».proof.Proof.Gen.KernelIdeal.Frame

@[expose] public section

set_option maxRecDepth 16384

noncomputable section

namespace Cert.KernelIdeal.Fox

open Idealize.ShloMosaic Idealize.ShloMosaic.TcCoe Idealize.ShloMosaic.ValueIdx
open Cert.KernelIdeal Cert.KernelIdeal.Facts₀ Cert.KernelIdeal.Facts
open Cert.Fox

theorem zero_eq : (Scalar.ofBits (F := Ideal) .f32 0x00000000#32 : EReal) = 0 := Ideal.ofBits_zero_f32

theorem zeros_apply (S : Shape) (i : S.Idx) : zeros (F := Ideal) S i = (0 : EReal) := zero_eq

variable {D : Head} {h : Fin 32} {x : Fin 8} {I : In Ideal} {s : St Ideal}

/-- Which lane is the head's. -/
theorem lane_iff (h : Fin 32) (l : Fin 128) : IntOp.cmpi .eq (BitVec.ofNat 32 l.val) (BitVec.ofNat 32 h.val) = 1#1 ↔ l = lane h := by
  have e : (BitVec.ofNat 32 l.val = BitVec.ofNat 32 h.val) ↔ l = lane h := by
    rw [← BitVec.toNat_inj, BitVec.toNat_ofNat, BitVec.toNat_ofNat, Fin.ext_iff]
    show l.val % 2 ^ 32 = h.val % 2 ^ 32 ↔ l.val = h.val
    omega
  rw [← e]
  simp only [IntOp.cmpi]
  by_cases hb : BitVec.ofNat 32 l.val = BitVec.ofNat 32 h.val
  · simp [hb]
  · rw [beq_eq_false_iff_ne.2 hb]
    exact ⟨fun c => absurd c (by decide), fun c => absurd c hb⟩

theorem at_lane {α : Type} (h : Fin 32) (x : Fin 8) (X Y : S512x128.Idx → α) (a : Fin 512) (l : Fin 128) :
    select (cmpi .eq (iota .tc S512x128 32 [1] iota_S512x128_d1_w32) (broadcast S512x128 (BitVec.ofNat 32 (at2 h x 0).val))) X Y (ix2 a l)
      = if l = lane h then X (ix2 a l) else Y (ix2 a l) := by
  rw [select_apply]
  show Scalar.select (IntOp.cmpi .eq (BitVec.ofNat 32 (0 * 128 + l.val)) (BitVec.ofNat 32 h.val)) _ _ = _
  rw [Nat.zero_mul, Nat.zero_add]
  by_cases e : l = lane h
  · rw [(lane_iff h l).2 e, if_pos e, select_one]
  · rw [eq_zero_of_ne_one (fun c => e ((lane_iff h l).1 c)), if_neg e, select_zero]

/-- The head's column of a block of forget sums. -/
theorem column_apply (X : Vec Ideal S512x128 .f32) (a : Fin 512) : column (at2 h x) X (ix2 a (0 : Fin 1)) = X (ix2 a (lane h)) := by
  unfold column
  rw [shapeCast_a_a1_apply]
  refine (Ideal.multiReduction_add_single _ _ _ _ _ _).trans ?_
  have e : ∀ l : Fin 128, reduces_S512x128_S512.lift (ix1 a) l = ix2 a l := fun l => funext fun b => Fin.ext (by
    match b with
    | ⟨0, _⟩ => rfl
    | ⟨1, _⟩ => rfl)
  have key : ∀ l : Fin 128, select (cmpi .eq (iota .tc S512x128 32 [1] iota_S512x128_d1_w32) (broadcast S512x128 (BitVec.ofNat 32 (at2 h x 0).val)))
      X (broadcast S512x128 (Scalar.ofBits (F := Ideal) .f32 0x00000000#32)) (reduces_S512x128_S512.lift (ix1 a) l) = if l = lane h then X (ix2 a l) else (0 : EReal) := fun l =>
    (congrArg _ (e l)).trans ((at_lane h x X (broadcast S512x128 (Scalar.ofBits (F := Ideal) .f32 0x00000000#32)) a l).trans (by rw [broadcast_apply, zero_eq]))
  refine (Fintype.sum_congr _ _ key).trans ?_
  show (∑ l : Fin 128, if l = lane h then X (ix2 a l) else (0 : EReal)) = _
  rw [Finset.sum_ite_eq', if_pos (Finset.mem_univ _)]

theorem keyed (R : Reads D h x I) (s : St Ideal) : Keyed D x (clearBlock (at2 h x) I s) := fun a => (column_apply I.fn a).trans (R.fn a)

/-! ## The sweep, accumulator by accumulator -/

theorem sweep_dv (R : Reads D h x I) (K : Keyed D x s) (a : Fin 512) (b : Fin 128) :
    (sweep x (later x) I s).dv (ix2 a b) = s.dv (ix2 a b) + ((∑ i, D.p i (pos x a) * D.g i b : ℝ) : EReal) := by
  rw [sum_pos]
  exact sweep_add (fun s => s.dv (ix2 a b)) _ (fun n msk s hm K => update_dv R K hm a b)
    (fun n hn => Finset.sum_eq_zero fun r _ => by rw [D.p_late (pos_lt hn r a), zero_mul]) K

theorem sweep_dk (R : Reads D h x I) (K : Keyed D x s) (a : Fin 512) (b : Fin 128) :
    (sweep x (later x) I s).dk (ix2 a b) = s.dk (ix2 a b) + ((∑ i, D.ds i (pos x a) * D.q i b : ℝ) : EReal) := by
  rw [sum_pos]
  exact sweep_add (fun s => s.dk (ix2 a b)) _ (fun n msk s hm K => update_dk R K hm a b)
    (fun n hn => Finset.sum_eq_zero fun r _ => by rw [D.ds_late (pos_lt hn r a), zero_mul]) K

theorem sweep_dg (R : Reads D h x I) (K : Keyed D x s) (a : Fin 512) :
    (sweep x (later x) I s).dg (ix2 a (0 : Fin 1)) = s.dg (ix2 a (0 : Fin 1)) + ((∑ i, D.ds i (pos x a) : ℝ) : EReal) := by
  rw [sum_pos]
  exact sweep_add (fun s => s.dg (ix2 a (0 : Fin 1))) _ (fun n msk s hm K => update_dg R K hm a)
    (fun n hn => Finset.sum_eq_zero fun r _ => D.ds_late (pos_lt hn r a)) K

theorem sweep_dq (R : Reads D h x I) (K : Keyed D x s) (m : Fin 8) (d : Fin 128) (r : Fin 512) :
    (sweep x (later x) I s).dq (ix3 m d r) = s.dq (ix3 m d r) + ((∑ a, D.k (pos x a) d * D.ds (pos m r) (pos x a) : ℝ) : EReal) := by
  refine (sweep_add (fun s => s.dq (ix3 m d r)) _ (fun n msk s hm K => update_dq R K hm m d r)
    (fun n hn => ?_) K).trans ?_
  · split
    · rename_i e; subst e
      exact Finset.sum_eq_zero fun a _ => by rw [D.ds_late (pos_lt hn r a), mul_zero]
    · rfl
  · rw [Finset.sum_ite_eq' Finset.univ m (fun _ => _), if_pos (Finset.mem_univ _)]

theorem sweep_df (R : Reads D h x I) (K : Keyed D x s) (m : Fin 8) (r : Fin 512) :
    (sweep x (later x) I s).df (ix3 m (0 : Fin 1) r) = s.df (ix3 m (0 : Fin 1) r) + ((∑ a, D.ds (pos m r) (pos x a) : ℝ) : EReal) := by
  refine (sweep_add (fun s => s.df (ix3 m (0 : Fin 1) r)) _ (fun n msk s hm K => update_df R K hm m r)
    (fun n hn => ?_) K).trans ?_
  · split
    · rename_i e; subst e
      exact Finset.sum_eq_zero fun a _ => D.ds_late (pos_lt hn r a)
    · rfl
  · rw [Finset.sum_ite_eq' Finset.univ m (fun _ => _), if_pos (Finset.mem_univ _)]

theorem below_odg (I : In Ideal) : ∀ (l : List (Fin 8)) (s : St Ideal), (below I l s).odg = s.odg
  | [], _ => rfl
  | _ :: l, s => below_odg I l (update (fun y => y) _ I s)

theorem sweep_odg (d : Fin 8) (l : List (Fin 8)) (s : St Ideal) : (sweep d l I s).odg = s.odg := below_odg I l (update causal (slot d) I s)

/-! ## The point -/

/-- The state a point's writes find. -/
def swept' (h : Fin 32) (x : Fin 8) (I : In Ideal) (s : St Ideal) : St Ideal := sweep x (later x) I (clearBlock (at2 h x) I (started h x s))

theorem leave_eq : leave h x I s = if x = 7 then puts every (emit (at2 h x) (swept' h x I s)) else emit (at2 h x) (swept' h x I s) := rfl

theorem leave_odk' : (leave h x I s).odk = (emit (at2 h x) (swept' h x I s)).odk := by
  rw [leave_eq]; split
  · rw [puts_shape]
  · rfl
theorem leave_odv' : (leave h x I s).odv = (emit (at2 h x) (swept' h x I s)).odv := by
  rw [leave_eq]; split
  · rw [puts_shape]
  · rfl
theorem leave_odg' : (leave h x I s).odg = (emit (at2 h x) (swept' h x I s)).odg := by
  rw [leave_eq]; split
  · rw [puts_shape]
  · rfl
theorem leave_dq' : (leave h x I s).dq = (swept' h x I s).dq := by
  rw [leave_eq]; split
  · rw [puts_shape]; rfl
  · rfl
theorem leave_df' : (leave h x I s).df = (swept' h x I s).df := by
  rw [leave_eq]; split
  · rw [puts_shape]; rfl
  · rfl

/-- The value block's gradient. -/
theorem leave_odv (R : Reads D h x I) (a : Fin 512) (b : Fin 128) :
    (leave h x I s).odv (ix2 a b) = ((∑ i, D.p i (pos x a) * D.g i b : ℝ) : EReal) := by
  rw [leave_odv']
  show (swept' h x I s).dv (ix2 a b) = _
  unfold swept'
  rw [sweep_dv R (keyed R _)]
  show zeros (F := Ideal) S512x128 (ix2 a b) + _ = _
  rw [zeros_apply, zero_add]

/-- The key block's gradient. -/
theorem leave_odk (R : Reads D h x I) (a : Fin 512) (b : Fin 128) :
    (leave h x I s).odk (ix2 a b) = (((∑ i, D.ds i (pos x a) * D.q i b) * D.c : ℝ) : EReal) := by
  rw [leave_odk']
  show (swept' h x I s).dk (ix2 a b) * (Scalar.ofBits (F := Ideal) .f32 0x3DB504F3#32 : EReal) = _
  unfold swept'
  rw [sweep_dk R (keyed R _), R.c]
  show (zeros (F := Ideal) S512x128 (ix2 a b) + _) * _ = _
  rw [zeros_apply, zero_add, ← EReal.coe_mul]

/-- A query slot's gradient so far. -/
theorem leave_dq (R : Reads D h x I) (m : Fin 8) (d : Fin 128) (r : Fin 512) :
    (leave h x I s).dq (ix3 m d r)
      = (if x = 0 then 0 else s.dq (ix3 m d r) : EReal) + ((∑ a, D.k (pos x a) d * D.ds (pos m r) (pos x a) : ℝ) : EReal) := by
  rw [leave_dq']
  unfold swept'
  rw [sweep_dq R (keyed R _)]
  congr 1
  show (started h x s).dq (ix3 m d r) = _
  unfold started
  by_cases hx : x = 0
  · rw [if_pos hx, if_pos hx]
    split
    · exact zero_eq
    · exact zero_eq
  · rw [if_neg hx, if_neg hx]

theorem leave_df (R : Reads D h x I) (m : Fin 8) (r : Fin 512) :
    (leave h x I s).df (ix3 m (0 : Fin 1) r)
      = (if x = 0 then 0 else s.df (ix3 m (0 : Fin 1) r) : EReal) + ((∑ a, D.ds (pos m r) (pos x a) : ℝ) : EReal) := by
  rw [leave_df']
  unfold swept'
  rw [sweep_df R (keyed R _)]
  congr 1
  show (started h x s).df (ix3 m (0 : Fin 1) r) = _
  unfold started
  by_cases hx : x = 0
  · rw [if_pos hx, if_pos hx]
    split
    · exact zero_eq
    · exact zero_eq
  · rw [if_neg hx, if_neg hx]

/-- The queries' gradient, written at a head's end. -/
theorem leave_odq (R : Reads D h x I) (hx : x = 7) (n : Fin 8) (d : Fin 128) (r : Fin 512) :
    (leave h x I s).odq (ix2 d (pos n r)) = (leave h x I s).dq (ix3 n d r) * (D.c : EReal) := by
  rw [leave_dq', leave_eq, if_pos hx]
  have e : (colsOf n).emb (ix2 d r) = ix2 d (pos n r) := funext fun b => Fin.ext (by
    match b with
    | ⟨0, _⟩ => show 0 + 1 * d.val = d.val; omega
    | ⟨1, _⟩ => show 512 * n.val + 1 * r.val = 512 * n.val + r.val; omega)
  rw [← e, puts_odq_on _ _ _ (mem_every n)]
  unfold scaledCols
  rw [truncf_apply, mulf_apply, shapeCast_1ab_ab_apply, cut_slot, broadcast_apply, R.c]
  rfl

theorem leave_odf (hx : x = 7) (n : Fin 8) (r : Fin 512) :
    (leave h x I s).odf (ix3 (0 : Fin 1) (0 : Fin 1) (pos n r)) = (leave h x I s).df (ix3 n (0 : Fin 1) r) := by
  rw [leave_df', leave_eq, if_pos hx]
  have e : (slot n).rt.emb (ix3 (0 : Fin 1) (0 : Fin 1) r) = ix3 (0 : Fin 1) (0 : Fin 1) (pos n r) := funext fun b => Fin.ext (by
    match b with
    | ⟨0, _⟩ => rfl
    | ⟨1, _⟩ => rfl
    | ⟨2, _⟩ => show 512 * n.val + 1 * r.val = 512 * n.val + r.val; omega)
  rw [← e, puts_odf_on _ _ _ (mem_every n), shapeCast_ab_1ab_apply, shapeCast_1ab_ab_apply, cut_line]
  rfl

/-- The keys' forget gradient. -/
theorem leave_odg (R : Reads D h x I) (j : Fin 4096) (l : Fin 128) :
    (leave h x I s).odg (ix2 j l)
      = (if h = 0 ∧ x = 0 then 0 else s.odg (ix2 j l) : EReal)
        + ((if l = lane h ∧ j.val / 512 = x.val then -∑ i, D.ds i j else 0 : ℝ) : EReal) := by
  have e0 : (swept' h x I s).odg (ix2 j l) = (if h = 0 ∧ x = 0 then 0 else s.odg (ix2 j l) : EReal) := by
    unfold swept'
    rw [sweep_odg]
    show (started h x s).odg (ix2 j l) = _
    unfold started
    by_cases hx : x = 0
    · by_cases hh : h = 0
      · rw [if_pos hx, if_pos hh, if_pos ⟨hh, hx⟩]; exact zero_eq
      · rw [if_pos hx, if_neg hh, if_neg fun e => hh e.1]; rfl
    · rw [if_neg hx, if_neg fun e => hx e.2]
  rw [leave_odg', ← e0]
  have o : k0_off19 (at2 h x) = ![512 * x.val, 0] := Gen.k0_off19_eq (at2 h x)
  show lay (rowsOf (at2 h x)) (swept' h x I s).odg _ (ix2 j l) = _
  by_cases hj : j.val / 512 = x.val
  · obtain ⟨a, rfl⟩ : ∃ a : Fin 512, j = pos x a := ⟨⟨j.val % 512, by omega⟩, Fin.ext (by simp only [pos]; omega)⟩
    have ei : ∀ l' : Fin 128, (rowsOf (at2 h x)).idx (ix2 a l') = ix2 (pos x a) l' := fun l' => funext fun b => Fin.ext (by
      match b with
      | ⟨0, _⟩ =>
        show k0_off19 (at2 h x) 0 + 1 * a.val = 512 * x.val + a.val
        rw [o]; show 512 * x.val + 1 * a.val = _; omega
      | ⟨1, _⟩ =>
        show k0_off19 (at2 h x) 1 + 1 * l'.val = l'.val
        rw [o]; show 0 + 1 * l'.val = _; omega)
    have ee : (rowsOf (at2 h x)).emb (ix2 a l) = ix2 (pos x a) l := ei l
    refine (congrArg _ ee.symm).trans ((lay_emb _ _ _ _).trans ?_)
    show (swept' h x I s).odg ((rowsOf (at2 h x)).idx (ix2 a l)) + select _ _ _ (ix2 a l) = _
    rw [ei, at_lane, zeros_apply]
    congr 1
    by_cases hl : l = lane h
    · rw [if_pos hl, if_pos ⟨hl, hj⟩]
      refine (broadcastTo_apply _ _ _ (ix2 a (0 : Fin 1)) (fun b => match b with | ⟨0, _⟩ => rfl | ⟨1, _⟩ => rfl)).trans ?_
      rw [subf_apply, zeros_apply]
      unfold swept'
      rw [sweep_dg R (keyed R _)]
      show 0 - (zeros (F := Ideal) S512x1 (ix2 a (0 : Fin 1)) + _) = _
      rw [zeros_apply, zero_add, ← EReal.coe_zero, ← EReal.coe_sub, zero_sub]
    · rw [if_neg hl, if_neg fun e => hl e.1, EReal.coe_zero]
  · rw [if_neg fun e => hj e.2, EReal.coe_zero, add_zero]
    refine lay_off _ _ _ fun hm => hj ?_
    have := (Rect.mem_set_unit.1 hm) 0
    rw [o] at this
    have h1 : 512 * x.val ≤ j.val ∧ j.val < 512 * x.val + 512 := this
    omega

end Cert.KernelIdeal.Fox

end

end
-- ==== Proof.Total.lean ====
/-
  The grid's points in turn, as numbers: what the result blocks hold when they are written back.
-/
module

public import proofs.«01_k».proof.Proof.Leave
public import proofs.«01_k».proof.Proof.Run

@[expose] public section

set_option maxRecDepth 16384

noncomputable section

namespace Cert.KernelIdeal.Fox

open Idealize.ShloMosaic Idealize.ShloMosaic.TcCoe Idealize.ShloMosaic.ValueIdx
open Cert.KernelIdeal Cert.KernelIdeal.Gen
open Cert.Fox

variable {m : (ℓ : Loc nD τ sig) → Buf (Elt Ideal) ℓ} {c : Dev nD} {D : Fin 32 → Head}

/-- Every point's blocks hold its head's numbers. -/
def AllRead (m : (ℓ : Loc nD τ sig) → Buf (Elt Ideal) ℓ) (c : Dev nD) (D : Fin 32 → Head) : Prop :=
  ∀ t : Fin cfg0.N, Reads (D (headOf t)) (headOf t) (blockOf t) (ins m c t)

theorem odk_at (R : AllRead m c D) (t : Fin cfg0.N) (a : Fin 512) (b : Fin 128) :
    (track m c (t.val + 1)).odk (ix2 a b) = (((D (headOf t)).dk (pos (blockOf t) a) b : ℝ) : EReal) := by
  rw [track_succ]
  exact leave_odk (R t) a b

theorem odv_at (R : AllRead m c D) (t : Fin cfg0.N) (a : Fin 512) (b : Fin 128) :
    (track m c (t.val + 1)).odv (ix2 a b) = (((D (headOf t)).dv (pos (blockOf t) a) b : ℝ) : EReal) := by
  rw [track_succ]
  exact leave_odv (R t) a b

/-- One more block of a head's sum. -/
theorem sum_upto (T : Fin 8 → ℝ) (x : ℕ) (hx : x + 1 < 8) :
    (∑ y : Fin 8, if y.val ≤ x then T y else 0) + T ⟨x + 1, hx⟩ = ∑ y : Fin 8, if y.val ≤ x + 1 then T y else 0 := by
  have e : ∀ y : Fin 8, (if y.val ≤ x + 1 then T y else 0) = (if y.val ≤ x then T y else 0) + (if y = ⟨x + 1, hx⟩ then T y else 0) := by
    intro y
    rcases lt_trichotomy y.val (x + 1) with h | h | h
    · rw [if_pos (by omega), if_pos (by omega), if_neg (by rw [Fin.ext_iff]; show ¬ y.val = x + 1; omega), add_zero]
    · rw [if_pos (by omega), if_neg (by omega), if_pos (Fin.ext h), zero_add]
    · rw [if_neg (by omega), if_neg (by omega), if_neg (by rw [Fin.ext_iff]; show ¬ y.val = x + 1; omega), add_zero]
  rw [Finset.sum_congr rfl fun y _ => e y, Finset.sum_add_distrib, Finset.sum_ite_eq', if_pos (Finset.mem_univ _)]

theorem sum_first (T : Fin 8 → ℝ) : (∑ y : Fin 8, if y.val ≤ 0 then T y else 0) = T 0 := by
  have e : ∀ y : Fin 8, (if y.val ≤ 0 then T y else 0) = if y = 0 then T y else 0 := fun y => by
    by_cases h : y = 0
    · subst h; rfl
    · rw [if_neg h, if_neg fun h' => h (Fin.ext (Nat.le_zero.1 h'))]
  rw [Finset.sum_congr rfl fun y _ => e y, Finset.sum_ite_eq', if_pos (Finset.mem_univ _)]

theorem sum_last (T : Fin 8 → ℝ) : (∑ y : Fin 8, if y.val ≤ 7 then T y else 0) = ∑ y, T y :=
  Finset.sum_congr rfl fun y _ => if_pos (by omega)

/-- A quantity every point of a head adds its block's part to, afresh at the head's first. -/
theorem head_sum (φ : St Ideal → EReal) (T : Fin 32 → Fin 8 → ℝ)
    (hφ : ∀ t : Fin cfg0.N, φ (track m c (t.val + 1)) = (if blockOf t = 0 then 0 else φ (track m c t.val) : EReal) + ((T (headOf t) (blockOf t) : ℝ) : EReal))
    (h : Fin 32) : ∀ (x : ℕ) (hx : x < 8), φ (track m c (8 * h.val + x + 1)) = ((∑ y : Fin 8, if y.val ≤ x then T h y else 0 : ℝ) : EReal) := by
  have hh := h.isLt
  intro x
  induction x with
  | zero =>
    intro _
    have hN : 8 * h.val + 0 < cfg0.N := lt_of_lt_of_eq (by omega) N_0.symm
    have e0 : headOf ⟨8 * h.val + 0, hN⟩ = h := Fin.ext ((headOf_val _).trans (by show (8 * h.val + 0) / 8 = _; omega))
    have e1 : blockOf ⟨8 * h.val + 0, hN⟩ = 0 := Fin.ext ((blockOf_val _).trans (by show (8 * h.val + 0) % 8 = 0; omega))
    refine (hφ ⟨8 * h.val + 0, hN⟩).trans ?_
    rw [e0, e1, if_pos rfl, zero_add, sum_first]
  | succ x ih =>
    intro hx
    have hN : 8 * h.val + (x + 1) < cfg0.N := lt_of_lt_of_eq (by omega) N_0.symm
    have e0 : headOf ⟨8 * h.val + (x + 1), hN⟩ = h := Fin.ext ((headOf_val _).trans (by show (8 * h.val + (x + 1)) / 8 = _; omega))
    have e1 : blockOf ⟨8 * h.val + (x + 1), hN⟩ = ⟨x + 1, hx⟩ := Fin.ext ((blockOf_val _).trans (by show (8 * h.val + (x + 1)) % 8 = x + 1; omega))
    refine (hφ ⟨8 * h.val + (x + 1), hN⟩).trans ?_
    rw [e0, e1, if_neg (by rw [Fin.ext_iff]; show ¬ x + 1 = 0; omega)]
    show φ (track m c (8 * h.val + x + 1)) + _ = _
    rw [ih (by omega), ← EReal.coe_add, sum_upto]

/-- The same at the head's last point. -/
theorem head_total (φ : St Ideal → EReal) (T : Fin 32 → Fin 8 → ℝ)
    (hφ : ∀ t : Fin cfg0.N, φ (track m c (t.val + 1)) = (if blockOf t = 0 then 0 else φ (track m c t.val) : EReal) + ((T (headOf t) (blockOf t) : ℝ) : EReal))
    (t : Fin cfg0.N) (ht : t.val % 8 = 7) : φ (track m c (t.val + 1)) = ((∑ y, T (headOf t) y : ℝ) : EReal) := by
  have e := head_sum φ T hφ (headOf t) 7 (by omega)
  rw [sum_last] at e
  rw [← e]
  have := headOf_val t
  congr 2
  omega

theorem last_block {t : Fin cfg0.N} (ht : t.val % 8 = 7) : blockOf t = 7 := Fin.ext ((blockOf_val t).trans ht)

theorem odq_at (R : AllRead m c D) (t : Fin cfg0.N) (ht : t.val % 8 = 7) (d : Fin 128) (i : Fin 4096) :
    (track m c (t.val + 1)).odq (ix2 d i) = (((D (headOf t)).dq i d : ℝ) : EReal) := by
  obtain ⟨n, r, rfl⟩ : ∃ n r, i = pos n r := ⟨_, _, (pos_eta i).symm⟩
  have e := head_total (m := m) (c := c) (fun s => s.dq (ix3 n d r)) (fun h x => ∑ a, (D h).k (pos x a) d * (D h).ds (pos n r) (pos x a))
    (fun t => by rw [track_succ]; exact leave_dq (R t) n d r) t ht
  have q := leave_odq (s := track m c t.val) (R t) (last_block ht) n d r
  rw [← track_succ] at q
  rw [q]
  refine (congrArg (· * _) e).trans ?_
  rw [← EReal.coe_mul]
  unfold Head.dq
  rw [sum_pos]

theorem odf_at (R : AllRead m c D) (t : Fin cfg0.N) (ht : t.val % 8 = 7) (i : Fin 4096) :
    (track m c (t.val + 1)).odf (ix3 (0 : Fin 1) (0 : Fin 1) i) = (((D (headOf t)).dfq i : ℝ) : EReal) := by
  obtain ⟨n, r, rfl⟩ : ∃ n r, i = pos n r := ⟨_, _, (pos_eta i).symm⟩
  have e := head_total (m := m) (c := c) (fun s => s.df (ix3 n (0 : Fin 1) r)) (fun h x => ∑ a, (D h).ds (pos n r) (pos x a))
    (fun t => by rw [track_succ]; exact leave_df (R t) n r) t ht
  have q := leave_odf (h := headOf t) (I := ins m c t) (s := track m c t.val) (last_block ht) n r
  rw [← track_succ] at q
  rw [q]
  refine e.trans ?_
  unfold Head.dfq
  rw [sum_pos]

/-- The keys' forget gradient at a lane: the head's there, nothing past the heads. -/
def lanes (D : Fin 32 → Head) (j : Fin 4096) (l : Fin 128) : ℝ := if hl : l.val < 32 then (D ⟨l.val, hl⟩).dfk j else 0

theorem odg_upto (R : AllRead m c D) (j : Fin 4096) (l : Fin 128) : ∀ t : ℕ, t + 1 ≤ 256 →
    (track m c (t + 1)).odg (ix2 j l) = ((if 8 * l.val + j.val / 512 < t + 1 then lanes D j l else 0 : ℝ) : EReal) := by
  have step : ∀ t : Fin cfg0.N, ((if l = lane (headOf t) ∧ j.val / 512 = (blockOf t).val then -∑ i, (D (headOf t)).ds i j else 0 : ℝ))
      = if 8 * l.val + j.val / 512 = t.val then lanes D j l else 0 := by
    intro t
    have ht : t.val < 256 := Nat.lt_of_lt_of_eq t.isLt N_0
    have hh := headOf_val t
    have hb := blockOf_val t
    have hj := j.isLt
    by_cases hc : l = lane (headOf t) ∧ j.val / 512 = (blockOf t).val
    · obtain ⟨rfl, h2⟩ := hc
      have hl : (lane (headOf t)).val = (headOf t).val := rfl
      rw [if_pos ⟨rfl, h2⟩, if_pos (by omega), lanes, dif_pos (by omega)]
      rfl
    · rw [if_neg hc, if_neg fun e => hc ⟨Fin.ext (by show l.val = (headOf t).val; omega), by omega⟩]
  intro t
  induction t with
  | zero =>
    intro _
    obtain ⟨u, hu⟩ : ∃ u : Fin cfg0.N, u.val = 0 := ⟨⟨0, lt_of_lt_of_eq (by omega) N_0.symm⟩, rfl⟩
    have e := leave_odg (s := track m c u.val) (R u) j l
    have e0 : headOf u = 0 := Fin.ext ((headOf_val u).trans (by rw [hu]; rfl))
    have e1 : blockOf u = 0 := Fin.ext ((blockOf_val u).trans (by rw [hu]; rfl))
    rw [step, if_pos ⟨e0, e1⟩, zero_add, ← track_succ, hu] at e
    rw [e]
    congr 1
    by_cases h : 8 * l.val + j.val / 512 = 0
    · rw [if_pos h, if_pos (by omega)]
    · rw [if_neg h, if_neg (by omega)]
  | succ t ih =>
    intro ht
    obtain ⟨u, hu⟩ : ∃ u : Fin cfg0.N, u.val = t + 1 := ⟨⟨t + 1, lt_of_lt_of_eq (by omega) N_0.symm⟩, rfl⟩
    have e := leave_odg (s := track m c u.val) (R u) j l
    have hne : ¬ (headOf u = 0 ∧ blockOf u = 0) := fun hh => by
      have a := headOf_val u
      have b := blockOf_val u
      rw [hh.1, hu] at a
      rw [hh.2, hu] at b
      have a' : 0 = (t + 1) / 8 := a
      have b' : 0 = (t + 1) % 8 := b
      omega
    rw [step, if_neg hne, ← track_succ, hu, ih (by omega), ← EReal.coe_add] at e
    rw [e]
    congr 1
    rcases lt_trichotomy (8 * l.val + j.val / 512) (t + 1) with h | h | h
    · rw [if_pos h, if_neg (by omega), if_pos (by omega), add_zero]
    · rw [if_neg (by omega), if_pos h, if_pos (by omega), zero_add]
    · rw [if_neg (by omega), if_neg (by omega), if_neg (by omega), add_zero]

theorem odg_at (R : AllRead m c D) (j : Fin 4096) (l : Fin 128) : (track m c 256).odg (ix2 j l) = ((lanes D j l : ℝ) : EReal) := by
  refine (odg_upto R j l 255 (by omega)).trans ?_
  congr 1
  by_cases h : 8 * l.val + j.val / 512 < 255 + 1
  · rw [if_pos h]
  · rw [if_neg h, lanes, dif_neg (by have := j.isLt; omega)]

end Cert.KernelIdeal.Fox

end

end
-- ==== Proof.Inputs.lean ====
/-
  The blocks the kernel reads, as numbers: every grid point is handed its own keys and values, and every query's part.
-/
module

public import proofs.«01_k».proof.Proof.Host
public import proofs.«01_k».proof.Proof.Total

@[expose] public section

set_option maxRecDepth 16384

noncomputable section

namespace Cert.KernelIdeal.Fox

open Idealize.ShloMosaic Idealize.ShloMosaic.TcCoe Idealize.ShloMosaic.ValueIdx Idealize.ShloMosaic.Tactic
open Cert.KernelIdeal Cert.KernelIdeal.Gen
open Cert.ReferenceIdeal.Read
open Cert.Fox

theorem idx0 : ∀ t : Fin cfg0.N, win0_0.index t = ![t.val % 8, 32 + t.val / 8] := by decide +kernel
theorem idx1 : ∀ t : Fin cfg0.N, win0_1.index t = ![t.val % 8, 64 + t.val / 8] := by decide +kernel
theorem idx2 : ∀ t : Fin cfg0.N, win0_2.index t = ![0, t.val / 8] := by decide +kernel
theorem idx3 : ∀ t : Fin cfg0.N, win0_3.index t = ![0, t.val / 8] := by decide +kernel
theorem idx4 : ∀ t : Fin cfg0.N, win0_4.index t = ![t.val % 8, 0] := by decide +kernel
theorem idx5 : ∀ t : Fin cfg0.N, win0_5.index t = ![t.val / 8, 0, 0] := by decide +kernel
theorem idx6 : ∀ t : Fin cfg0.N, win0_6.index t = ![t.val / 8, 0, 0] := by decide +kernel
theorem idx7 : ∀ t : Fin cfg0.N, win0_7.index t = ![t.val / 8, 0, 0] := by decide +kernel

variable {m : (ℓ : Loc nD τ sig) → Buf (Elt Ideal) ℓ} {c : Dev nD} {D : Fin 32 → Head}

theorem reads_k (G : Given (m ((c : Thread nD τ).loc main_arg0)) (m ((c : Thread nD τ).loc main_arg1)) (m ((c : Thread nD τ).loc main_arg2)) D)
    (t : Fin cfg0.N) (a : Fin 512) (d : Fin 128) :
    (ins m c t).k (ValueIdx.ix2 a d) = ((((D (headOf t)).k (pos (blockOf t) a) d : ℝ)) : EReal) := by
  refine Eq.trans ?_ (G.k (pos (blockOf t) a) (headOf t) d)
  have e0 : ((win0_0.blk t).view.emb (ValueIdx.ix2 a d) 0 : ℕ) = t.val % 8 * 512 + a.val := by blk_simp [idx0]; rfl
  have e1 : ((win0_0.blk t).view.emb (ValueIdx.ix2 a d) 1 : ℕ) = (32 + t.val / 8) * 128 + d.val := by blk_simp [idx0]; rfl
  have hh := headOf_val t
  have hb := blockOf_val t
  show iblk m c 0 t (ValueIdx.ix2 a d) = _
  blk_simp [iblk]
  refine (congrFun (V_main_arg0 m c) _).trans (congrArg (m ((c : Thread nD τ).loc main_arg0)) (funext fun x => Fin.ext ?_))
  match x with
  | ⟨0, _⟩ => refine e0.trans ?_; show _ = 512 * (blockOf t).val + a.val; omega
  | ⟨1, _⟩ => refine e1.trans ?_; show _ = 4096 + (128 * (headOf t).val + d.val); omega

theorem reads_v (G : Given (m ((c : Thread nD τ).loc main_arg0)) (m ((c : Thread nD τ).loc main_arg1)) (m ((c : Thread nD τ).loc main_arg2)) D)
    (t : Fin cfg0.N) (a : Fin 512) (d : Fin 128) :
    (ins m c t).v (ValueIdx.ix2 a d) = ((((D (headOf t)).v (pos (blockOf t) a) d : ℝ)) : EReal) := by
  refine Eq.trans ?_ (G.v (pos (blockOf t) a) (headOf t) d)
  have e0 : ((win0_1.blk t).view.emb (ValueIdx.ix2 a d) 0 : ℕ) = t.val % 8 * 512 + a.val := by blk_simp [idx1]; rfl
  have e1 : ((win0_1.blk t).view.emb (ValueIdx.ix2 a d) 1 : ℕ) = (64 + t.val / 8) * 128 + d.val := by blk_simp [idx1]; rfl
  have hh := headOf_val t
  have hb := blockOf_val t
  show iblk m c 1 t (ValueIdx.ix2 a d) = _
  blk_simp [iblk]
  refine (congrFun (V_main_arg0 m c) _).trans (congrArg (m ((c : Thread nD τ).loc main_arg0)) (funext fun x => Fin.ext ?_))
  match x with
  | ⟨0, _⟩ => refine e0.trans ?_; show _ = 512 * (blockOf t).val + a.val; omega
  | ⟨1, _⟩ => refine e1.trans ?_; show _ = 8192 + (128 * (headOf t).val + d.val); omega

theorem reads_q (G : Given (m ((c : Thread nD τ).loc main_arg0)) (m ((c : Thread nD τ).loc main_arg1)) (m ((c : Thread nD τ).loc main_arg2)) D)
    (t : Fin cfg0.N) (i : Fin 4096) (d : Fin 128) :
    (ins m c t).q (ValueIdx.ix2 i d) = ((((D (headOf t)).q i d : ℝ)) : EReal) := by
  refine Eq.trans ?_ (G.q i (headOf t) d)
  have e0 : ((win0_2.blk t).view.emb (ValueIdx.ix2 i d) 0 : ℕ) = 0 * 4096 + i.val := by blk_simp [idx2]; rfl
  have e1 : ((win0_2.blk t).view.emb (ValueIdx.ix2 i d) 1 : ℕ) = t.val / 8 * 128 + d.val := by blk_simp [idx2]; rfl
  have hh := headOf_val t
  have hb := blockOf_val t
  show iblk m c 2 t (ValueIdx.ix2 i d) = _
  blk_simp [iblk]
  refine (congrFun (V_main_arg0 m c) _).trans (congrArg (m ((c : Thread nD τ).loc main_arg0)) (funext fun x => Fin.ext ?_))
  match x with
  | ⟨0, _⟩ => refine e0.trans ?_; show _ = i.val; omega
  | ⟨1, _⟩ => refine e1.trans ?_; show _ = 128 * (headOf t).val + d.val; omega

theorem reads_o (G : Given (m ((c : Thread nD τ).loc main_arg0)) (m ((c : Thread nD τ).loc main_arg1)) (m ((c : Thread nD τ).loc main_arg2)) D)
    (t : Fin cfg0.N) (i : Fin 4096) (d : Fin 128) :
    (ins m c t).o (ValueIdx.ix2 i d) = ((((D (headOf t)).g i d : ℝ)) : EReal) := by
  refine Eq.trans ?_ (G.g i (headOf t) d)
  have e0 : ((win0_3.blk t).view.emb (ValueIdx.ix2 i d) 0 : ℕ) = 0 * 4096 + i.val := by blk_simp [idx3]; rfl
  have e1 : ((win0_3.blk t).view.emb (ValueIdx.ix2 i d) 1 : ℕ) = t.val / 8 * 128 + d.val := by blk_simp [idx3]; rfl
  have hh := headOf_val t
  have hb := blockOf_val t
  show iblk m c 3 t (ValueIdx.ix2 i d) = _
  blk_simp [iblk]
  refine (congrFun (V_main_arg1 m c) _).trans (congrArg (m ((c : Thread nD τ).loc main_arg1)) (funext fun x => Fin.ext ?_))
  match x with
  | ⟨0, _⟩ => refine e0.trans ?_; show _ = i.val; omega
  | ⟨1, _⟩ => refine e1.trans ?_; show _ = 128 * (headOf t).val + d.val; omega

theorem reads_fn (G : Given (m ((c : Thread nD τ).loc main_arg0)) (m ((c : Thread nD τ).loc main_arg1)) (m ((c : Thread nD τ).loc main_arg2)) D)
    (t : Fin cfg0.N) (a : Fin 512) :
    (ins m c t).fn (ValueIdx.ix2 a (lane (headOf t))) = ((((D (headOf t)).f (pos (blockOf t) a) : ℝ)) : EReal) := by
  refine Eq.trans ?_ (G.f (pos (blockOf t) a) (headOf t))
  have e0 : ((win0_4.blk t).view.emb (ValueIdx.ix2 a (lane (headOf t))) 0 : ℕ) = t.val % 8 * 512 + a.val := by blk_simp [idx4]; rfl
  have e1 : ((win0_4.blk t).view.emb (ValueIdx.ix2 a (lane (headOf t))) 1 : ℕ) = 0 * 128 + (headOf t).val := by blk_simp [idx4]; rfl
  have hh := headOf_val t
  have hb := blockOf_val t
  show iblk m c 4 t (ValueIdx.ix2 a (lane (headOf t))) = _
  blk_simp [iblk]
  refine (congrFun (V_main_arg2 m c) _).trans (congrArg (m ((c : Thread nD τ).loc main_arg2)) (funext fun x => Fin.ext ?_))
  match x with
  | ⟨0, _⟩ => refine e0.trans ?_; show _ = 512 * (blockOf t).val + a.val; omega
  | ⟨1, _⟩ => refine e1.trans ?_; show _ = (headOf t).val; omega

theorem row5 (t : Fin cfg0.N) (i : Fin 4096) :
    (win0_5.blk t).view.emb (ValueIdx.ix3 (0 : Fin 1) (0 : Fin 1) i) = (ValueIdx.ix3 (headOf t) (0 : Fin 1) i : S32x1x4096.Idx) := by
  have e0 : ((win0_5.blk t).view.emb (ValueIdx.ix3 (0 : Fin 1) (0 : Fin 1) i) 0 : ℕ) = t.val / 8 * 1 + 0 := by blk_simp [idx5]
  have e1 : ((win0_5.blk t).view.emb (ValueIdx.ix3 (0 : Fin 1) (0 : Fin 1) i) 1 : ℕ) = 0 * 1 + 0 := by blk_simp [idx5]
  have e2 : ((win0_5.blk t).view.emb (ValueIdx.ix3 (0 : Fin 1) (0 : Fin 1) i) 2 : ℕ) = 0 * 4096 + i.val := by blk_simp [idx5]; rfl
  have hh := headOf_val t
  refine funext fun x => Fin.ext ?_
  match x with
  | ⟨0, _⟩ => refine e0.trans ?_; show _ = (headOf t).val; omega
  | ⟨1, _⟩ => refine e1.trans ?_; show _ = 0; omega
  | ⟨2, _⟩ => refine e2.trans ?_; show _ = i.val; omega

theorem row6 (t : Fin cfg0.N) (i : Fin 4096) :
    (win0_6.blk t).view.emb (ValueIdx.ix3 (0 : Fin 1) (0 : Fin 1) i) = (ValueIdx.ix3 (headOf t) (0 : Fin 1) i : S32x1x4096.Idx) := by
  have e0 : ((win0_6.blk t).view.emb (ValueIdx.ix3 (0 : Fin 1) (0 : Fin 1) i) 0 : ℕ) = t.val / 8 * 1 + 0 := by blk_simp [idx6]
  have e1 : ((win0_6.blk t).view.emb (ValueIdx.ix3 (0 : Fin 1) (0 : Fin 1) i) 1 : ℕ) = 0 * 1 + 0 := by blk_simp [idx6]
  have e2 : ((win0_6.blk t).view.emb (ValueIdx.ix3 (0 : Fin 1) (0 : Fin 1) i) 2 : ℕ) = 0 * 4096 + i.val := by blk_simp [idx6]; rfl
  have hh := headOf_val t
  refine funext fun x => Fin.ext ?_
  match x with
  | ⟨0, _⟩ => refine e0.trans ?_; show _ = (headOf t).val; omega
  | ⟨1, _⟩ => refine e1.trans ?_; show _ = 0; omega
  | ⟨2, _⟩ => refine e2.trans ?_; show _ = i.val; omega

theorem row7 (t : Fin cfg0.N) (i : Fin 4096) :
    (win0_7.blk t).view.emb (ValueIdx.ix3 (0 : Fin 1) (0 : Fin 1) i) = (ValueIdx.ix3 (headOf t) (0 : Fin 1) i : S32x1x4096.Idx) := by
  have e0 : ((win0_7.blk t).view.emb (ValueIdx.ix3 (0 : Fin 1) (0 : Fin 1) i) 0 : ℕ) = t.val / 8 * 1 + 0 := by blk_simp [idx7]
  have e1 : ((win0_7.blk t).view.emb (ValueIdx.ix3 (0 : Fin 1) (0 : Fin 1) i) 1 : ℕ) = 0 * 1 + 0 := by blk_simp [idx7]
  have e2 : ((win0_7.blk t).view.emb (ValueIdx.ix3 (0 : Fin 1) (0 : Fin 1) i) 2 : ℕ) = 0 * 4096 + i.val := by blk_simp [idx7]; rfl
  have hh := headOf_val t
  refine funext fun x => Fin.ext ?_
  match x with
  | ⟨0, _⟩ => refine e0.trans ?_; show _ = (headOf t).val; omega
  | ⟨1, _⟩ => refine e1.trans ?_; show _ = 0; omega
  | ⟨2, _⟩ => refine e2.trans ?_; show _ = i.val; omega

theorem row5_read (X : S32x1x4096.Idx → EReal) (t : Fin cfg0.N) (i : Fin 4096) :
    ((cfg0.win 5).blk t).view.read (Elt Ideal) X (ValueIdx.ix3 (0 : Fin 1) (0 : Fin 1) i) = X (ValueIdx.ix3 (headOf t) (0 : Fin 1) i) := by
  blk_simp
  rw [row5]

theorem row5_from (t : Fin cfg0.N) : iblk m c 5 t = ((cfg0.win 5).blk t).view.read (Elt Ideal) (V m c main_v50) := by
  unfold iblk
  rfl

theorem row6_read (X : S32x1x4096.Idx → EReal) (t : Fin cfg0.N) (i : Fin 4096) :
    ((cfg0.win 6).blk t).view.read (Elt Ideal) X (ValueIdx.ix3 (0 : Fin 1) (0 : Fin 1) i) = X (ValueIdx.ix3 (headOf t) (0 : Fin 1) i) := by
  blk_simp
  rw [row6]

theorem row6_from (t : Fin cfg0.N) : iblk m c 6 t = ((cfg0.win 6).blk t).view.read (Elt Ideal) (V m c main_v51) := by
  unfold iblk
  rfl

theorem row7_read (X : S32x1x4096.Idx → EReal) (t : Fin cfg0.N) (i : Fin 4096) :
    ((cfg0.win 7).blk t).view.read (Elt Ideal) X (ValueIdx.ix3 (0 : Fin 1) (0 : Fin 1) i) = X (ValueIdx.ix3 (headOf t) (0 : Fin 1) i) := by
  blk_simp
  rw [row7]

theorem row7_from (t : Fin cfg0.N) : iblk m c 7 t = ((cfg0.win 7).blk t).view.read (Elt Ideal) (V m c main_v52) := by
  unfold iblk
  rfl

/-- A query's number, laid out with a unit axis. -/
theorem laid (X : S32x1x4096.Idx → EReal) (L : S32x4096.Idx → EReal)
    (hX : X = broadcastInDim S32x1x4096 ![0, 2] bcast_S32x4096_S32x1x4096_0_2 L) (h : Fin 32) (i : Fin 4096) (r : EReal)
    (hr : L (ValueIdx.ix2 h i) = r) : X (ValueIdx.ix3 h (0 : Fin 1) i) = r := by
  rw [hX]
  exact (lane_apply L h i).trans hr

theorem reads_ft (G : Given (m ((c : Thread nD τ).loc main_arg0)) (m ((c : Thread nD τ).loc main_arg1)) (m ((c : Thread nD τ).loc main_arg2)) D)
    (t : Fin cfg0.N) (i : Fin 4096) :
    (ins m c t).ft (ValueIdx.ix3 (0 : Fin 1) (0 : Fin 1) i) = (((D (headOf t)).f i : ℝ) : EReal) := by
  refine Eq.trans ?_ (G.f i (headOf t))
  show iblk m c 5 t (ValueIdx.ix3 (0 : Fin 1) (0 : Fin 1) i) = _
  rw [row5_from, V_forget]
  refine (row5_read _ t i).trans ?_
  rw [val_main_v18_apply, val_main_v17_apply, val_main_v3_apply]
  refine congrArg (m ((c : Thread nD τ).loc main_arg2)) (funext fun x => Fin.ext ?_)
  match x with
  | ⟨0, _⟩ => rfl
  | ⟨1, _⟩ => rfl

theorem reads_lse (G : Given (m ((c : Thread nD τ).loc main_arg0)) (m ((c : Thread nD τ).loc main_arg1)) (m ((c : Thread nD τ).loc main_arg2)) D)
    (T : Tops (m ((c : Thread nD τ).loc main_arg0)) (m ((c : Thread nD τ).loc main_arg2)) D)
    (t : Fin cfg0.N) (i : Fin 4096) :
    (ins m c t).lse (ValueIdx.ix3 (0 : Fin 1) (0 : Fin 1) i) = (((D (headOf t)).M i + Real.log ((D (headOf t)).z i) : ℝ) : EReal) := by
  show iblk m c 6 t (ValueIdx.ix3 (0 : Fin 1) (0 : Fin 1) i) = _
  rw [row6_from]
  exact (row6_read _ t i).trans (laid _ _ (V_log m c) _ _ _ (logOf_at G T (headOf t) i))

theorem reads_dl (G : Given (m ((c : Thread nD τ).loc main_arg0)) (m ((c : Thread nD τ).loc main_arg1)) (m ((c : Thread nD τ).loc main_arg2)) D)
    (T : Tops (m ((c : Thread nD τ).loc main_arg0)) (m ((c : Thread nD τ).loc main_arg2)) D)
    (t : Fin cfg0.N) (i : Fin 4096) :
    (ins m c t).dl (ValueIdx.ix3 (0 : Fin 1) (0 : Fin 1) i) = (((D (headOf t)).Δ i : ℝ) : EReal) := by
  show iblk m c 7 t (ValueIdx.ix3 (0 : Fin 1) (0 : Fin 1) i) = _
  rw [row7_from]
  exact (row7_read _ t i).trans (laid _ _ (V_tot m c) _ _ _ (totOf_at G T (headOf t) i))

/-- Every point reads its head. -/
theorem allRead (G : Given (m ((c : Thread nD τ).loc main_arg0)) (m ((c : Thread nD τ).loc main_arg1)) (m ((c : Thread nD τ).loc main_arg2)) D)
    (T : Tops (m ((c : Thread nD τ).loc main_arg0)) (m ((c : Thread nD τ).loc main_arg2)) D) : AllRead m c D := fun t =>
  { c := G.c (headOf t), k := reads_k G t, v := reads_v G t, q := reads_q G t, o := reads_o G t, fn := reads_fn G t,
    ft := reads_ft G t, lse := reads_lse G T t, dl := reads_dl G T t }

end Cert.KernelIdeal.Fox

end
-- ==== Proof.Finite.lean ====
/-
  The heads' numbers, taken from arguments that hold nothing infinite where they are read.
-/
module

public import proofs.«01_k».proof.Defs
public import proofs.«01_k».proof.Proof.Reference
public import proofs.«01_k».proof.Proof.Gen.Pre_finite

@[expose] public section

set_option maxRecDepth 16384

noncomputable section

namespace Cert.Fox

open Idealize.ShloMosaic Idealize.ShloMosaic.TcCoe Idealize.ShloMosaic.ValueIdx
open Cert.ReferenceIdeal Cert.ReferenceIdeal.Gen Cert.ReferenceIdeal.Read

theorem top_bf16 : (Ideal.ofBits .bf16 0x7F80#16 : EReal) = ⊤ := by simp [Ideal.ofBits, Ideal.ieee]
theorem top_f32 : (Ideal.ofBits .f32 0x7F800000#32 : EReal) = ⊤ := by simp [Ideal.ofBits, Ideal.ieee]

/-- The scale is a number. -/
theorem scale_real : (Ideal.ofBits .f32 0x3DB504F3#32 : EReal) = (((Ideal.ofBits .f32 0x3DB504F3#32 : EReal).toReal : ℝ) : EReal) := by
  have h : ∃ r : ℝ, (Ideal.ofBits .f32 0x3DB504F3#32 : EReal) = (r : EReal) := by
    simp only [Ideal.ofBits, Ideal.ieee]
    simp
    exact ⟨11863283 * ((2 : ℝ) ^ 27)⁻¹, by push_cast; rfl⟩
  obtain ⟨r, hr⟩ := h
  rw [hr, EReal.toReal_coe]

/-- A magnitude under infinity is a number's. -/
theorem real_of_lt (x : EReal) (h : max x (-x) < ⊤) : x = ((x.toReal : ℝ) : EReal) := by
  refine (EReal.coe_toReal (ne_of_lt (lt_of_le_of_lt (le_max_left _ _) h)) fun hb => ?_).symm
  rw [hb] at h
  simp at h

theorem ofBool_one {p : Bool} (h : BitVec.ofBool p = 1#1) : p = true := by cases p <;> simp_all

/-- One entry of a comparison against infinity that holds. -/
theorem real_of_cmp (φ : FTy) (x y : Ideal φ) (hy : (y : EReal) = ⊤) (h : FloatOps.cmpf (F := Ideal) .olt (FloatOps.hostAbsf x) y = 1#1) :
    (x : EReal) = (((x : EReal).toReal : ℝ) : EReal) := by
  have h' : BitVec.ofBool (decide ((max x (-x) : EReal) < y)) = 1#1 := h
  rw [hy] at h'
  exact real_of_lt _ (of_decide_eq_true (ofBool_one h'))

variable (x0 : S4096x16384.Idx → EReal) (x1 : S4096x4096.Idx → EReal) (x2 : S4096x128.Idx → EReal)

/-- The heads read off the arguments, their rows shifted by `M`. -/
def headsWith (M : S32x4096.Idx → EReal) (h : Fin 32) : Head where
  q i d := (x0 (ix2 i (colq h d))).toReal
  k i d := (x0 (ix2 i (colk h d))).toReal
  v i d := (x0 (ix2 i (colv h d))).toReal
  g i d := (x1 (ix2 i (colg h d))).toReal
  f i := (x2 (ix2 i (colf h))).toReal
  c := (Ideal.ofBits .f32 0x3DB504F3#32 : EReal).toReal
  M i := (M (ix2 h i)).toReal

/-- The heads whose rows are shifted by their largest scores. -/
def headsOf : Fin 32 → Head := headsWith x0 x1 x2 (val_main_v31 (F := Ideal) x0 x2)

/-- The precondition of the claim, of three arrays. -/
def AllFinite : Prop :=
  (Cert.Pre_finite.fn (F := Ideal) x0 x1 x2).1 = (fun _ => 1#1)
    ∧ (Cert.Pre_finite.fn (F := Ideal) x0 x1 x2).2.1 = (fun _ => 1#1)
    ∧ (Cert.Pre_finite.fn (F := Ideal) x0 x1 x2).2.2 = (fun _ => 1#1)

variable {x0 x1 x2}

theorem real0 (h : AllFinite x0 x1 x2) (i : Fin 4096) (n : Fin 12288) :
    x0 (ix2 i ⟨n.val, by omega⟩) = (((x0 (ix2 i ⟨n.val, by omega⟩) : EReal).toReal : ℝ) : EReal) := by
  have e := congrFun h.1 (ix2 i n)
  have hx : extractStridedSlice Cert.Pre_finite.S4096x12288 ![0, 0] x0 Cert.Pre_finite.Gen.facts.slices_S4096x16384_S4096x12288_0_0 (ix2 i n)
      = x0 (ix2 i ⟨n.val, by omega⟩) :=
    extractStridedSlice_apply ![0, 0] x0 _ _ _ (fun a => match a with
      | ⟨0, _⟩ => by show i.val = 0 + i.val; omega
      | ⟨1, _⟩ => by show n.val = 0 + n.val; omega)
  rw [← hx]
  exact real_of_cmp .bf16 _ _ top_bf16 e

theorem real1 (h : AllFinite x0 x1 x2) (i : Fin 4096) (n : Fin 4096) : x1 (ix2 i n) = (((x1 (ix2 i n) : EReal).toReal : ℝ) : EReal) :=
  real_of_cmp .bf16 _ _ top_bf16 (congrFun h.2.1 (ix2 i n))

theorem real2 (h : AllFinite x0 x1 x2) (i : Fin 4096) (n : Fin 32) :
    x2 (ix2 i ⟨n.val, by omega⟩) = (((x2 (ix2 i ⟨n.val, by omega⟩) : EReal).toReal : ℝ) : EReal) := by
  have e := congrFun h.2.2 (ix2 i n)
  have hx : extractStridedSlice Cert.Pre_finite.S4096x32 ![0, 0] x2 Cert.Pre_finite.Gen.facts.slices_S4096x128_S4096x32_0_0 (ix2 i n)
      = x2 (ix2 i ⟨n.val, by omega⟩) :=
    extractStridedSlice_apply ![0, 0] x2 _ _ _ (fun a => match a with
      | ⟨0, _⟩ => by show i.val = 0 + i.val; omega
      | ⟨1, _⟩ => by show n.val = 0 + n.val; omega)
  rw [← hx]
  exact real_of_cmp .f32 _ _ top_f32 e

theorem given (h : AllFinite x0 x1 x2) : Given x0 x1 x2 (headsOf x0 x1 x2) where
  c _ := scale_real
  q i e d := real0 h i ⟨128 * e.val + d.val, by omega⟩
  k i e d := real0 h i ⟨4096 + (128 * e.val + d.val), by omega⟩
  v i e d := real0 h i ⟨8192 + (128 * e.val + d.val), by omega⟩
  g i e d := real1 h i _
  f i e := real2 h i e

theorem shift_eq (M : S32x4096.Idx → EReal) (y : S32x4096.Idx) (h : M y = (((M y).toReal : ℝ) : EReal)) :
    M y = (((headsWith x0 x1 x2 M (y 0)).M (y 1) : ℝ) : EReal) :=
  h.trans (congrArg (fun z : S32x4096.Idx => (((M z).toReal : ℝ) : EReal)) (eq_ix2 y))

theorem tops (h : AllFinite x0 x1 x2) : Tops x0 x2 (headsOf x0 x1 x2) := fun y =>
  shift_eq (val_main_v31 (F := Ideal) x0 x2) y (top_real (given h) y)

end Cert.Fox

end
-- ==== Proof.Out.lean ====
/-
  The result arrays after the run, as numbers: every block is written back where its head and key block place it.
-/
module

public import proofs.«01_k».proof.Proof.Total
public import Idealize.ShloMosaic.Lib.Pipeline.ValueKit

@[expose] public section

set_option maxRecDepth 16384

noncomputable section

namespace Cert.KernelIdeal.Fox

open Idealize.ShloMosaic Idealize.ShloMosaic.TcCoe Idealize.ShloMosaic.ValueIdx Idealize.ShloMosaic.Tactic
open Cert.KernelIdeal Cert.KernelIdeal.Gen
open Cert.Fox

/-- The head of a column of a heads-side-by-side array, and the place in it. -/
def hd (n : Fin 4096) : Fin 32 := ⟨n.val / 128, by omega⟩
def dm (n : Fin 4096) : Fin 128 := ⟨n.val % 128, by omega⟩

variable (D : Fin 32 → Head)

def outK : S4096x4096.Idx → EReal := fun y => (((D (hd (y 1))).dk (y 0) (dm (y 1)) : ℝ) : EReal)
def outV : S4096x4096.Idx → EReal := fun y => (((D (hd (y 1))).dv (y 0) (dm (y 1)) : ℝ) : EReal)
def outQ : S4096x4096.Idx → EReal := fun y => (((D (hd (y 0))).dq (y 1) (dm (y 0)) : ℝ) : EReal)
def outF : S32x1x4096.Idx → EReal := fun y => (((D (y 0)).dfq (y 2) : ℝ) : EReal)
def outG : S4096x128.Idx → EReal := fun y => ((lanes D (y 0) (y 1) : ℝ) : EReal)

variable {m : (ℓ : Loc nD τ sig) → Buf (Elt Ideal) ℓ} {c : Dev nD} {D}

theorem idx8 : ∀ t : Fin cfg0.N, win0_8.index t = ![t.val % 8, t.val / 8] := by decide +kernel
theorem idx9 : ∀ t : Fin cfg0.N, win0_9.index t = ![t.val % 8, t.val / 8] := by decide +kernel
theorem idx10 : ∀ t : Fin cfg0.N, win0_10.index t = ![t.val / 8, 0] := by decide +kernel
theorem idx11 : ∀ t : Fin cfg0.N, win0_11.index t = ![t.val / 8, 0, 0] := by decide +kernel

theorem arr8 (R : AllRead m c D) : (dats m 0 c).arrAt 8 cfg0.N = outK D := by
  refine (dats m 0 c).arrAt_eq_of_covers 8 _ (by decide +kernel) fun t hf y => ?_
  blk_simp
  rw [holds8]
  obtain ⟨a, b, rfl⟩ : ∃ (a : Fin 512) (b : Fin 128), y = ValueIdx.ix2 a b := ⟨y 0, y 1, ValueIdx.eq_ix2 y⟩
  refine (odk_at R t a b).trans ?_
  have e0 : ((win0_8.blk t).view.emb (ValueIdx.ix2 a b) 0 : ℕ) = t.val % 8 * 512 + a.val := by blk_simp [idx8]; rfl
  have e1 : ((win0_8.blk t).view.emb (ValueIdx.ix2 a b) 1 : ℕ) = t.val / 8 * 128 + b.val := by blk_simp [idx8]; rfl
  have hh := headOf_val t
  have hb := blockOf_val t
  have h1 : hd ((win0_8.blk t).view.emb (ValueIdx.ix2 a b) 1) = headOf t := Fin.ext (by show _ / 128 = _; omega)
  have h2 : dm ((win0_8.blk t).view.emb (ValueIdx.ix2 a b) 1) = b := Fin.ext (by show _ % 128 = _; omega)
  have h3 : (win0_8.blk t).view.emb (ValueIdx.ix2 a b) 0 = pos (blockOf t) a := Fin.ext (by rw [e0]; show _ = 512 * (blockOf t).val + a.val; omega)
  unfold outK
  rw [h1, h2, h3]

theorem arr9 (R : AllRead m c D) : (dats m 0 c).arrAt 9 cfg0.N = outV D := by
  refine (dats m 0 c).arrAt_eq_of_covers 9 _ (by decide +kernel) fun t hf y => ?_
  blk_simp
  rw [holds9]
  obtain ⟨a, b, rfl⟩ : ∃ (a : Fin 512) (b : Fin 128), y = ValueIdx.ix2 a b := ⟨y 0, y 1, ValueIdx.eq_ix2 y⟩
  refine (odv_at R t a b).trans ?_
  have e0 : ((win0_9.blk t).view.emb (ValueIdx.ix2 a b) 0 : ℕ) = t.val % 8 * 512 + a.val := by blk_simp [idx9]; rfl
  have e1 : ((win0_9.blk t).view.emb (ValueIdx.ix2 a b) 1 : ℕ) = t.val / 8 * 128 + b.val := by blk_simp [idx9]; rfl
  have hh := headOf_val t
  have hb := blockOf_val t
  have h1 : hd ((win0_9.blk t).view.emb (ValueIdx.ix2 a b) 1) = headOf t := Fin.ext (by show _ / 128 = _; omega)
  have h2 : dm ((win0_9.blk t).view.emb (ValueIdx.ix2 a b) 1) = b := Fin.ext (by show _ % 128 = _; omega)
  have h3 : (win0_9.blk t).view.emb (ValueIdx.ix2 a b) 0 = pos (blockOf t) a := Fin.ext (by rw [e0]; show _ = 512 * (blockOf t).val + a.val; omega)
  unfold outV
  rw [h1, h2, h3]

theorem arr10 (R : AllRead m c D) : (dats m 0 c).arrAt 10 cfg0.N = outQ D := by
  refine (dats m 0 c).arrAt_eq_of_covers 10 _ (by decide +kernel) fun t hf y => ?_
  have ht := (flush0_10 t).1 hf
  blk_simp
  rw [holds10]
  obtain ⟨d, i, rfl⟩ : ∃ (d : Fin 128) (i : Fin 4096), y = ValueIdx.ix2 d i := ⟨y 0, y 1, ValueIdx.eq_ix2 y⟩
  refine (odq_at R t ht d i).trans ?_
  have e0 : ((win0_10.blk t).view.emb (ValueIdx.ix2 d i) 0 : ℕ) = t.val / 8 * 128 + d.val := by blk_simp [idx10]; rfl
  have e1 : ((win0_10.blk t).view.emb (ValueIdx.ix2 d i) 1 : ℕ) = i.val := by blk_simp [idx10]; rfl
  have hh := headOf_val t
  have h1 : hd ((win0_10.blk t).view.emb (ValueIdx.ix2 d i) 0) = headOf t := Fin.ext (by show _ / 128 = _; omega)
  have h2 : dm ((win0_10.blk t).view.emb (ValueIdx.ix2 d i) 0) = d := Fin.ext (by show _ % 128 = _; omega)
  have h3 : (win0_10.blk t).view.emb (ValueIdx.ix2 d i) 1 = i := Fin.ext e1
  unfold outQ
  rw [h1, h2, h3]

theorem arr11 (R : AllRead m c D) : (dats m 0 c).arrAt 11 cfg0.N = outF D := by
  refine (dats m 0 c).arrAt_eq_of_covers 11 _ (by decide +kernel) fun t hf y => ?_
  have ht := (flush0_11 t).1 hf
  blk_simp
  rw [holds11]
  obtain ⟨i, rfl⟩ : ∃ (i : Fin 4096), y = ValueIdx.ix3 (0 : Fin 1) (0 : Fin 1) i := ⟨y 2, funext fun b => by
    match b with
    | ⟨0, _⟩ => exact Subsingleton.elim (α := Fin 1) _ _
    | ⟨1, _⟩ => exact Subsingleton.elim (α := Fin 1) _ _
    | ⟨2, _⟩ => rfl⟩
  refine (odf_at R t ht i).trans ?_
  have e0 : ((win0_11.blk t).view.emb (ValueIdx.ix3 (0 : Fin 1) (0 : Fin 1) i) 0 : ℕ) = t.val / 8 := by blk_simp [idx11]
  have e1 : ((win0_11.blk t).view.emb (ValueIdx.ix3 (0 : Fin 1) (0 : Fin 1) i) 2 : ℕ) = i.val := by blk_simp [idx11]; rfl
  have hh := headOf_val t
  have h1 : (win0_11.blk t).view.emb (ValueIdx.ix3 (0 : Fin 1) (0 : Fin 1) i) 0 = headOf t := Fin.ext (e0.trans hh.symm)
  have h3 : (win0_11.blk t).view.emb (ValueIdx.ix3 (0 : Fin 1) (0 : Fin 1) i) 2 = i := Fin.ext e1
  unfold outF
  rw [h1, h3]

/-- The last point. -/
def final : Fin cfg0.N := ⟨255, lt_of_lt_of_eq (by omega) N_0.symm⟩

theorem arr12 (R : AllRead m c D) : (dats m 0 c).arrAt 12 cfg0.N = outG D := by
  refine (dats m 0 c).arrAt_eq_of_after_last 12 final (by decide +kernel) _ fun y => ?_
  have e : (dats m 0 c).after 12 final = (track m c 256).odg := holds12 m c final
  obtain ⟨j, l, rfl⟩ : ∃ (j : Fin 4096) (l : Fin 128), y = ValueIdx.ix2 j l := ⟨y 0, y 1, ValueIdx.eq_ix2 y⟩
  exact (congrFun e _).trans (odg_at R j l)

end Cert.KernelIdeal.Fox

end

end
-- ==== Proof.Values.lean ====
/-
  The two programs' results, as the same numbers.
-/
module

public import proofs.«01_k».proof.Proof.Inputs
public import proofs.«01_k».proof.Proof.Finite
public import proofs.«01_k».proof.Proof.Out
public import proofs.«01_k».proof.Proof.Gen.ReferenceIdeal.Run

@[expose] public section

set_option maxRecDepth 16384

noncomputable section

namespace Cert.Fox

open Idealize.ShloMosaic Idealize.ShloMosaic.TcCoe Idealize.SL.Sem
open Cert.KernelIdeal.Fox (outK outV outQ outF outG)

section Reference

open Cert.ReferenceIdeal Cert.ReferenceIdeal.Gen Cert.ReferenceIdeal.Read

variable {x0 : S4096x16384.Idx → EReal} {x1 : S4096x4096.Idx → EReal} {x2 : S4096x128.Idx → EReal} {D : Fin 32 → Head}

theorem ref_dk (G : Given x0 x1 x2 D) (T : Tops x0 x2 D) : val_main_v109 (F := Ideal) x0 x1 x2 = outK D := funext fun y => dk_apply G T y
theorem ref_dv (G : Given x0 x1 x2 D) (T : Tops x0 x2 D) : val_main_v76 (F := Ideal) x0 x1 x2 = outV D := funext fun y => dv_apply G T y
theorem ref_dq (G : Given x0 x1 x2 D) (T : Tops x0 x2 D) : val_main_v113 (F := Ideal) x0 x1 x2 = outQ D := funext fun y => dq_apply G T y
theorem ref_dfq (G : Given x0 x1 x2 D) (T : Tops x0 x2 D) : val_main_v115 (F := Ideal) x0 x1 x2 = outF D := funext fun y => dfq_apply G T y
theorem ref_dfk (G : Given x0 x1 x2 D) (T : Tops x0 x2 D) : val_main_v116 (F := Ideal) x0 x1 x2 = outG D := funext fun y => dfp_apply G T y

/-- The reference's results, from arguments that hold the heads' numbers. -/
theorem reference_values (m : (ℓ : Loc nD τ sig) → Buf (Elt Ideal) ℓ) (c : Dev nD)
    (e0 : m ((c.tc : Thread nD τ).loc main_arg0) = x0) (e1 : m ((c.tc : Thread nD τ).loc main_arg1) = x1)
    (e2 : m ((c.tc : Thread nD τ).loc main_arg2) = x2) (G : Given x0 x1 x2 D) (T : Tops x0 x2 D) :
    Value.res_main_v109 m c = outK D ∧ Value.res_main_v76 m c = outV D ∧ Value.res_main_v113 m c = outQ D
      ∧ Value.res_main_v115 m c = outF D ∧ Value.res_main_v116 m c = outG D := by
  subst e0 e1 e2
  exact ⟨(val_main_v109_eq m c).trans (ref_dk G T), (val_main_v76_eq m c).trans (ref_dv G T), (val_main_v113_eq m c).trans (ref_dq G T),
    (val_main_v115_eq m c).trans (ref_dfq G T), (val_main_v116_eq m c).trans (ref_dfk G T)⟩

end Reference

section Kernel

open Cert.KernelIdeal Cert.KernelIdeal.Gen Cert.KernelIdeal.Fox

variable (m : (ℓ : Loc nD τ sig) → Buf (Elt Ideal) ℓ)

variable {m} {r : PUnit × MemSt nD τ sig (Elt Ideal)}

theorem ends8 (h : Pipeline.FramePost cfgs (dats m) 0 (V m) r) (c : Dev nD) {D : Fin 32 → Head} (R : AllRead m c D) :
    r.2.mem ((c.tc : Thread nD τ).loc main_v53_0) = outK D := ((h c).1 8).trans (arr8 R)

theorem ends9 (h : Pipeline.FramePost cfgs (dats m) 0 (V m) r) (c : Dev nD) {D : Fin 32 → Head} (R : AllRead m c D) :
    r.2.mem ((c.tc : Thread nD τ).loc main_v53_1) = outV D := ((h c).1 9).trans (arr9 R)

theorem ends10 (h : Pipeline.FramePost cfgs (dats m) 0 (V m) r) (c : Dev nD) {D : Fin 32 → Head} (R : AllRead m c D) :
    r.2.mem ((c.tc : Thread nD τ).loc main_v53_2) = outQ D := ((h c).1 10).trans (arr10 R)

theorem ends11 (h : Pipeline.FramePost cfgs (dats m) 0 (V m) r) (c : Dev nD) {D : Fin 32 → Head} (R : AllRead m c D) :
    r.2.mem ((c.tc : Thread nD τ).loc main_v53_3) = outF D := ((h c).1 11).trans (arr11 R)

theorem ends12 (h : Pipeline.FramePost cfgs (dats m) 0 (V m) r) (c : Dev nD) {D : Fin 32 → Head} (R : AllRead m c D) :
    r.2.mem ((c.tc : Thread nD τ).loc main_v53_4) = outG D := ((h c).1 12).trans (arr12 R)

theorem keeps_arg0 (h : Pipeline.FramePost cfgs (dats m) 0 (V m) r) (c : Dev nD) :
    r.2.mem ((c.tc : Thread nD τ).loc main_arg0) = m ((c.tc : Thread nD τ).loc main_arg0) :=
  ((h c).1 2).trans (((dats m 0 c).arrAt_in 2 rfl _).trans ((A_eq m c 2).trans (V_main_arg0 m c)))

theorem keeps_arg1 (h : Pipeline.FramePost cfgs (dats m) 0 (V m) r) (c : Dev nD) :
    r.2.mem ((c.tc : Thread nD τ).loc main_arg1) = m ((c.tc : Thread nD τ).loc main_arg1) :=
  ((h c).1 3).trans (((dats m 0 c).arrAt_in 3 rfl _).trans ((A_eq m c 3).trans (V_main_arg1 m c)))

theorem keeps_arg2 (h : Pipeline.FramePost cfgs (dats m) 0 (V m) r) (c : Dev nD) :
    r.2.mem ((c.tc : Thread nD τ).loc main_arg2) = m ((c.tc : Thread nD τ).loc main_arg2) :=
  ((h c).1 4).trans (((dats m 0 c).arrAt_in 4 rfl _).trans ((A_eq m c 4).trans (V_main_arg2 m c)))

/-- The kernel's run, to the same numbers. -/
theorem kernel_run (m : (ℓ : Loc nD τ sig) → Buf (Elt Ideal) ℓ) (ρ : Dev nD → PrngReg) (D : Dev nD → Fin 32 → Head) (R : ∀ c, AllRead m c (D c)) :
    θ_run defs (onTc (τ := τ) (main (F := Ideal))) ⟨m, fun _ => 0, ρ⟩ (fun r => ∀ c : Dev nD,
      r.2.mem ((c.tc : Thread nD τ).loc main_v53_0) = outK (D c)
      ∧ r.2.mem ((c.tc : Thread nD τ).loc main_v53_1) = outV (D c)
      ∧ r.2.mem ((c.tc : Thread nD τ).loc main_v53_2) = outQ (D c)
      ∧ r.2.mem ((c.tc : Thread nD τ).loc main_v53_3) = outF (D c)
      ∧ r.2.mem ((c.tc : Thread nD τ).loc main_v53_4) = outG (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨ends8 h.1 c (R c), ends9 h.1 c (R c), ends10 h.1 c (R c), ends11 h.1 c (R c), ends12 h.1 c (R c),
    keeps_arg0 h.1 c, keeps_arg1 h.1 c, keeps_arg2 h.1 c⟩) (run_quiescent m ρ)

end Kernel

end Cert.Fox

end
-- ==== Proof.Calls.Proj0Weights.lean ====
/-
  The weight gradient of the first layer's projection: a block of it is one product over all rows.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.ValueLayout
public import Idealize.ShloMosaic.PureOps.Ideal.Laws

@[expose] public section

set_option maxRecDepth 16384

noncomputable section

namespace Cert.Kernel2Ideal.Product

open Idealize.ShloMosaic Idealize.ShloMosaic.TcCoe Idealize.ShloMosaic.ValueIdx Idealize.ShloMosaic.Tactic Idealize.SL.Sem
open Cert.Kernel2Ideal Cert.Kernel2Ideal.Gen Cert.Kernel2Ideal.Facts₀ Cert.Kernel2Ideal.Facts

/-! ## One block's product -/

/-- The contraction a point computes, as a sum. -/
theorem contract (x y : FVec Ideal S4096x1024 .bf16) (a b : Fin 1024) :
    matmul (F := Ideal) dot_S4096x1024_S4096x1024_S1024x1024_0_0_1_1_n_n none x y (constant S1024x1024 .f32 0x00000000#32) (ValueIdx.ix2 a b) = ∑ k : Fin 4096, x (ValueIdx.ix2 k a) * y (ValueIdx.ix2 k b) := by
  refine (Ideal.matmul_constant_zero_apply _ none x y _).trans ?_
  rw [← Equiv.sum_comp (contrEquiv1 dot_S4096x1024_S4096x1024_S1024x1024_0_0_1_1_n_n 4096 rfl rfl).symm]
  refine Finset.sum_congr rfl fun k _ => ?_
  have hk := contrEquiv1_symm_val dot_S4096x1024_S4096x1024_S1024x1024_0_0_1_1_n_n 4096 rfl rfl k
  congr 1
  · refine congrArg x (funext fun b => Fin.ext ?_)
    match b with
    | ⟨0, _⟩ => exact (dot_S4096x1024_S4096x1024_S1024x1024_0_0_1_1_n_n.lhsIdx_val_of_single rfl _ _).trans hk
    | ⟨1, _⟩ => exact rfl
  · refine congrArg y (funext fun b => Fin.ext ?_)
    match b with
    | ⟨0, _⟩ => exact (dot_S4096x1024_S4096x1024_S1024x1024_0_0_1_1_n_n.rhsIdx_val_of_single rfl _ _).trans hk
    | ⟨1, _⟩ => exact rfl

/-- What a point stores. -/
theorem tile (x y : FVec Ideal S4096x1024 .bf16) (a b : Fin 1024) :
    k0_pay1 (F := Ideal) x y (ValueIdx.ix3 (0 : Fin 1) a b) = ∑ k : Fin 4096, x (ValueIdx.ix2 k a) * y (ValueIdx.ix2 k b) := by
  unfold k0_pay1
  refine (shapeCast_ab_1ab_apply _ _ 0 a b).trans ?_
  exact contract x y a b

theorem hz : (![0, 0] : Fin 2 → ℕ) = fun _ => 0 := funext fun a => by fin_cases a <;> rfl
theorem hz3 : (![0, 0, 0] : Fin 3 → ℕ) = fun _ => 0 := funext fun a => by fin_cases a <;> rfl

/-- What the result's buffer holds after a point, from the two blocks the point reads. -/
theorem stored (x y : FVec Ideal S4096x1024 .bf16) : out0_2 (F := Ideal) x y = k0_pay1 (F := Ideal) x y := by
  unfold out0_2
  rw [View.canon_unit_zero hz3]
  simp only [View.ld_unit_zero (S := S4096x1024) hz]

/-! ## Where the blocks lie -/

theorem idx0 : ∀ t : Fin cfg0.N, win0_0.index t = ![0, t.val / 16] := by decide +kernel
theorem idx1 : ∀ t : Fin cfg0.N, win0_1.index t = ![0, t.val % 16] := by decide +kernel
theorem idx2 : ∀ t : Fin cfg0.N, win0_2.index t = ![t.val % 16 / 2, t.val / 16, t.val % 2] := by decide +kernel
theorem points (t : Fin cfg0.N) : t.val < 64 := lt_of_lt_of_eq t.isLt N_0

/-! ## The whole result -/

/-- The product, entry by entry. -/
def grad (x : S4096x4096.Idx → EReal) (y : S4096x16384.Idx → EReal) : S8x4096x2048.Idx → EReal := fun i =>
  ∑ k : Fin 4096, x (ValueIdx.ix2 k (i 1)) * y (ValueIdx.ix2 k ⟨2048 * (i 0).val + (i 2).val, by have h0 : (i 0).val < 8 := (i 0).isLt; have h2 : (i 2).val < 2048 := (i 2).isLt; show _ < 16384; omega⟩)

variable (m : (ℓ : Loc nD τ sig) → Buf (Elt Ideal) ℓ)

/-- The first argument's block at a point. -/
theorem block0 (c : Dev nD) (t : Fin cfg0.N) (a : Fin 1024) (k : Fin 4096) (j : S4096x4096.Idx)
    (h0 : (j 0).val = 0 * 4096 + k.val) (h1 : (j 1).val = t.val / 16 * 1024 + a.val) :
    iblk m c 0 t (ValueIdx.ix2 k a) = m ((c : Thread nD τ).loc main_arg0) j := by
  have e0 : ((win0_0.blk t).view.emb (ValueIdx.ix2 k a) 0 : ℕ) = 0 * 4096 + k.val := by blk_simp [idx0]; rfl
  have e1 : ((win0_0.blk t).view.emb (ValueIdx.ix2 k a) 1 : ℕ) = t.val / 16 * 1024 + a.val := by blk_simp [idx0]; rfl
  blk_simp [iblk]
  refine (congrFun (V_main_arg0 m c) _).trans (congrArg (m ((c : Thread nD τ).loc main_arg0)) (funext fun x => Fin.ext ?_))
  match x with
  | ⟨0, _⟩ => exact e0.trans h0.symm
  | ⟨1, _⟩ => exact e1.trans h1.symm

/-- The second argument's block at a point. -/
theorem block1 (c : Dev nD) (t : Fin cfg0.N) (b : Fin 1024) (k : Fin 4096) (j : S4096x16384.Idx)
    (h0 : (j 0).val = 0 * 4096 + k.val) (h1 : (j 1).val = t.val % 16 * 1024 + b.val) :
    iblk m c 1 t (ValueIdx.ix2 k b) = m ((c : Thread nD τ).loc main_arg1) j := by
  have e0 : ((win0_1.blk t).view.emb (ValueIdx.ix2 k b) 0 : ℕ) = 0 * 4096 + k.val := by blk_simp [idx1]; rfl
  have e1 : ((win0_1.blk t).view.emb (ValueIdx.ix2 k b) 1 : ℕ) = t.val % 16 * 1024 + b.val := by blk_simp [idx1]; rfl
  blk_simp [iblk]
  refine (congrFun (V_main_arg1 m c) _).trans (congrArg (m ((c : Thread nD τ).loc main_arg1)) (funext fun x => Fin.ext ?_))
  match x with
  | ⟨0, _⟩ => exact e0.trans h0.symm
  | ⟨1, _⟩ => exact e1.trans h1.symm

/-- The result array after the run is the product of the arguments. -/
theorem result (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  have ht := points t
  blk_simp
  rw [after0_2, stored]
  obtain ⟨a, b, rfl⟩ : ∃ (a b : Fin 1024), y = ValueIdx.ix3 (0 : Fin 1) a b := ⟨y 1, y 2, funext fun q => by
    match q with
    | ⟨0, _⟩ => exact Subsingleton.elim (α := Fin 1) _ _
    | ⟨1, _⟩ => rfl
    | ⟨2, _⟩ => rfl⟩
  refine (tile _ _ a b).trans ?_
  have e0 : ((win0_2.blk t).view.emb (ValueIdx.ix3 (0 : Fin 1) a b) 0 : ℕ) = t.val % 16 / 2 := by blk_simp [idx2]
  have e1 : ((win0_2.blk t).view.emb (ValueIdx.ix3 (0 : Fin 1) a b) 1 : ℕ) = t.val / 16 * 1024 + a.val := by blk_simp [idx2]; rfl
  have e2 : ((win0_2.blk t).view.emb (ValueIdx.ix3 (0 : Fin 1) a b) 2 : ℕ) = t.val % 2 * 1024 + b.val := by blk_simp [idx2]; rfl
  unfold grad
  refine Finset.sum_congr rfl fun k _ => ?_
  exact congrArg₂ (· * ·) (block0 m c t a k _ (by show k.val = _; omega) (by show (((win0_2.blk t).view.emb (ValueIdx.ix3 (0 : Fin 1) a b) 1 : ℕ)) = _; omega))
    (block1 m c t b k _ (by show k.val = _; omega)
      (by show 2048 * (((win0_2.blk t).view.emb (ValueIdx.ix3 (0 : Fin 1) a b) 0 : ℕ)) + (((win0_2.blk t).view.emb (ValueIdx.ix3 (0 : Fin 1) a b) 2 : ℕ)) = _; omega))

end Cert.Kernel2Ideal.Product

namespace Cert.Reference2Ideal.Product

open Idealize.ShloMosaic Idealize.ShloMosaic.TcCoe Idealize.ShloMosaic.ValueIdx Idealize.SL.Sem
open Cert.Reference2Ideal Cert.Reference2Ideal.Gen Cert.Reference2Ideal.Read Cert.Kernel2Ideal.Product

/-- The reference's gradient is the same product. -/
theorem reference (x : S4096x4096.Idx → EReal) (y : S4096x16384.Idx → EReal) : val_main_v12 (F := Ideal) x y = grad x y := by
  funext i
  rw [val_main_v12_apply, val_main_v11_apply, val_main_v10_apply, val_main_v9_apply, val_main_v8_apply]
  unfold grad
  refine Finset.sum_congr rfl fun k _ => ?_
  have h0 : (i 0).val < 8 := (i 0).isLt
  have h1 : (i 1).val < 4096 := (i 1).isLt
  have h2 : (i 2).val < 2048 := (i 2).isLt
  refine (mul_comm _ _).trans (congrArg₂ (· * ·) (congrArg x (funext fun q => Fin.ext ?_)) (congrArg y (funext fun q => Fin.ext ?_)))
  · match q with
    | ⟨0, _⟩ => rfl
    | ⟨1, _⟩ => show (((i 1).val * 8 + (i 0).val) * 2048 + (i 2).val) / 16384 = (i 1).val; omega
  · match q with
    | ⟨0, _⟩ => rfl
    | ⟨1, _⟩ => show (((i 1).val * 8 + (i 0).val) * 2048 + (i 2).val) % 16384 = 2048 * (i 0).val + (i 2).val; omega

end Cert.Reference2Ideal.Product

namespace Cert.Proof

open Idealize.ShloMosaic Idealize.ShloMosaic.TcCoe Idealize.SL.Sem

/-- From the same arguments the kernel and the reference end with the same product. -/
theorem algebraic2 : Cert.algebraic_Kernel2Ideal_Reference2Ideal := fun m g m' g' _ hargs =>
  ⟨fun c => Cert.Kernel2Ideal.Product.grad (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)),
    (θ_run Cert.Kernel2Ideal.defs _ _).mono
      (fun r h c => ⟨(h c).1.trans (Cert.Kernel2Ideal.Product.result m c), (h c).2⟩)
      (Cert.Kernel2Ideal.Value.run_blocks m g),
    (θ_run Cert.Reference2Ideal.defs _ _).mono
      (fun r h c => ⟨(h c).1.trans ((Cert.Reference2Ideal.Read.val_main_v12_eq _ _).trans
          ((Cert.Reference2Ideal.Product.reference _ _).trans (congrArg₂ Cert.Kernel2Ideal.Product.grad (hargs c).1 (hargs c).2))), (h c).2⟩)
      (Cert.Reference2Ideal.Value.run m' g')⟩

theorem frame_kernel2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

end Cert.Proof

end
-- ==== Proof.Calls.Proj0Input.lean ====
/-
  The input gradient through the first layer's projection: a block of it is summed over eight slabs of columns, and starts from the product of the forget columns.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.ValueLayout
public import Idealize.ShloMosaic.PureOps.Ideal.Laws

@[expose] public section

set_option maxRecDepth 16384

noncomputable section

namespace Cert.Kernel3Ideal.Product

open Idealize.ShloMosaic Idealize.ShloMosaic.TcCoe Idealize.ShloMosaic.ValueIdx Idealize.ShloMosaic.Tactic Idealize.SL.Sem
open Cert.Kernel3Ideal Cert.Kernel3Ideal.Gen Cert.Kernel3Ideal.Facts₀ Cert.Kernel3Ideal.Facts

/-! ## One step -/

/-- The contraction a point adds, as a sum. -/
theorem contract (x y : FVec Ideal S1024x2048 .bf16) (a b : Fin 1024) :
    matmul (F := Ideal) dot_S1024x2048_S1024x2048_S1024x1024_1_1_0_0_n_n none x y (constant S1024x1024 .f32 0x00000000#32) (ValueIdx.ix2 a b) = ∑ k : Fin 2048, x (ValueIdx.ix2 a k) * y (ValueIdx.ix2 b k) := by
  refine (Ideal.matmul_constant_zero_apply _ none x y _).trans ?_
  rw [← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  congr 1
  · refine congrArg x (funext fun b => Fin.ext ?_)
    match b with
    | ⟨0, _⟩ => exact rfl
    | ⟨1, _⟩ => exact (dot_S1024x2048_S1024x2048_S1024x1024_1_1_0_0_n_n.lhsIdx_val_of_single rfl _ _).trans hk
  · refine congrArg y (funext fun b => Fin.ext ?_)
    match b with
    | ⟨0, _⟩ => exact rfl
    | ⟨1, _⟩ => exact (dot_S1024x2048_S1024x2048_S1024x1024_1_1_0_0_n_n.rhsIdx_val_of_single rfl _ _).trans hk

/-- What a point leaves in the accumulator. -/
theorem step (s : Vec Ideal S1024x1024 .f32) (x : Vec Ideal S1024x2048 .bf16) (w : Vec Ideal S1x1024x2048 .bf16) (a b : Fin 1024) :
    (k0_pay2 (F := Ideal) s x w (ValueIdx.ix2 a b) : EReal) = s (ValueIdx.ix2 a b) + ∑ k : Fin 2048, x (ValueIdx.ix2 a k) * w (ValueIdx.ix3 (0 : Fin 1) b k) := by
  unfold k0_pay2
  rw [shapeCast_self]
  refine congrArg (s (ValueIdx.ix2 a b) + ·) ((contract x _ a b).trans (Finset.sum_congr rfl fun k _ => congrArg (x (ValueIdx.ix2 a k) * ·) ?_))
  exact shapeCast_1ab_ab_apply w _ b k

/-- The accumulator starts from zero. -/
theorem zero (a b : Fin 1024) : (k0_pay1 (F := Ideal) (ValueIdx.ix2 a b) : EReal) = 0 := by
  unfold k0_pay1
  rw [shapeCast_self]
  show (Ideal.ofBits .f32 0x00000000#32 : EReal) = 0
  simp [Ideal.ofBits, Ideal.ieee]

theorem hz : (![0, 0] : Fin 2 → ℕ) = fun _ => 0 := funext fun a => by fin_cases a <;> rfl
theorem hz3 : (![0, 0, 0] : Fin 3 → ℕ) = fun _ => 0 := funext fun a => by fin_cases a <;> rfl

/-- The first point of a block leaves its own product. -/
theorem first {F : FTy → Type} [FloatOps F] (c : Dev nD) (i : grid0.Coords) (a1 : Memref sig .tc .vmem S1024x2048 .bf16) (h1 : a1.IsWhole) (a2 : Memref sig .tc .vmem S1x1024x2048 .bf16) (h2 : a2.IsWhole) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (hc0 : cond0_0 i) (hc1 : ¬cond0_1 i) (x : Vec F S1024x2048 .bf16) (w : Vec F S1x1024x2048 .bf16) (z : Vec F S1024x1024 .f32) :
    sout0_A_0 (F := F) c i a1 h1 a2 h2 a3 h3 a4 h4 a5 h5 hc0 hc1 x w z = k0_pay2 (F := F) (k0_pay1 (F := F)) x w := by
  unfold sout0_A_0
  rw [View.read_writes_eq_canon _ _ _ (scover0_A_0 c i a1 h1 a2 h2 a3 h3 a4 h4 a5 h5 hc0 hc1 x w z)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h5.read_unread, View.ld_unit_zero (S := S1024x2048) hz, View.ld_unit_zero (S := S1x1024x2048) hz3, View.ld_unit_zero (S := S1024x1024) hz]

/-- A later point adds its product to what the one before left. -/
theorem later {F : FTy → Type} [FloatOps F] (c : Dev nD) (i : grid0.Coords) (a1 : Memref sig .tc .vmem S1024x2048 .bf16) (h1 : a1.IsWhole) (a2 : Memref sig .tc .vmem S1x1024x2048 .bf16) (h2 : a2.IsWhole) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (hc0 : ¬cond0_0 i) (hc1 : ¬cond0_1 i) (x : Vec F S1024x2048 .bf16) (w : Vec F S1x1024x2048 .bf16) (z : Vec F S1024x1024 .f32) (s : Vec F S1024x1024 .f32) :
    sout0_B_0 (F := F) c i a1 h1 a2 h2 a3 h3 a4 h4 a5 h5 hc0 hc1 x w z s = k0_pay2 (F := F) s x w := by
  unfold sout0_B_0
  rw [View.read_writes_eq_canon _ _ _ (scover0_B_0 c i a1 h1 a2 h2 a3 h3 a4 h4 a5 h5 hc0 hc1 x w z s)]
  unfold kernelRun0_B
  dsimp only
  rw [View.canon_unit_zero hz]
  simp only [View.readAt_eq_ld, h1.read_unread, h2.read_unread, h3.read_unread, h5.read_unread, View.ld_unit_zero (S := S1024x2048) hz, View.ld_unit_zero (S := S1x1024x2048) hz3, View.ld_unit_zero (S := S1024x1024) hz]

/-- So does the last. -/
theorem last {F : FTy → Type} [FloatOps F] (c : Dev nD) (i : grid0.Coords) (a1 : Memref sig .tc .vmem S1024x2048 .bf16) (h1 : a1.IsWhole) (a2 : Memref sig .tc .vmem S1x1024x2048 .bf16) (h2 : a2.IsWhole) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (hc0 : ¬cond0_0 i) (hc1 : cond0_1 i) (x : Vec F S1024x2048 .bf16) (w : Vec F S1x1024x2048 .bf16) (z : Vec F S1024x1024 .f32) (s : Vec F S1024x1024 .f32) :
    sout0_C_0 (F := F) c i a1 h1 a2 h2 a3 h3 a4 h4 a5 h5 hc0 hc1 x w z s = k0_pay2 (F := F) s x w := by
  unfold sout0_C_0
  rw [View.read_writes_eq_canon _ _ _ (scover0_C_0 c i a1 h1 a2 h2 a3 h3 a4 h4 a5 h5 hc0 hc1 x w z s)]
  unfold kernelRun0_C
  dsimp only
  sl_unfold_words
  rw [View.canon_unit_zero hz]
  simp only [View.readAt_eq_ld, h1.read_unread, h2.read_unread, h3.read_unread, h5.read_unread, View.ld_unit_zero (S := S1024x2048) hz, View.ld_unit_zero (S := S1x1024x2048) hz3, View.ld_unit_zero (S := S1024x1024) hz]

/-- What the last point stores. -/
theorem stored {F : FTy → Type} [FloatOps F] (c : Dev nD) (i : grid0.Coords) (a1 : Memref sig .tc .vmem S1024x2048 .bf16) (h1 : a1.IsWhole) (a2 : Memref sig .tc .vmem S1x1024x2048 .bf16) (h2 : a2.IsWhole) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (hc0 : ¬cond0_0 i) (hc1 : cond0_1 i) (x : Vec F S1024x2048 .bf16) (w : Vec F S1x1024x2048 .bf16) (z : Vec F S1024x1024 .f32) (s : Vec F S1024x1024 .f32) :
    out0_C_3 (F := F) c i a1 h1 a2 h2 a3 h3 a4 h4 a5 h5 hc0 hc1 x w z s = k0_pay3 (F := F) (k0_pay2 (F := F) s x w) z := by
  unfold out0_C_3
  rw [View.read_writes_eq_canon _ _ _ (cover0_C_3 c i a1 h1 a2 h2 a3 h3 a4 h4 a5 h5 hc0 hc1 x w z s)]
  unfold kernelRun0_C
  dsimp only
  sl_unfold_words
  rw [View.canon_unit_zero hz, View.readCov_unit_zero (S := S1024x1024) _ hz]
  simp only [View.readAt_eq_ld, h1.read_unread, h2.read_unread, h3.read_unread, h5.read_unread, View.ld_unit_zero (S := S1024x2048) hz, View.ld_unit_zero (S := S1x1024x2048) hz3, View.ld_unit_zero (S := S1024x1024) hz]

/-- The accumulator after a block's first point. -/
theorem atFirst {F : FTy → Type} [FloatOps F] (m : (ℓ : Loc nD τ sig) → Buf (Elt F) ℓ) (c : Dev nD) (t : Fin cfg0.N) (h0 : t.val % 8 = 0) (h1 : ¬t.val % 8 = 7) :
    (outsAt0 m c t.val t.isLt).2 = k0_pay2 (F := F) (k0_pay1 (F := F)) (iblk m c 0 t) (iblk m c 1 t) := by
  rw [outsAt0_A m c t h0 h1, first]

/-- The accumulator after a later point. -/
theorem atLater {F : FTy → Type} [FloatOps F] (m : (ℓ : Loc nD τ sig) → Buf (Elt F) ℓ) (c : Dev nD) (t : Fin cfg0.N) (h0 : ¬t.val % 8 = 0) :
    (outsAt0 m c t.val t.isLt).2 = k0_pay2 (F := F) (outsAt0 m c (t.val - 1) (Nat.lt_of_le_of_lt (Nat.sub_le _ _) t.isLt)).2 (iblk m c 0 t) (iblk m c 1 t) := by
  by_cases h1 : t.val % 8 = 7
  · rw [outsAt0_C m c t h0 h1, last]
  · rw [outsAt0_B m c t h0 h1, later]

/-- What a block's last point stores. -/
theorem atStored {F : FTy → Type} [FloatOps F] (m : (ℓ : Loc nD τ sig) → Buf (Elt F) ℓ) (c : Dev nD) (t : Fin cfg0.N) (h0 : ¬t.val % 8 = 0) (h1 : t.val % 8 = 7) :
    (outsAt0 m c t.val t.isLt).1 = k0_pay3 (F := F) (k0_pay2 (F := F) (outsAt0 m c (t.val - 1) (Nat.lt_of_le_of_lt (Nat.sub_le _ _) t.isLt)).2 (iblk m c 0 t) (iblk m c 1 t)) (iblk m c 2 t) := by
  rw [outsAt0_C m c t h0 h1, stored]

/-! ## Where the blocks lie -/

theorem idx0 : ∀ t : Fin cfg0.N, win0_0.index t = ![t.val / 32, t.val % 8] := by decide +kernel
theorem idx1 : ∀ t : Fin cfg0.N, win0_1.index t = ![t.val % 8, t.val % 32 / 8, 0] := by decide +kernel
theorem idx2 : ∀ t : Fin cfg0.N, win0_2.index t = ![t.val / 32, t.val % 32 / 8] := by decide +kernel
theorem idx3 : ∀ t : Fin cfg0.N, win0_3.index t = ![t.val / 32, t.val % 32 / 8] := by decide +kernel
theorem points (t : Fin cfg0.N) : t.val < 128 := lt_of_lt_of_eq t.isLt N_0

/-! ## The whole result -/

/-- The part of an entry that one slab of columns gives. -/
def slab (x : S4096x16384.Idx → EReal) (w : S8x4096x2048.Idx → EReal) (p q : Fin 4096) (j : ℕ) : EReal :=
  if h : j < 8 then ∑ k : Fin 2048, x (ValueIdx.ix2 p ⟨2048 * j + k.val, by omega⟩) * w (ValueIdx.ix3 (⟨j, h⟩ : Fin 8) q k) else 0

/-- The product of the forget columns, entry by entry. -/
def start (f g : S4096x128.Idx → EReal) : S4096x4096.Idx → EReal := fun i => ∑ k : Fin 128, f (ValueIdx.ix2 (i 0) k) * g (ValueIdx.ix2 (i 1) k)

/-- The gradient, entry by entry. -/
def grad (x : S4096x16384.Idx → EReal) (f : S4096x128.Idx → EReal) (w : S8x4096x2048.Idx → EReal) (g : S4096x128.Idx → EReal) : S4096x4096.Idx → EReal := fun i =>
  (∑ j ∈ Finset.range 8, slab x w (i 0) (i 1) j) + start f g i

variable (m : (ℓ : Loc nD τ sig) → Buf (Elt Ideal) ℓ)

/-- The gradient's block at a point. -/
theorem block0 (c : Dev nD) (t : Fin cfg0.N) (a : Fin 1024) (k : Fin 2048) (j : S4096x16384.Idx)
    (h0 : (j 0).val = t.val / 32 * 1024 + a.val) (h1 : (j 1).val = t.val % 8 * 2048 + k.val) :
    iblk m c 0 t (ValueIdx.ix2 a k) = m ((c : Thread nD τ).loc main_arg0) j := by
  have e0 : ((win0_0.blk t).view.emb (ValueIdx.ix2 a k) 0 : ℕ) = t.val / 32 * 1024 + a.val := by blk_simp [idx0]; rfl
  have e1 : ((win0_0.blk t).view.emb (ValueIdx.ix2 a k) 1 : ℕ) = t.val % 8 * 2048 + k.val := by blk_simp [idx0]; rfl
  blk_simp [iblk]
  refine (congrFun (V_main_arg0 m c) _).trans (congrArg (m ((c : Thread nD τ).loc main_arg0)) (funext fun x => Fin.ext ?_))
  match x with
  | ⟨0, _⟩ => exact e0.trans h0.symm
  | ⟨1, _⟩ => exact e1.trans h1.symm

/-- The weights' block at a point. -/
theorem block1 (c : Dev nD) (t : Fin cfg0.N) (b : Fin 1024) (k : Fin 2048) (j : S8x4096x2048.Idx)
    (h0 : (j 0).val = t.val % 8) (h1 : (j 1).val = t.val % 32 / 8 * 1024 + b.val) (h2 : (j 2).val = k.val) :
    iblk m c 1 t (ValueIdx.ix3 (0 : Fin 1) b k) = m ((c : Thread nD τ).loc main_arg2) j := by
  have e0 : ((win0_1.blk t).view.emb (ValueIdx.ix3 (0 : Fin 1) b k) 0 : ℕ) = t.val % 8 := by blk_simp [idx1]
  have e1 : ((win0_1.blk t).view.emb (ValueIdx.ix3 (0 : Fin 1) b k) 1 : ℕ) = t.val % 32 / 8 * 1024 + b.val := by blk_simp [idx1]; rfl
  have e2 : ((win0_1.blk t).view.emb (ValueIdx.ix3 (0 : Fin 1) b k) 2 : ℕ) = k.val := by blk_simp [idx1]; rfl
  blk_simp [iblk]
  refine (congrFun (V_main_arg2 m c) _).trans (congrArg (m ((c : Thread nD τ).loc main_arg2)) (funext fun x => Fin.ext ?_))
  match x with
  | ⟨0, _⟩ => exact e0.trans h0.symm
  | ⟨1, _⟩ => exact e1.trans h1.symm
  | ⟨2, _⟩ => exact e2.trans h2.symm

/-- What a point adds to an entry is the slab's part of it. -/
theorem adds (c : Dev nD) (t : Fin cfg0.N) (a b : Fin 1024) (p q : Fin 4096)
    (hp : p.val = t.val / 32 * 1024 + a.val) (hq : q.val = t.val % 32 / 8 * 1024 + b.val) (n : ℕ) (hn : n = t.val % 8)
    (X : Vec Ideal S1024x2048 .bf16) (W : Vec Ideal S1x1024x2048 .bf16) (hX : X = iblk m c 0 t) (hW : W = iblk m c 1 t) :
    (∑ k : Fin 2048, (X (ValueIdx.ix2 a k) : EReal) * W (ValueIdx.ix3 (0 : Fin 1) b k)) = slab (m ((c : Thread nD τ).loc main_arg0)) (m ((c : Thread nD τ).loc main_arg2)) p q n := by
  subst hX hW hn
  have h8 : t.val % 8 < 8 := by omega
  unfold slab
  rw [dif_pos h8]
  refine Finset.sum_congr rfl fun k _ => ?_
  exact congrArg₂ (· * ·) (block0 m c t a k _ hp (by show 2048 * (t.val % 8) + k.val = _; omega)) (block1 m c t b k _ rfl hq rfl)

/-- A block's first point gives the entry its slab. -/
theorem slabFirst (c : Dev nD) (t : Fin cfg0.N) (a b : Fin 1024) (p q : Fin 4096) (h0 : t.val % 8 = 0)
    (hp : p.val = t.val / 32 * 1024 + a.val) (hq : q.val = t.val % 32 / 8 * 1024 + b.val) :
    ((outsAt0 m c t.val t.isLt).2 (ValueIdx.ix2 a b) : EReal) = slab (m ((c : Thread nD τ).loc main_arg0)) (m ((c : Thread nD τ).loc main_arg2)) p q 0 := by
  refine (congrFun (atFirst m c t h0 (by omega)) _).trans ((step _ _ _ a b).trans ?_)
  rw [zero, zero_add]
  exact adds m c t a b p q hp hq 0 h0.symm _ _ rfl rfl

/-- A later point adds its slab to the entry. -/
theorem slabLater (c : Dev nD) (t : Fin cfg0.N) (a b : Fin 1024) (p q : Fin 4096) (h0 : ¬t.val % 8 = 0)
    (hp : p.val = t.val / 32 * 1024 + a.val) (hq : q.val = t.val % 32 / 8 * 1024 + b.val) :
    ((outsAt0 m c t.val t.isLt).2 (ValueIdx.ix2 a b) : EReal)
      = (outsAt0 m c (t.val - 1) (Nat.lt_of_le_of_lt (Nat.sub_le _ _) t.isLt)).2 (ValueIdx.ix2 a b) + slab (m ((c : Thread nD τ).loc main_arg0)) (m ((c : Thread nD τ).loc main_arg2)) p q (t.val % 8) := by
  refine (congrFun (atLater m c t h0) _).trans ((step _ _ _ a b).trans ?_)
  exact congrArg (_ + ·) (adds m c t a b p q hp hq _ rfl _ _ rfl rfl)

/-- The accumulator after a point holds the slabs up to the point's own. -/
theorem sofar (c : Dev nD) (a b : Fin 1024) (p q : Fin 4096) : ∀ (n : ℕ) (h : n < cfg0.N), p.val = n / 32 * 1024 + a.val → q.val = n % 32 / 8 * 1024 + b.val →
    ((outsAt0 m c n h).2 (ValueIdx.ix2 a b) : EReal) = ∑ j ∈ Finset.range (n % 8 + 1), slab (m ((c : Thread nD τ).loc main_arg0)) (m ((c : Thread nD τ).loc main_arg2)) p q j := by
  intro n
  induction n with
  | zero =>
    intro h hp hq
    refine (slabFirst m c ⟨0, h⟩ a b p q rfl hp hq).trans ?_
    rw [Nat.zero_mod, zero_add, Finset.sum_range_one]
  | succ n ih =>
    intro h hp hq
    by_cases h0 : (n + 1) % 8 = 0
    · refine (slabFirst m c ⟨n + 1, h⟩ a b p q h0 hp hq).trans ?_
      rw [h0, zero_add, Finset.sum_range_one]
    · refine (slabLater m c ⟨n + 1, h⟩ a b p q h0 hp hq).trans ?_
      rw [Finset.sum_range_succ]
      refine congrArg (· + _) ((ih (Nat.lt_of_succ_lt h) (by omega) (by omega)).trans ?_)
      rw [show (n + 1) % 8 = n % 8 + 1 by omega]

/-- The block a result starts from, at a point. -/
theorem block2 (c : Dev nD) (t : Fin cfg0.N) (a b : Fin 1024) (j : S4096x4096.Idx)
    (h0 : (j 0).val = t.val / 32 * 1024 + a.val) (h1 : (j 1).val = t.val % 32 / 8 * 1024 + b.val) :
    iblk m c 2 t (ValueIdx.ix2 a b) = V m c main_v0 j := by
  have e0 : ((win0_2.blk t).view.emb (ValueIdx.ix2 a b) 0 : ℕ) = t.val / 32 * 1024 + a.val := by blk_simp [idx2]; rfl
  have e1 : ((win0_2.blk t).view.emb (ValueIdx.ix2 a b) 1 : ℕ) = t.val % 32 / 8 * 1024 + b.val := by blk_simp [idx2]; rfl
  blk_simp [iblk]
  refine congrArg (V m c main_v0) (funext fun x => Fin.ext ?_)
  match x with
  | ⟨0, _⟩ => exact e0.trans h0.symm
  | ⟨1, _⟩ => exact e1.trans h1.symm

/-- The product of the forget columns, as the reference's operation has it. -/
theorem start_eq (f g : S4096x128.Idx → EReal) : Cert.Reference3Ideal.Read.val_main_v10 (F := Ideal) f g = start f g := by
  funext i
  rw [Cert.Reference3Ideal.Read.val_main_v10_apply]
  unfold start
  refine Finset.sum_congr rfl fun k _ => ?_
  refine congrArg₂ (· * ·) (congrArg f (funext fun q => ?_)) (congrArg g (funext fun q => ?_))
  · match q with
    | ⟨0, _⟩ => rfl
    | ⟨1, _⟩ => rfl
  · match q with
    | ⟨0, _⟩ => rfl
    | ⟨1, _⟩ => rfl

/-- What the host computes before the call. -/
theorem V_start (c : Dev nD) : V m c main_v0 = start (m ((c : Thread nD τ).loc main_arg1)) (m ((c : Thread nD τ).loc main_arg3)) := by
  refine Eq.trans ?_ (start_eq _ _)
  entry_read
  rfl

/-- The result array after the run is the gradient. -/
theorem result (c : Dev nD) : (dats m 0 c).arrAt 3 cfg0.N
    = grad (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  have ht := points t
  have h7 : t.val % 8 = 7 := (flush0_3 t).1 hf
  blk_simp
  rw [after0_3, atStored m c t (by omega) h7]
  obtain ⟨a, b, rfl⟩ : ∃ (a b : Fin 1024), y = ValueIdx.ix2 a b := ⟨y 0, y 1, ValueIdx.eq_ix2 y⟩
  have e0 : ((win0_3.blk t).view.emb (ValueIdx.ix2 a b) 0 : ℕ) = t.val / 32 * 1024 + a.val := by blk_simp [idx3]; rfl
  have e1 : ((win0_3.blk t).view.emb (ValueIdx.ix2 a b) 1 : ℕ) = t.val % 32 / 8 * 1024 + b.val := by blk_simp [idx3]; rfl
  show _ = grad _ _ _ _ ((win0_3.blk t).view.emb (ValueIdx.ix2 a b) : S4096x4096.Idx)
  generalize ((win0_3.blk t).view.emb (ValueIdx.ix2 a b) : S4096x4096.Idx) = i at e0 e1 ⊢
  unfold grad
  obtain ⟨p, hp'⟩ : ∃ p : Fin 4096, p = i 0 := ⟨_, rfl⟩
  obtain ⟨q, hq'⟩ : ∃ q : Fin 4096, q = i 1 := ⟨_, rfl⟩
  rw [← hp', ← hq']
  have hp : p.val = t.val / 32 * 1024 + a.val := by rw [hp']; exact e0
  have hq : q.val = t.val % 32 / 8 * 1024 + b.val := by rw [hq']; exact e1
  unfold k0_pay3
  refine congrArg₂ (· + ·) ?_ ?_
  · refine (step _ _ _ a b).trans ?_
    rw [adds m c t a b p q hp hq 7 h7.symm _ _ rfl rfl, Finset.sum_range_succ]
    refine congrArg (· + _) ?_
    refine (sofar m c a b p q (t.val - 1) (Nat.lt_of_le_of_lt (Nat.sub_le _ _) t.isLt) (by omega) (by omega)).trans ?_
    rw [show (t.val - 1) % 8 + 1 = 7 by omega]
  · rw [shapeCast_self]
    exact (block2 m c t a b _ e0 e1).trans (congrFun (V_start m c) _)

end Cert.Kernel3Ideal.Product

namespace Cert.Reference3Ideal.Product

open Idealize.ShloMosaic Idealize.ShloMosaic.TcCoe Idealize.ShloMosaic.ValueIdx Idealize.SL.Sem
open Cert.Reference3Ideal Cert.Reference3Ideal.Gen Cert.Reference3Ideal.Read Cert.Kernel3Ideal.Product

/-- A sum over all columns, slab by slab. -/
theorem slabs (f : Fin 16384 → EReal) : ∑ k : Fin 16384, f k = ∑ j : Fin 8, ∑ k : Fin 2048, f ⟨2048 * j.val + k.val, by omega⟩ := by
  rw [← Fintype.sum_prod_type']
  refine (Equiv.sum_comp (finProdFinEquiv (m := 8) (n := 2048)) (f : Fin (8 * 2048) → EReal)).symm.trans ?_
  refine Finset.sum_congr rfl fun z _ => congrArg f (Fin.ext ?_)
  show z.2.val + 2048 * z.1.val = 2048 * z.1.val + z.2.val
  omega

/-- The product with the weights, entry by entry. -/
theorem product (x : S4096x16384.Idx → EReal) (w : S8x4096x2048.Idx → EReal) (i : S4096x4096.Idx) :
    (val_main_v12 (F := Ideal) x w i : EReal) = ∑ j ∈ Finset.range 8, slab x w (i 0) (i 1) j := by
  rw [val_main_v12_apply, slabs, Finset.sum_range]
  refine Finset.sum_congr rfl fun j _ => ?_
  unfold slab
  rw [dif_pos j.isLt]
  refine Finset.sum_congr rfl fun k _ => ?_
  have h1 : (i 1).val < 4096 := (i 1).isLt
  have hj := j.isLt
  have hk := k.isLt
  refine congrArg₂ (· * ·) (congrArg x (funext fun q => ?_)) ?_
  · match q with
    | ⟨0, _⟩ => rfl
    | ⟨1, _⟩ => rfl
  · rw [val_main_v3_apply, val_main_v2_apply, val_main_v1_apply]
    refine congrArg w (funext fun q => Fin.ext ?_)
    match q with
    | ⟨0, _⟩ => show ((i 1).val * 16384 + (2048 * j.val + k.val)) / 2048 % 8 = j.val; omega
    | ⟨1, _⟩ => show ((i 1).val * 16384 + (2048 * j.val + k.val)) / 16384 = (i 1).val; omega
    | ⟨2, _⟩ => show ((i 1).val * 16384 + (2048 * j.val + k.val)) % 2048 = k.val; omega

/-- The reference's gradient is the same one. -/
theorem reference (x : S4096x16384.Idx → EReal) (f : S4096x128.Idx → EReal) (w : S8x4096x2048.Idx → EReal) (g : S4096x128.Idx → EReal) :
    val_main_v13 (F := Ideal) x f w g = grad x f w g := by
  funext i
  rw [val_main_v13_apply]
  refine (add_comm (val_main_v10 (F := Ideal) f g i : EReal) _).trans ?_
  exact congrArg₂ (· + ·) (product x w i) (congrFun (start_eq f g) i)

end Cert.Reference3Ideal.Product

namespace Cert.Proof

open Idealize.ShloMosaic Idealize.ShloMosaic.TcCoe Idealize.SL.Sem

/-- From the same arguments the kernel and the reference end with the same gradient. -/
theorem algebraic3 : Cert.algebraic_Kernel3Ideal_Reference3Ideal := fun m g m' g' _ hargs =>
  ⟨fun c => Cert.Kernel3Ideal.Product.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    (θ_run Cert.Kernel3Ideal.defs _ _).mono
      (fun r h c => ⟨(h c).1.trans (Cert.Kernel3Ideal.Product.result m c), (h c).2⟩)
      (Cert.Kernel3Ideal.Value.run_blocks m g),
    (θ_run Cert.Reference3Ideal.defs _ _).mono
      (fun r h c => ⟨(h c).1.trans ((Cert.Reference3Ideal.Read.val_main_v13_eq _ _ _ _).trans
          ((Cert.Reference3Ideal.Product.reference _ _ _ _).trans (by rw [(hargs c).1, (hargs c).2.1, (hargs c).2.2.1, (hargs c).2.2.2]))), (h c).2⟩)
      (Cert.Reference3Ideal.Value.run m' g')⟩

theorem frame_kernel3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

end Cert.Proof

end
-- ==== Proof.Calls.Proj1Weights.lean ====
/-
  The weight gradient of the second layer's projection: a block of it is one product over all rows.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.ValueLayout
public import Idealize.ShloMosaic.PureOps.Ideal.Laws

@[expose] public section

set_option maxRecDepth 16384

noncomputable section

namespace Cert.Kernel4Ideal.Product

open Idealize.ShloMosaic Idealize.ShloMosaic.TcCoe Idealize.ShloMosaic.ValueIdx Idealize.ShloMosaic.Tactic Idealize.SL.Sem
open Cert.Kernel4Ideal Cert.Kernel4Ideal.Gen Cert.Kernel4Ideal.Facts₀ Cert.Kernel4Ideal.Facts

/-! ## One block's product -/

/-- The contraction a point computes, as a sum. -/
theorem contract (x y : FVec Ideal S4096x1024 .bf16) (a b : Fin 1024) :
    matmul (F := Ideal) dot_S4096x1024_S4096x1024_S1024x1024_0_0_1_1_n_n none x y (constant S1024x1024 .f32 0x00000000#32) (ValueIdx.ix2 a b) = ∑ k : Fin 4096, x (ValueIdx.ix2 k a) * y (ValueIdx.ix2 k b) := by
  refine (Ideal.matmul_constant_zero_apply _ none x y _).trans ?_
  rw [← Equiv.sum_comp (contrEquiv1 dot_S4096x1024_S4096x1024_S1024x1024_0_0_1_1_n_n 4096 rfl rfl).symm]
  refine Finset.sum_congr rfl fun k _ => ?_
  have hk := contrEquiv1_symm_val dot_S4096x1024_S4096x1024_S1024x1024_0_0_1_1_n_n 4096 rfl rfl k
  congr 1
  · refine congrArg x (funext fun b => Fin.ext ?_)
    match b with
    | ⟨0, _⟩ => exact (dot_S4096x1024_S4096x1024_S1024x1024_0_0_1_1_n_n.lhsIdx_val_of_single rfl _ _).trans hk
    | ⟨1, _⟩ => exact rfl
  · refine congrArg y (funext fun b => Fin.ext ?_)
    match b with
    | ⟨0, _⟩ => exact (dot_S4096x1024_S4096x1024_S1024x1024_0_0_1_1_n_n.rhsIdx_val_of_single rfl _ _).trans hk
    | ⟨1, _⟩ => exact rfl

/-- What a point stores. -/
theorem tile (x y : FVec Ideal S4096x1024 .bf16) (a b : Fin 1024) :
    k0_pay1 (F := Ideal) x y (ValueIdx.ix3 (0 : Fin 1) a b) = ∑ k : Fin 4096, x (ValueIdx.ix2 k a) * y (ValueIdx.ix2 k b) := by
  unfold k0_pay1
  refine (shapeCast_ab_1ab_apply _ _ 0 a b).trans ?_
  exact contract x y a b

theorem hz : (![0, 0] : Fin 2 → ℕ) = fun _ => 0 := funext fun a => by fin_cases a <;> rfl
theorem hz3 : (![0, 0, 0] : Fin 3 → ℕ) = fun _ => 0 := funext fun a => by fin_cases a <;> rfl

/-- What the result's buffer holds after a point, from the two blocks the point reads. -/
theorem stored (x y : FVec Ideal S4096x1024 .bf16) : out0_2 (F := Ideal) x y = k0_pay1 (F := Ideal) x y := by
  unfold out0_2
  rw [View.canon_unit_zero hz3]
  simp only [View.ld_unit_zero (S := S4096x1024) hz]

/-! ## Where the blocks lie -/

theorem idx0 : ∀ t : Fin cfg0.N, win0_0.index t = ![0, t.val / 8] := by decide +kernel
theorem idx1 : ∀ t : Fin cfg0.N, win0_1.index t = ![0, t.val % 8] := by decide +kernel
theorem idx2 : ∀ t : Fin cfg0.N, win0_2.index t = ![t.val % 8, t.val / 8, 0] := by decide +kernel
theorem points (t : Fin cfg0.N) : t.val < 32 := lt_of_lt_of_eq t.isLt N_0

/-! ## The whole result -/

/-- The product, entry by entry. -/
def grad (x : S4096x4096.Idx → EReal) (y : S4096x8192.Idx → EReal) : S8x4096x1024.Idx → EReal := fun i =>
  ∑ k : Fin 4096, x (ValueIdx.ix2 k (i 1)) * y (ValueIdx.ix2 k ⟨1024 * (i 0).val + (i 2).val, by have h0 : (i 0).val < 8 := (i 0).isLt; have h2 : (i 2).val < 1024 := (i 2).isLt; show _ < 8192; omega⟩)

variable (m : (ℓ : Loc nD τ sig) → Buf (Elt Ideal) ℓ)

/-- The first argument's block at a point. -/
theorem block0 (c : Dev nD) (t : Fin cfg0.N) (a : Fin 1024) (k : Fin 4096) (j : S4096x4096.Idx)
    (h0 : (j 0).val = 0 * 4096 + k.val) (h1 : (j 1).val = t.val / 8 * 1024 + a.val) :
    iblk m c 0 t (ValueIdx.ix2 k a) = m ((c : Thread nD τ).loc main_arg0) j := by
  have e0 : ((win0_0.blk t).view.emb (ValueIdx.ix2 k a) 0 : ℕ) = 0 * 4096 + k.val := by blk_simp [idx0]; rfl
  have e1 : ((win0_0.blk t).view.emb (ValueIdx.ix2 k a) 1 : ℕ) = t.val / 8 * 1024 + a.val := by blk_simp [idx0]; rfl
  blk_simp [iblk]
  refine (congrFun (V_main_arg0 m c) _).trans (congrArg (m ((c : Thread nD τ).loc main_arg0)) (funext fun x => Fin.ext ?_))
  match x with
  | ⟨0, _⟩ => exact e0.trans h0.symm
  | ⟨1, _⟩ => exact e1.trans h1.symm

/-- The second argument's block at a point. -/
theorem block1 (c : Dev nD) (t : Fin cfg0.N) (b : Fin 1024) (k : Fin 4096) (j : S4096x8192.Idx)
    (h0 : (j 0).val = 0 * 4096 + k.val) (h1 : (j 1).val = t.val % 8 * 1024 + b.val) :
    iblk m c 1 t (ValueIdx.ix2 k b) = m ((c : Thread nD τ).loc main_arg1) j := by
  have e0 : ((win0_1.blk t).view.emb (ValueIdx.ix2 k b) 0 : ℕ) = 0 * 4096 + k.val := by blk_simp [idx1]; rfl
  have e1 : ((win0_1.blk t).view.emb (ValueIdx.ix2 k b) 1 : ℕ) = t.val % 8 * 1024 + b.val := by blk_simp [idx1]; rfl
  blk_simp [iblk]
  refine (congrFun (V_main_arg1 m c) _).trans (congrArg (m ((c : Thread nD τ).loc main_arg1)) (funext fun x => Fin.ext ?_))
  match x with
  | ⟨0, _⟩ => exact e0.trans h0.symm
  | ⟨1, _⟩ => exact e1.trans h1.symm

/-- The result array after the run is the product of the arguments. -/
theorem result (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  have ht := points t
  blk_simp
  rw [after0_2, stored]
  obtain ⟨a, b, rfl⟩ : ∃ (a b : Fin 1024), y = ValueIdx.ix3 (0 : Fin 1) a b := ⟨y 1, y 2, funext fun q => by
    match q with
    | ⟨0, _⟩ => exact Subsingleton.elim (α := Fin 1) _ _
    | ⟨1, _⟩ => rfl
    | ⟨2, _⟩ => rfl⟩
  refine (tile _ _ a b).trans ?_
  have e0 : ((win0_2.blk t).view.emb (ValueIdx.ix3 (0 : Fin 1) a b) 0 : ℕ) = t.val % 8 := by blk_simp [idx2]
  have e1 : ((win0_2.blk t).view.emb (ValueIdx.ix3 (0 : Fin 1) a b) 1 : ℕ) = t.val / 8 * 1024 + a.val := by blk_simp [idx2]; rfl
  have e2 : ((win0_2.blk t).view.emb (ValueIdx.ix3 (0 : Fin 1) a b) 2 : ℕ) = 0 * 1024 + b.val := by blk_simp [idx2]; rfl
  unfold grad
  refine Finset.sum_congr rfl fun k _ => ?_
  exact congrArg₂ (· * ·) (block0 m c t a k _ (by show k.val = _; omega) (by show (((win0_2.blk t).view.emb (ValueIdx.ix3 (0 : Fin 1) a b) 1 : ℕ)) = _; omega))
    (block1 m c t b k _ (by show k.val = _; omega)
      (by show 1024 * (((win0_2.blk t).view.emb (ValueIdx.ix3 (0 : Fin 1) a b) 0 : ℕ)) + (((win0_2.blk t).view.emb (ValueIdx.ix3 (0 : Fin 1) a b) 2 : ℕ)) = _; omega))

end Cert.Kernel4Ideal.Product

namespace Cert.Reference4Ideal.Product

open Idealize.ShloMosaic Idealize.ShloMosaic.TcCoe Idealize.ShloMosaic.ValueIdx Idealize.SL.Sem
open Cert.Reference4Ideal Cert.Reference4Ideal.Gen Cert.Reference4Ideal.Read Cert.Kernel4Ideal.Product

/-- The reference's gradient is the same product. -/
theorem reference (x : S4096x4096.Idx → EReal) (y : S4096x8192.Idx → EReal) : val_main_v12 (F := Ideal) x y = grad x y := by
  funext i
  rw [val_main_v12_apply, val_main_v11_apply, val_main_v10_apply, val_main_v9_apply, val_main_v8_apply]
  unfold grad
  refine Finset.sum_congr rfl fun k _ => ?_
  have h0 : (i 0).val < 8 := (i 0).isLt
  have h1 : (i 1).val < 4096 := (i 1).isLt
  have h2 : (i 2).val < 1024 := (i 2).isLt
  refine (mul_comm _ _).trans (congrArg₂ (· * ·) (congrArg x (funext fun q => Fin.ext ?_)) (congrArg y (funext fun q => Fin.ext ?_)))
  · match q with
    | ⟨0, _⟩ => rfl
    | ⟨1, _⟩ => show (((i 1).val * 8 + (i 0).val) * 1024 + (i 2).val) / 8192 = (i 1).val; omega
  · match q with
    | ⟨0, _⟩ => rfl
    | ⟨1, _⟩ => show (((i 1).val * 8 + (i 0).val) * 1024 + (i 2).val) % 8192 = 1024 * (i 0).val + (i 2).val; omega

end Cert.Reference4Ideal.Product

namespace Cert.Proof

open Idealize.ShloMosaic Idealize.ShloMosaic.TcCoe Idealize.SL.Sem

/-- From the same arguments the kernel and the reference end with the same product. -/
theorem algebraic4 : Cert.algebraic_Kernel4Ideal_Reference4Ideal := fun m g m' g' _ hargs =>
  ⟨fun c => Cert.Kernel4Ideal.Product.grad (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    (θ_run Cert.Kernel4Ideal.defs _ _).mono
      (fun r h c => ⟨(h c).1.trans (Cert.Kernel4Ideal.Product.result m c), (h c).2⟩)
      (Cert.Kernel4Ideal.Value.run_blocks m g),
    (θ_run Cert.Reference4Ideal.defs _ _).mono
      (fun r h c => ⟨(h c).1.trans ((Cert.Reference4Ideal.Read.val_main_v12_eq _ _).trans
          ((Cert.Reference4Ideal.Product.reference _ _).trans (congrArg₂ Cert.Kernel4Ideal.Product.grad (hargs c).1 (hargs c).2))), (h c).2⟩)
      (Cert.Reference4Ideal.Value.run m' g')⟩

theorem frame_kernel4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run m ρ)

end Cert.Proof

end
-- ==== Proof.Calls.Proj1Input.lean ====
/-
  The input gradient through the second layer's projection: a block of it is summed over eight slabs of columns.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.ValueLayout
public import Idealize.ShloMosaic.PureOps.Ideal.Laws

@[expose] public section

set_option maxRecDepth 16384

noncomputable section

namespace Cert.Kernel5Ideal.Product

open Idealize.ShloMosaic Idealize.ShloMosaic.TcCoe Idealize.ShloMosaic.ValueIdx Idealize.ShloMosaic.Tactic Idealize.SL.Sem
open Cert.Kernel5Ideal Cert.Kernel5Ideal.Gen Cert.Kernel5Ideal.Facts₀ Cert.Kernel5Ideal.Facts

/-! ## One step -/

/-- The contraction a point adds, as a sum. -/
theorem contract (x y : FVec Ideal S1024x1024 .bf16) (a b : Fin 1024) :
    matmul (F := Ideal) dot_S1024x1024_S1024x1024_S1024x1024_1_1_0_0_n_n none x y (constant S1024x1024 .f32 0x00000000#32) (ValueIdx.ix2 a b) = ∑ k : Fin 1024, x (ValueIdx.ix2 a k) * y (ValueIdx.ix2 b k) := by
  refine (Ideal.matmul_constant_zero_apply _ none x y _).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  congr 1
  · refine congrArg x (funext fun b => Fin.ext ?_)
    match b with
    | ⟨0, _⟩ => exact rfl
    | ⟨1, _⟩ => exact (dot_S1024x1024_S1024x1024_S1024x1024_1_1_0_0_n_n.lhsIdx_val_of_single rfl _ _).trans hk
  · refine congrArg y (funext fun b => Fin.ext ?_)
    match b with
    | ⟨0, _⟩ => exact rfl
    | ⟨1, _⟩ => exact (dot_S1024x1024_S1024x1024_S1024x1024_1_1_0_0_n_n.rhsIdx_val_of_single rfl _ _).trans hk

/-- What a point leaves in the accumulator. -/
theorem step (s : Vec Ideal S1024x1024 .f32) (x : Vec Ideal S1024x1024 .bf16) (w : Vec Ideal S1x1024x1024 .bf16) (a b : Fin 1024) :
    (k0_pay2 (F := Ideal) s x w (ValueIdx.ix2 a b) : EReal) = s (ValueIdx.ix2 a b) + ∑ k : Fin 1024, x (ValueIdx.ix2 a k) * w (ValueIdx.ix3 (0 : Fin 1) b k) := by
  unfold k0_pay2
  rw [shapeCast_self]
  refine congrArg (s (ValueIdx.ix2 a b) + ·) ((contract x _ a b).trans (Finset.sum_congr rfl fun k _ => congrArg (x (ValueIdx.ix2 a k) * ·) ?_))
  exact shapeCast_1ab_ab_apply w _ b k

/-- The accumulator starts from zero. -/
theorem zero (a b : Fin 1024) : (k0_pay1 (F := Ideal) (ValueIdx.ix2 a b) : EReal) = 0 := by
  unfold k0_pay1
  rw [shapeCast_self]
  show (Ideal.ofBits .f32 0x00000000#32 : EReal) = 0
  simp [Ideal.ofBits, Ideal.ieee]

theorem hz : (![0, 0] : Fin 2 → ℕ) = fun _ => 0 := funext fun a => by fin_cases a <;> rfl
theorem hz3 : (![0, 0, 0] : Fin 3 → ℕ) = fun _ => 0 := funext fun a => by fin_cases a <;> rfl

/-- The first point of a block leaves its own product. -/
theorem first {F : FTy → Type} [FloatOps F] (c : Dev nD) (i : grid0.Coords) (a1 : Memref sig .tc .vmem S1024x1024 .bf16) (h1 : a1.IsWhole) (a2 : Memref sig .tc .vmem S1x1024x1024 .bf16) (h2 : a2.IsWhole) (a3 : Memref sig .tc .vmem S1024x1024 .f32) (h3 : a3.IsWhole) (a4 : Memref sig .tc .vmem S1024x1024 .f32) (h4 : a4.IsWhole) (hc0 : cond0_0 i) (hc1 : ¬cond0_1 i) (x : Vec F S1024x1024 .bf16) (w : Vec F S1x1024x1024 .bf16) :
    sout0_A_0 (F := F) c i a1 h1 a2 h2 a3 h3 a4 h4 hc0 hc1 x w = k0_pay2 (F := F) (k0_pay1 (F := F)) x w := by
  unfold sout0_A_0
  rw [View.read_writes_eq_canon _ _ _ (scover0_A_0 c i a1 h1 a2 h2 a3 h3 a4 h4 hc0 hc1 x w)]
  unfold kernelRun0_A
  dsimp only
  sl_unfold_words
  rw [View.canon_cons_unit_zero (S := S1024x1024) hz, View.readCov_unit_zero (S := S1024x1024) _ hz]
  simp only [View.readAt_eq_ld, h1.read_unread, h2.read_unread, h4.read_unread, View.ld_unit_zero (S := S1024x1024) hz, View.ld_unit_zero (S := S1x1024x1024) hz3, View.ld_unit_zero (S := S1024x1024) hz]

/-- A later point adds its product to what the one before left. -/
theorem later {F : FTy → Type} [FloatOps F] (c : Dev nD) (i : grid0.Coords) (a1 : Memref sig .tc .vmem S1024x1024 .bf16) (h1 : a1.IsWhole) (a2 : Memref sig .tc .vmem S1x1024x1024 .bf16) (h2 : a2.IsWhole) (a3 : Memref sig .tc .vmem S1024x1024 .f32) (h3 : a3.IsWhole) (a4 : Memref sig .tc .vmem S1024x1024 .f32) (h4 : a4.IsWhole) (hc0 : ¬cond0_0 i) (hc1 : ¬cond0_1 i) (x : Vec F S1024x1024 .bf16) (w : Vec F S1x1024x1024 .bf16) (s : Vec F S1024x1024 .f32) :
    sout0_B_0 (F := F) c i a1 h1 a2 h2 a3 h3 a4 h4 hc0 hc1 x w s = k0_pay2 (F := F) s x w := by
  unfold sout0_B_0
  rw [View.read_writes_eq_canon _ _ _ (scover0_B_0 c i a1 h1 a2 h2 a3 h3 a4 h4 hc0 hc1 x w s)]
  unfold kernelRun0_B
  dsimp only
  rw [View.canon_unit_zero hz]
  simp only [View.readAt_eq_ld, h1.read_unread, h2.read_unread, h4.read_unread, View.ld_unit_zero (S := S1024x1024) hz, View.ld_unit_zero (S := S1x1024x1024) hz3, View.ld_unit_zero (S := S1024x1024) hz]

/-- So does the last. -/
theorem last {F : FTy → Type} [FloatOps F] (c : Dev nD) (i : grid0.Coords) (a1 : Memref sig .tc .vmem S1024x1024 .bf16) (h1 : a1.IsWhole) (a2 : Memref sig .tc .vmem S1x1024x1024 .bf16) (h2 : a2.IsWhole) (a3 : Memref sig .tc .vmem S1024x1024 .f32) (h3 : a3.IsWhole) (a4 : Memref sig .tc .vmem S1024x1024 .f32) (h4 : a4.IsWhole) (hc0 : ¬cond0_0 i) (hc1 : cond0_1 i) (x : Vec F S1024x1024 .bf16) (w : Vec F S1x1024x1024 .bf16) (s : Vec F S1024x1024 .f32) :
    sout0_C_0 (F := F) c i a1 h1 a2 h2 a3 h3 a4 h4 hc0 hc1 x w s = k0_pay2 (F := F) s x w := by
  unfold sout0_C_0
  rw [View.read_writes_eq_canon _ _ _ (scover0_C_0 c i a1 h1 a2 h2 a3 h3 a4 h4 hc0 hc1 x w s)]
  unfold kernelRun0_C
  dsimp only
  sl_unfold_words
  rw [View.canon_unit_zero hz]
  simp only [View.readAt_eq_ld, h1.read_unread, h2.read_unread, h4.read_unread, View.ld_unit_zero (S := S1024x1024) hz, View.ld_unit_zero (S := S1x1024x1024) hz3, View.ld_unit_zero (S := S1024x1024) hz]

/-- What the last point stores. -/
theorem stored {F : FTy → Type} [FloatOps F] (c : Dev nD) (i : grid0.Coords) (a1 : Memref sig .tc .vmem S1024x1024 .bf16) (h1 : a1.IsWhole) (a2 : Memref sig .tc .vmem S1x1024x1024 .bf16) (h2 : a2.IsWhole) (a3 : Memref sig .tc .vmem S1024x1024 .f32) (h3 : a3.IsWhole) (a4 : Memref sig .tc .vmem S1024x1024 .f32) (h4 : a4.IsWhole) (hc0 : ¬cond0_0 i) (hc1 : cond0_1 i) (x : Vec F S1024x1024 .bf16) (w : Vec F S1x1024x1024 .bf16) (s : Vec F S1024x1024 .f32) :
    out0_C_2 (F := F) c i a1 h1 a2 h2 a3 h3 a4 h4 hc0 hc1 x w s = k0_pay2 (F := F) s x w := by
  unfold out0_C_2
  rw [View.read_writes_eq_canon _ _ _ (cover0_C_2 c i a1 h1 a2 h2 a3 h3 a4 h4 hc0 hc1 x w s)]
  unfold kernelRun0_C
  dsimp only
  sl_unfold_words
  rw [View.canon_unit_zero hz, View.readCov_unit_zero (S := S1024x1024) _ hz]
  simp only [View.readAt_eq_ld, h1.read_unread, h2.read_unread, h4.read_unread, View.ld_unit_zero (S := S1024x1024) hz, View.ld_unit_zero (S := S1x1024x1024) hz3, View.ld_unit_zero (S := S1024x1024) hz]

/-- The accumulator after a block's first point. -/
theorem atFirst {F : FTy → Type} [FloatOps F] (m : (ℓ : Loc nD τ sig) → Buf (Elt F) ℓ) (c : Dev nD) (t : Fin cfg0.N) (h0 : t.val % 8 = 0) (h1 : ¬t.val % 8 = 7) :
    (outsAt0 m c t.val t.isLt).2 = k0_pay2 (F := F) (k0_pay1 (F := F)) (iblk m c 0 t) (iblk m c 1 t) := by
  rw [outsAt0_A m c t h0 h1, first]

/-- The accumulator after a later point. -/
theorem atLater {F : FTy → Type} [FloatOps F] (m : (ℓ : Loc nD τ sig) → Buf (Elt F) ℓ) (c : Dev nD) (t : Fin cfg0.N) (h0 : ¬t.val % 8 = 0) :
    (outsAt0 m c t.val t.isLt).2 = k0_pay2 (F := F) (outsAt0 m c (t.val - 1) (Nat.lt_of_le_of_lt (Nat.sub_le _ _) t.isLt)).2 (iblk m c 0 t) (iblk m c 1 t) := by
  by_cases h1 : t.val % 8 = 7
  · rw [outsAt0_C m c t h0 h1, last]
  · rw [outsAt0_B m c t h0 h1, later]

/-- What a block's last point stores. -/
theorem atStored {F : FTy → Type} [FloatOps F] (m : (ℓ : Loc nD τ sig) → Buf (Elt F) ℓ) (c : Dev nD) (t : Fin cfg0.N) (h0 : ¬t.val % 8 = 0) (h1 : t.val % 8 = 7) :
    (outsAt0 m c t.val t.isLt).1 = k0_pay2 (F := F) (outsAt0 m c (t.val - 1) (Nat.lt_of_le_of_lt (Nat.sub_le _ _) t.isLt)).2 (iblk m c 0 t) (iblk m c 1 t) := by
  rw [outsAt0_C m c t h0 h1, stored]

/-! ## Where the blocks lie -/

theorem idx0 : ∀ t : Fin cfg0.N, win0_0.index t = ![t.val / 32, t.val % 8] := by decide +kernel
theorem idx1 : ∀ t : Fin cfg0.N, win0_1.index t = ![t.val % 8, t.val % 32 / 8, 0] := by decide +kernel
theorem idx2 : ∀ t : Fin cfg0.N, win0_2.index t = ![t.val / 32, t.val % 32 / 8] := by decide +kernel
theorem points (t : Fin cfg0.N) : t.val < 128 := lt_of_lt_of_eq t.isLt N_0

/-! ## The whole result -/

/-- The part of an entry that one slab of columns gives. -/
def slab (x : S4096x8192.Idx → EReal) (w : S8x4096x1024.Idx → EReal) (p q : Fin 4096) (j : ℕ) : EReal :=
  if h : j < 8 then ∑ k : Fin 1024, x (ValueIdx.ix2 p ⟨1024 * j + k.val, by omega⟩) * w (ValueIdx.ix3 (⟨j, h⟩ : Fin 8) q k) else 0

/-- The gradient, entry by entry. -/
def grad (x : S4096x8192.Idx → EReal) (w : S8x4096x1024.Idx → EReal) : S4096x4096.Idx → EReal := fun i =>
  ∑ j ∈ Finset.range 8, slab x w (i 0) (i 1) j

variable (m : (ℓ : Loc nD τ sig) → Buf (Elt Ideal) ℓ)

/-- The gradient's block at a point. -/
theorem block0 (c : Dev nD) (t : Fin cfg0.N) (a : Fin 1024) (k : Fin 1024) (j : S4096x8192.Idx)
    (h0 : (j 0).val = t.val / 32 * 1024 + a.val) (h1 : (j 1).val = t.val % 8 * 1024 + k.val) :
    iblk m c 0 t (ValueIdx.ix2 a k) = m ((c : Thread nD τ).loc main_arg0) j := by
  have e0 : ((win0_0.blk t).view.emb (ValueIdx.ix2 a k) 0 : ℕ) = t.val / 32 * 1024 + a.val := by blk_simp [idx0]; rfl
  have e1 : ((win0_0.blk t).view.emb (ValueIdx.ix2 a k) 1 : ℕ) = t.val % 8 * 1024 + k.val := by blk_simp [idx0]; rfl
  blk_simp [iblk]
  refine (congrFun (V_main_arg0 m c) _).trans (congrArg (m ((c : Thread nD τ).loc main_arg0)) (funext fun x => Fin.ext ?_))
  match x with
  | ⟨0, _⟩ => exact e0.trans h0.symm
  | ⟨1, _⟩ => exact e1.trans h1.symm

/-- The weights' block at a point. -/
theorem block1 (c : Dev nD) (t : Fin cfg0.N) (b : Fin 1024) (k : Fin 1024) (j : S8x4096x1024.Idx)
    (h0 : (j 0).val = t.val % 8) (h1 : (j 1).val = t.val % 32 / 8 * 1024 + b.val) (h2 : (j 2).val = k.val) :
    iblk m c 1 t (ValueIdx.ix3 (0 : Fin 1) b k) = m ((c : Thread nD τ).loc main_arg1) j := by
  have e0 : ((win0_1.blk t).view.emb (ValueIdx.ix3 (0 : Fin 1) b k) 0 : ℕ) = t.val % 8 := by blk_simp [idx1]
  have e1 : ((win0_1.blk t).view.emb (ValueIdx.ix3 (0 : Fin 1) b k) 1 : ℕ) = t.val % 32 / 8 * 1024 + b.val := by blk_simp [idx1]; rfl
  have e2 : ((win0_1.blk t).view.emb (ValueIdx.ix3 (0 : Fin 1) b k) 2 : ℕ) = k.val := by blk_simp [idx1]; rfl
  blk_simp [iblk]
  refine (congrFun (V_main_arg1 m c) _).trans (congrArg (m ((c : Thread nD τ).loc main_arg1)) (funext fun x => Fin.ext ?_))
  match x with
  | ⟨0, _⟩ => exact e0.trans h0.symm
  | ⟨1, _⟩ => exact e1.trans h1.symm
  | ⟨2, _⟩ => exact e2.trans h2.symm

/-- What a point adds to an entry is the slab's part of it. -/
theorem adds (c : Dev nD) (t : Fin cfg0.N) (a b : Fin 1024) (p q : Fin 4096)
    (hp : p.val = t.val / 32 * 1024 + a.val) (hq : q.val = t.val % 32 / 8 * 1024 + b.val) (n : ℕ) (hn : n = t.val % 8)
    (X : Vec Ideal S1024x1024 .bf16) (W : Vec Ideal S1x1024x1024 .bf16) (hX : X = iblk m c 0 t) (hW : W = iblk m c 1 t) :
    (∑ k : Fin 1024, (X (ValueIdx.ix2 a k) : EReal) * W (ValueIdx.ix3 (0 : Fin 1) b k)) = slab (m ((c : Thread nD τ).loc main_arg0)) (m ((c : Thread nD τ).loc main_arg1)) p q n := by
  subst hX hW hn
  have h8 : t.val % 8 < 8 := by omega
  unfold slab
  rw [dif_pos h8]
  refine Finset.sum_congr rfl fun k _ => ?_
  exact congrArg₂ (· * ·) (block0 m c t a k _ hp (by show 1024 * (t.val % 8) + k.val = _; omega)) (block1 m c t b k _ rfl hq rfl)

/-- A block's first point gives the entry its slab. -/
theorem slabFirst (c : Dev nD) (t : Fin cfg0.N) (a b : Fin 1024) (p q : Fin 4096) (h0 : t.val % 8 = 0)
    (hp : p.val = t.val / 32 * 1024 + a.val) (hq : q.val = t.val % 32 / 8 * 1024 + b.val) :
    ((outsAt0 m c t.val t.isLt).2 (ValueIdx.ix2 a b) : EReal) = slab (m ((c : Thread nD τ).loc main_arg0)) (m ((c : Thread nD τ).loc main_arg1)) p q 0 := by
  refine (congrFun (atFirst m c t h0 (by omega)) _).trans ((step _ _ _ a b).trans ?_)
  rw [zero, zero_add]
  exact adds m c t a b p q hp hq 0 h0.symm _ _ rfl rfl

/-- A later point adds its slab to the entry. -/
theorem slabLater (c : Dev nD) (t : Fin cfg0.N) (a b : Fin 1024) (p q : Fin 4096) (h0 : ¬t.val % 8 = 0)
    (hp : p.val = t.val / 32 * 1024 + a.val) (hq : q.val = t.val % 32 / 8 * 1024 + b.val) :
    ((outsAt0 m c t.val t.isLt).2 (ValueIdx.ix2 a b) : EReal)
      = (outsAt0 m c (t.val - 1) (Nat.lt_of_le_of_lt (Nat.sub_le _ _) t.isLt)).2 (ValueIdx.ix2 a b) + slab (m ((c : Thread nD τ).loc main_arg0)) (m ((c : Thread nD τ).loc main_arg1)) p q (t.val % 8) := by
  refine (congrFun (atLater m c t h0) _).trans ((step _ _ _ a b).trans ?_)
  exact congrArg (_ + ·) (adds m c t a b p q hp hq _ rfl _ _ rfl rfl)

/-- The accumulator after a point holds the slabs up to the point's own. -/
theorem sofar (c : Dev nD) (a b : Fin 1024) (p q : Fin 4096) : ∀ (n : ℕ) (h : n < cfg0.N), p.val = n / 32 * 1024 + a.val → q.val = n % 32 / 8 * 1024 + b.val →
    ((outsAt0 m c n h).2 (ValueIdx.ix2 a b) : EReal) = ∑ j ∈ Finset.range (n % 8 + 1), slab (m ((c : Thread nD τ).loc main_arg0)) (m ((c : Thread nD τ).loc main_arg1)) p q j := by
  intro n
  induction n with
  | zero =>
    intro h hp hq
    refine (slabFirst m c ⟨0, h⟩ a b p q rfl hp hq).trans ?_
    rw [Nat.zero_mod, zero_add, Finset.sum_range_one]
  | succ n ih =>
    intro h hp hq
    by_cases h0 : (n + 1) % 8 = 0
    · refine (slabFirst m c ⟨n + 1, h⟩ a b p q h0 hp hq).trans ?_
      rw [h0, zero_add, Finset.sum_range_one]
    · refine (slabLater m c ⟨n + 1, h⟩ a b p q h0 hp hq).trans ?_
      rw [Finset.sum_range_succ]
      refine congrArg (· + _) ((ih (Nat.lt_of_succ_lt h) (by omega) (by omega)).trans ?_)
      rw [show (n + 1) % 8 = n % 8 + 1 by omega]

/-- The result array after the run is the gradient. -/
theorem result (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have ht := points t
  have h7 : t.val % 8 = 7 := (flush0_2 t).1 hf
  blk_simp
  rw [after0_2, atStored m c t (by omega) h7]
  obtain ⟨a, b, rfl⟩ : ∃ (a b : Fin 1024), y = ValueIdx.ix2 a b := ⟨y 0, y 1, ValueIdx.eq_ix2 y⟩
  have e0 : ((win0_2.blk t).view.emb (ValueIdx.ix2 a b) 0 : ℕ) = t.val / 32 * 1024 + a.val := by blk_simp [idx2]; rfl
  have e1 : ((win0_2.blk t).view.emb (ValueIdx.ix2 a b) 1 : ℕ) = t.val % 32 / 8 * 1024 + b.val := by blk_simp [idx2]; rfl
  show _ = grad _ _ ((win0_2.blk t).view.emb (ValueIdx.ix2 a b) : S4096x4096.Idx)
  generalize ((win0_2.blk t).view.emb (ValueIdx.ix2 a b) : S4096x4096.Idx) = i at e0 e1 ⊢
  unfold grad
  obtain ⟨p, hp'⟩ : ∃ p : Fin 4096, p = i 0 := ⟨_, rfl⟩
  obtain ⟨q, hq'⟩ : ∃ q : Fin 4096, q = i 1 := ⟨_, rfl⟩
  rw [← hp', ← hq']
  have hp : p.val = t.val / 32 * 1024 + a.val := by rw [hp']; exact e0
  have hq : q.val = t.val % 32 / 8 * 1024 + b.val := by rw [hq']; exact e1
  refine (step _ _ _ a b).trans ?_
  rw [adds m c t a b p q hp hq 7 h7.symm _ _ rfl rfl, Finset.sum_range_succ]
  refine congrArg (· + _) ?_
  refine (sofar m c a b p q (t.val - 1) (Nat.lt_of_le_of_lt (Nat.sub_le _ _) t.isLt) (by omega) (by omega)).trans ?_
  rw [show (t.val - 1) % 8 + 1 = 7 by omega]

end Cert.Kernel5Ideal.Product

namespace Cert.Reference5Ideal.Product

open Idealize.ShloMosaic Idealize.ShloMosaic.TcCoe Idealize.ShloMosaic.ValueIdx Idealize.SL.Sem
open Cert.Reference5Ideal Cert.Reference5Ideal.Gen Cert.Reference5Ideal.Read Cert.Kernel5Ideal.Product

/-- A sum over all columns, slab by slab. -/
theorem slabs (f : Fin 8192 → EReal) : ∑ k : Fin 8192, f k = ∑ j : Fin 8, ∑ k : Fin 1024, f ⟨1024 * j.val + k.val, by omega⟩ := by
  rw [← Fintype.sum_prod_type']
  refine (Equiv.sum_comp (finProdFinEquiv (m := 8) (n := 1024)) (f : Fin (8 * 1024) → EReal)).symm.trans ?_
  refine Finset.sum_congr rfl fun z _ => congrArg f (Fin.ext ?_)
  show z.2.val + 1024 * z.1.val = 1024 * z.1.val + z.2.val
  omega

/-- The product with the weights, entry by entry. -/
theorem product (x : S4096x8192.Idx → EReal) (w : S8x4096x1024.Idx → EReal) (i : S4096x4096.Idx) :
    (val_main_v7 (F := Ideal) x w i : EReal) = ∑ j ∈ Finset.range 8, slab x w (i 0) (i 1) j := by
  rw [val_main_v7_apply, slabs, Finset.sum_range]
  refine Finset.sum_congr rfl fun j _ => ?_
  unfold slab
  rw [dif_pos j.isLt]
  refine Finset.sum_congr rfl fun k _ => ?_
  have h1 : (i 1).val < 4096 := (i 1).isLt
  have hj := j.isLt
  have hk := k.isLt
  refine congrArg₂ (· * ·) (congrArg x (funext fun q => ?_)) ?_
  · match q with
    | ⟨0, _⟩ => rfl
    | ⟨1, _⟩ => rfl
  · rw [val_main_v3_apply, val_main_v2_apply, val_main_v1_apply]
    refine congrArg w (funext fun q => Fin.ext ?_)
    match q with
    | ⟨0, _⟩ => show ((i 1).val * 8192 + (1024 * j.val + k.val)) / 1024 % 8 = j.val; omega
    | ⟨1, _⟩ => show ((i 1).val * 8192 + (1024 * j.val + k.val)) / 8192 = (i 1).val; omega
    | ⟨2, _⟩ => show ((i 1).val * 8192 + (1024 * j.val + k.val)) % 1024 = k.val; omega

/-- The reference's gradient is the same one. -/
theorem reference (x : S4096x8192.Idx → EReal) (w : S8x4096x1024.Idx → EReal) : val_main_v7 (F := Ideal) x w = grad x w := funext fun i => product x w i

end Cert.Reference5Ideal.Product

namespace Cert.Proof

open Idealize.ShloMosaic Idealize.ShloMosaic.TcCoe Idealize.SL.Sem

/-- From the same arguments the kernel and the reference end with the same gradient. -/
theorem algebraic5 : Cert.algebraic_Kernel5Ideal_Reference5Ideal := fun m g m' g' _ hargs =>
  ⟨fun c => Cert.Kernel5Ideal.Product.grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run Cert.Kernel5Ideal.defs _ _).mono
      (fun r h c => ⟨(h c).1.trans (Cert.Kernel5Ideal.Product.result m c), (h c).2⟩)
      (Cert.Kernel5Ideal.Value.run_blocks m g),
    (θ_run Cert.Reference5Ideal.defs _ _).mono
      (fun r h c => ⟨(h c).1.trans ((Cert.Reference5Ideal.Read.val_main_v7_eq _ _).trans
          ((Cert.Reference5Ideal.Product.reference _ _).trans (by rw [(hargs c).1, (hargs c).2]))), (h c).2⟩)
      (Cert.Reference5Ideal.Value.run m' g')⟩

theorem frame_kernel5 : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

end Cert.Proof

end
-- ==== Proof.Calls.OutWeights.lean ====
/-
  The weight gradient of an output projection: a block of it is one product over all rows.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.ValueLayout
public import Idealize.ShloMosaic.PureOps.Ideal.Laws

@[expose] public section

set_option maxRecDepth 16384

noncomputable section

namespace Cert.Kernel6Ideal.Product

open Idealize.ShloMosaic Idealize.ShloMosaic.TcCoe Idealize.ShloMosaic.ValueIdx Idealize.ShloMosaic.Tactic Idealize.SL.Sem
open Cert.Kernel6Ideal Cert.Kernel6Ideal.Gen Cert.Kernel6Ideal.Facts₀ Cert.Kernel6Ideal.Facts

/-! ## One block's product -/

/-- The contraction a point computes, as a sum. -/
theorem contract (x y : FVec Ideal S4096x1024 .bf16) (a b : Fin 1024) :
    matmul (F := Ideal) dot_S4096x1024_S4096x1024_S1024x1024_0_0_1_1_n_n none x y (constant S1024x1024 .f32 0x00000000#32) (ValueIdx.ix2 a b) = ∑ k : Fin 4096, x (ValueIdx.ix2 k a) * y (ValueIdx.ix2 k b) := by
  refine (Ideal.matmul_constant_zero_apply _ none x y _).trans ?_
  rw [← Equiv.sum_comp (contrEquiv1 dot_S4096x1024_S4096x1024_S1024x1024_0_0_1_1_n_n 4096 rfl rfl).symm]
  refine Finset.sum_congr rfl fun k _ => ?_
  have hk := contrEquiv1_symm_val dot_S4096x1024_S4096x1024_S1024x1024_0_0_1_1_n_n 4096 rfl rfl k
  congr 1
  · refine congrArg x (funext fun b => Fin.ext ?_)
    match b with
    | ⟨0, _⟩ => exact (dot_S4096x1024_S4096x1024_S1024x1024_0_0_1_1_n_n.lhsIdx_val_of_single rfl _ _).trans hk
    | ⟨1, _⟩ => exact rfl
  · refine congrArg y (funext fun b => Fin.ext ?_)
    match b with
    | ⟨0, _⟩ => exact (dot_S4096x1024_S4096x1024_S1024x1024_0_0_1_1_n_n.rhsIdx_val_of_single rfl _ _).trans hk
    | ⟨1, _⟩ => exact rfl

/-- What a point stores. -/
theorem tile (x y : FVec Ideal S4096x1024 .bf16) (a b : Fin 1024) :
    k0_pay1 (F := Ideal) x y (ValueIdx.ix2 a b) = ∑ k : Fin 4096, x (ValueIdx.ix2 k a) * y (ValueIdx.ix2 k b) := by
  unfold k0_pay1
  exact contract x y a b

theorem hz : (![0, 0] : Fin 2 → ℕ) = fun _ => 0 := funext fun a => by fin_cases a <;> rfl

/-- What the result's buffer holds after a point, from the two blocks the point reads. -/
theorem stored (x y : FVec Ideal S4096x1024 .bf16) : out0_2 (F := Ideal) x y = k0_pay1 (F := Ideal) x y := by
  unfold out0_2
  rw [View.canon_unit_zero hz]
  simp only [View.ld_unit_zero (S := S4096x1024) hz]

/-! ## Where the blocks lie -/

theorem idx0 : ∀ t : Fin cfg0.N, win0_0.index t = ![0, t.val / 4] := by decide +kernel
theorem idx1 : ∀ t : Fin cfg0.N, win0_1.index t = ![0, t.val % 4] := by decide +kernel
theorem idx2 : ∀ t : Fin cfg0.N, win0_2.index t = ![t.val / 4, t.val % 4] := by decide +kernel
theorem points (t : Fin cfg0.N) : t.val < 16 := lt_of_lt_of_eq t.isLt N_0

/-! ## The whole result -/

/-- The product, entry by entry. -/
def grad (x : S4096x4096.Idx → EReal) (y : S4096x4096.Idx → EReal) : S4096x4096.Idx → EReal := fun i =>
  ∑ k : Fin 4096, x (ValueIdx.ix2 k (i 0)) * y (ValueIdx.ix2 k (i 1))

variable (m : (ℓ : Loc nD τ sig) → Buf (Elt Ideal) ℓ)

/-- The first argument's block at a point. -/
theorem block0 (c : Dev nD) (t : Fin cfg0.N) (a : Fin 1024) (k : Fin 4096) (j : S4096x4096.Idx)
    (h0 : (j 0).val = 0 * 4096 + k.val) (h1 : (j 1).val = t.val / 4 * 1024 + a.val) :
    iblk m c 0 t (ValueIdx.ix2 k a) = m ((c : Thread nD τ).loc main_arg0) j := by
  have e0 : ((win0_0.blk t).view.emb (ValueIdx.ix2 k a) 0 : ℕ) = 0 * 4096 + k.val := by blk_simp [idx0]; rfl
  have e1 : ((win0_0.blk t).view.emb (ValueIdx.ix2 k a) 1 : ℕ) = t.val / 4 * 1024 + a.val := by blk_simp [idx0]; rfl
  blk_simp [iblk]
  refine (congrFun (V_main_arg0 m c) _).trans (congrArg (m ((c : Thread nD τ).loc main_arg0)) (funext fun x => Fin.ext ?_))
  match x with
  | ⟨0, _⟩ => exact e0.trans h0.symm
  | ⟨1, _⟩ => exact e1.trans h1.symm

/-- The second argument's block at a point. -/
theorem block1 (c : Dev nD) (t : Fin cfg0.N) (b : Fin 1024) (k : Fin 4096) (j : S4096x4096.Idx)
    (h0 : (j 0).val = 0 * 4096 + k.val) (h1 : (j 1).val = t.val % 4 * 1024 + b.val) :
    iblk m c 1 t (ValueIdx.ix2 k b) = m ((c : Thread nD τ).loc main_arg1) j := by
  have e0 : ((win0_1.blk t).view.emb (ValueIdx.ix2 k b) 0 : ℕ) = 0 * 4096 + k.val := by blk_simp [idx1]; rfl
  have e1 : ((win0_1.blk t).view.emb (ValueIdx.ix2 k b) 1 : ℕ) = t.val % 4 * 1024 + b.val := by blk_simp [idx1]; rfl
  blk_simp [iblk]
  refine (congrFun (V_main_arg1 m c) _).trans (congrArg (m ((c : Thread nD τ).loc main_arg1)) (funext fun x => Fin.ext ?_))
  match x with
  | ⟨0, _⟩ => exact e0.trans h0.symm
  | ⟨1, _⟩ => exact e1.trans h1.symm

/-- The result array after the run is the product of the arguments. -/
theorem result (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  have ht := points t
  blk_simp
  rw [after0_2, stored]
  obtain ⟨a, b, rfl⟩ : ∃ (a b : Fin 1024), y = ValueIdx.ix2 a b := ⟨y 0, y 1, ValueIdx.eq_ix2 y⟩
  refine (tile _ _ a b).trans ?_
  have e0 : ((win0_2.blk t).view.emb (ValueIdx.ix2 a b) 0 : ℕ) = t.val / 4 * 1024 + a.val := by blk_simp [idx2]; rfl
  have e1 : ((win0_2.blk t).view.emb (ValueIdx.ix2 a b) 1 : ℕ) = t.val % 4 * 1024 + b.val := by blk_simp [idx2]; rfl
  unfold grad
  refine Finset.sum_congr rfl fun k _ => ?_
  exact congrArg₂ (· * ·) (block0 m c t a k _ (by show k.val = _; omega) (by show (((win0_2.blk t).view.emb (ValueIdx.ix2 a b) 0 : ℕ)) = _; omega))
    (block1 m c t b k _ (by show k.val = _; omega) (by show (((win0_2.blk t).view.emb (ValueIdx.ix2 a b) 1 : ℕ)) = _; omega))

end Cert.Kernel6Ideal.Product

namespace Cert.Reference6Ideal.Product

open Idealize.ShloMosaic Idealize.ShloMosaic.TcCoe Idealize.ShloMosaic.ValueIdx Idealize.SL.Sem
open Cert.Reference6Ideal Cert.Reference6Ideal.Gen Cert.Reference6Ideal.Read Cert.Kernel6Ideal.Product

/-- The reference's gradient is the same product. -/
theorem reference (x : S4096x4096.Idx → EReal) (y : S4096x4096.Idx → EReal) : val_main_v8 (F := Ideal) x y = grad x y := by
  funext i
  rw [val_main_v8_apply, val_main_v7_apply, val_main_v6_apply]
  unfold grad
  refine Finset.sum_congr rfl fun k _ => ?_
  refine (mul_comm _ _).trans (congrArg₂ (· * ·) (congrArg x (funext fun q => ?_)) (congrArg y (funext fun q => ?_)))
  · match q with
    | ⟨0, _⟩ => rfl
    | ⟨1, _⟩ => rfl
  · match q with
    | ⟨0, _⟩ => rfl
    | ⟨1, _⟩ => rfl

end Cert.Reference6Ideal.Product

namespace Cert.Proof

open Idealize.ShloMosaic Idealize.ShloMosaic.TcCoe Idealize.SL.Sem

/-- From the same arguments the kernel and the reference end with the same product. -/
theorem algebraic6 : Cert.algebraic_Kernel6Ideal_Reference6Ideal := fun m g m' g' _ hargs =>
  ⟨fun c => Cert.Kernel6Ideal.Product.grad (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    (θ_run Cert.Kernel6Ideal.defs _ _).mono
      (fun r h c => ⟨(h c).1.trans (Cert.Kernel6Ideal.Product.result m c), (h c).2⟩)
      (Cert.Kernel6Ideal.Value.run_blocks m g),
    (θ_run Cert.Reference6Ideal.defs _ _).mono
      (fun r h c => ⟨(h c).1.trans ((Cert.Reference6Ideal.Read.val_main_v8_eq _ _).trans
          ((Cert.Reference6Ideal.Product.reference _ _).trans (congrArg₂ Cert.Kernel6Ideal.Product.grad (hargs c).1 (hargs c).2))), (h c).2⟩)
      (Cert.Reference6Ideal.Value.run m' g')⟩

theorem frame_kernel6 : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run m ρ)

end Cert.Proof

end
-- ==== Proof.Calls.KvWeights.lean ====
/-
  The weight gradient of the shared keys and values: a block of it is one product over all rows.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.ValueLayout
public import Idealize.ShloMosaic.PureOps.Ideal.Laws

@[expose] public section

set_option maxRecDepth 16384

noncomputable section

namespace Cert.Kernel7Ideal.Product

open Idealize.ShloMosaic Idealize.ShloMosaic.TcCoe Idealize.ShloMosaic.ValueIdx Idealize.ShloMosaic.Tactic Idealize.SL.Sem
open Cert.Kernel7Ideal Cert.Kernel7Ideal.Gen Cert.Kernel7Ideal.Facts₀ Cert.Kernel7Ideal.Facts

/-! ## One block's product -/

/-- The contraction a point computes, as a sum. -/
theorem contract (x y : FVec Ideal S4096x1024 .bf16) (a b : Fin 1024) :
    matmul (F := Ideal) dot_S4096x1024_S4096x1024_S1024x1024_0_0_1_1_n_n none x y (constant S1024x1024 .f32 0x00000000#32) (ValueIdx.ix2 a b) = ∑ k : Fin 4096, x (ValueIdx.ix2 k a) * y (ValueIdx.ix2 k b) := by
  refine (Ideal.matmul_constant_zero_apply _ none x y _).trans ?_
  rw [← Equiv.sum_comp (contrEquiv1 dot_S4096x1024_S4096x1024_S1024x1024_0_0_1_1_n_n 4096 rfl rfl).symm]
  refine Finset.sum_congr rfl fun k _ => ?_
  have hk := contrEquiv1_symm_val dot_S4096x1024_S4096x1024_S1024x1024_0_0_1_1_n_n 4096 rfl rfl k
  congr 1
  · refine congrArg x (funext fun b => Fin.ext ?_)
    match b with
    | ⟨0, _⟩ => exact (dot_S4096x1024_S4096x1024_S1024x1024_0_0_1_1_n_n.lhsIdx_val_of_single rfl _ _).trans hk
    | ⟨1, _⟩ => exact rfl
  · refine congrArg y (funext fun b => Fin.ext ?_)
    match b with
    | ⟨0, _⟩ => exact (dot_S4096x1024_S4096x1024_S1024x1024_0_0_1_1_n_n.rhsIdx_val_of_single rfl _ _).trans hk
    | ⟨1, _⟩ => exact rfl

/-- What a point stores. -/
theorem tile (x y : FVec Ideal S4096x1024 .bf16) (a b : Fin 1024) :
    k0_pay1 (F := Ideal) x y (ValueIdx.ix2 a b) = ∑ k : Fin 4096, x (ValueIdx.ix2 k a) * y (ValueIdx.ix2 k b) := by
  unfold k0_pay1
  exact contract x y a b

theorem hz : (![0, 0] : Fin 2 → ℕ) = fun _ => 0 := funext fun a => by fin_cases a <;> rfl

/-- What the result's buffer holds after a point, from the two blocks the point reads. -/
theorem stored (x y : FVec Ideal S4096x1024 .bf16) : out0_2 (F := Ideal) x y = k0_pay1 (F := Ideal) x y := by
  unfold out0_2
  rw [View.canon_unit_zero hz]
  simp only [View.ld_unit_zero (S := S4096x1024) hz]

/-! ## Where the blocks lie -/

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![t.val, 0] := by decide +kernel
theorem points (t : Fin cfg0.N) : t.val < 4 := lt_of_lt_of_eq t.isLt N_0

/-! ## The whole result -/

/-- The product, entry by entry. -/
def grad (x : S4096x4096.Idx → EReal) (y : S4096x1024.Idx → EReal) : S4096x1024.Idx → EReal := fun i =>
  ∑ k : Fin 4096, x (ValueIdx.ix2 k (i 0)) * y (ValueIdx.ix2 k (i 1))

variable (m : (ℓ : Loc nD τ sig) → Buf (Elt Ideal) ℓ)

/-- The first argument's block at a point. -/
theorem block0 (c : Dev nD) (t : Fin cfg0.N) (a : Fin 1024) (k : Fin 4096) (j : S4096x4096.Idx)
    (h0 : (j 0).val = 0 * 4096 + k.val) (h1 : (j 1).val = t.val * 1024 + a.val) :
    iblk m c 0 t (ValueIdx.ix2 k a) = m ((c : Thread nD τ).loc main_arg0) j := by
  have e0 : ((win0_0.blk t).view.emb (ValueIdx.ix2 k a) 0 : ℕ) = 0 * 4096 + k.val := by blk_simp [idx0]; rfl
  have e1 : ((win0_0.blk t).view.emb (ValueIdx.ix2 k a) 1 : ℕ) = t.val * 1024 + a.val := by blk_simp [idx0]; rfl
  blk_simp [iblk]
  refine (congrFun (V_main_arg0 m c) _).trans (congrArg (m ((c : Thread nD τ).loc main_arg0)) (funext fun x => Fin.ext ?_))
  match x with
  | ⟨0, _⟩ => exact e0.trans h0.symm
  | ⟨1, _⟩ => exact e1.trans h1.symm

/-- The second argument's block at a point. -/
theorem block1 (c : Dev nD) (t : Fin cfg0.N) (b : Fin 1024) (k : Fin 4096) (j : S4096x1024.Idx)
    (h0 : (j 0).val = 0 * 4096 + k.val) (h1 : (j 1).val = 0 * 1024 + b.val) :
    iblk m c 1 t (ValueIdx.ix2 k b) = m ((c : Thread nD τ).loc main_arg1) j := by
  have e0 : ((win0_1.blk t).view.emb (ValueIdx.ix2 k b) 0 : ℕ) = 0 * 4096 + k.val := by blk_simp [idx1]; rfl
  have e1 : ((win0_1.blk t).view.emb (ValueIdx.ix2 k b) 1 : ℕ) = 0 * 1024 + b.val := by blk_simp [idx1]; rfl
  blk_simp [iblk]
  refine (congrFun (V_main_arg1 m c) _).trans (congrArg (m ((c : Thread nD τ).loc main_arg1)) (funext fun x => Fin.ext ?_))
  match x with
  | ⟨0, _⟩ => exact e0.trans h0.symm
  | ⟨1, _⟩ => exact e1.trans h1.symm

/-- The result array after the run is the product of the arguments. -/
theorem result (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  have ht := points t
  blk_simp
  rw [after0_2, stored]
  obtain ⟨a, b, rfl⟩ : ∃ (a b : Fin 1024), y = ValueIdx.ix2 a b := ⟨y 0, y 1, ValueIdx.eq_ix2 y⟩
  refine (tile _ _ a b).trans ?_
  have e0 : ((win0_2.blk t).view.emb (ValueIdx.ix2 a b) 0 : ℕ) = t.val * 1024 + a.val := by blk_simp [idx2]; rfl
  have e1 : ((win0_2.blk t).view.emb (ValueIdx.ix2 a b) 1 : ℕ) = 0 * 1024 + b.val := by blk_simp [idx2]; rfl
  unfold grad
  refine Finset.sum_congr rfl fun k _ => ?_
  exact congrArg₂ (· * ·) (block0 m c t a k _ (by show k.val = _; omega) (by show (((win0_2.blk t).view.emb (ValueIdx.ix2 a b) 0 : ℕ)) = _; omega))
    (block1 m c t b k _ (by show k.val = _; omega) (by show (((win0_2.blk t).view.emb (ValueIdx.ix2 a b) 1 : ℕ)) = _; omega))

end Cert.Kernel7Ideal.Product

namespace Cert.Reference7Ideal.Product

open Idealize.ShloMosaic Idealize.ShloMosaic.TcCoe Idealize.ShloMosaic.ValueIdx Idealize.SL.Sem
open Cert.Reference7Ideal Cert.Reference7Ideal.Gen Cert.Reference7Ideal.Read Cert.Kernel7Ideal.Product

/-- The reference's gradient is the same product. -/
theorem reference (x : S4096x4096.Idx → EReal) (y : S4096x1024.Idx → EReal) : val_main_v8 (F := Ideal) x y = grad x y := by
  funext i
  rw [val_main_v8_apply, val_main_v7_apply, val_main_v6_apply]
  unfold grad
  refine Finset.sum_congr rfl fun k _ => ?_
  refine (mul_comm _ _).trans (congrArg₂ (· * ·) (congrArg x (funext fun q => ?_)) (congrArg y (funext fun q => ?_)))
  · match q with
    | ⟨0, _⟩ => rfl
    | ⟨1, _⟩ => rfl
  · match q with
    | ⟨0, _⟩ => rfl
    | ⟨1, _⟩ => rfl

end Cert.Reference7Ideal.Product

namespace Cert.Proof

open Idealize.ShloMosaic Idealize.ShloMosaic.TcCoe Idealize.SL.Sem

/-- From the same arguments the kernel and the reference end with the same product. -/
theorem algebraic7 : Cert.algebraic_Kernel7Ideal_Reference7Ideal := fun m g m' g' _ hargs =>
  ⟨fun c => Cert.Kernel7Ideal.Product.grad (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    (θ_run Cert.Kernel7Ideal.defs _ _).mono
      (fun r h c => ⟨(h c).1.trans (Cert.Kernel7Ideal.Product.result m c), (h c).2⟩)
      (Cert.Kernel7Ideal.Value.run_blocks m g),
    (θ_run Cert.Reference7Ideal.defs _ _).mono
      (fun r h c => ⟨(h c).1.trans ((Cert.Reference7Ideal.Read.val_main_v8_eq _ _).trans
          ((Cert.Reference7Ideal.Product.reference _ _).trans (congrArg₂ Cert.Kernel7Ideal.Product.grad (hargs c).1 (hargs c).2))), (h c).2⟩)
      (Cert.Reference7Ideal.Value.run m' g')⟩

theorem frame_kernel7 : Cert.quiescent_Kernel7Ideal := fun m ρ _ => Cert.Kernel7Ideal.Gen.frame (F := Ideal) m ρ

theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run m ρ)

end Cert.Proof

end
-- ==== Proof.Calls.KvInput.lean ====
/-
  The input gradient through the shared keys and values: a block of it is one product of rows with rows.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.ValueLayout
public import Idealize.ShloMosaic.PureOps.Ideal.Laws

@[expose] public section

set_option maxRecDepth 16384

noncomputable section

namespace Cert.Kernel8Ideal.Product

open Idealize.ShloMosaic Idealize.ShloMosaic.TcCoe Idealize.ShloMosaic.ValueIdx Idealize.ShloMosaic.Tactic Idealize.SL.Sem
open Cert.Kernel8Ideal Cert.Kernel8Ideal.Gen Cert.Kernel8Ideal.Facts₀ Cert.Kernel8Ideal.Facts

/-! ## One block's product -/

/-- The contraction a point computes, as a sum. -/
theorem contract (x y : FVec Ideal S1024x1024 .bf16) (a b : Fin 1024) :
    matmul (F := Ideal) dot_S1024x1024_S1024x1024_S1024x1024_1_1_0_0_n_n none x y (constant S1024x1024 .f32 0x00000000#32) (ValueIdx.ix2 a b) = ∑ k : Fin 1024, x (ValueIdx.ix2 a k) * y (ValueIdx.ix2 b k) := by
  refine (Ideal.matmul_constant_zero_apply _ none x y _).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  congr 1
  · refine congrArg x (funext fun b => Fin.ext ?_)
    match b with
    | ⟨0, _⟩ => exact rfl
    | ⟨1, _⟩ => exact (dot_S1024x1024_S1024x1024_S1024x1024_1_1_0_0_n_n.lhsIdx_val_of_single rfl _ _).trans hk
  · refine congrArg y (funext fun b => Fin.ext ?_)
    match b with
    | ⟨0, _⟩ => exact rfl
    | ⟨1, _⟩ => exact (dot_S1024x1024_S1024x1024_S1024x1024_1_1_0_0_n_n.rhsIdx_val_of_single rfl _ _).trans hk

/-- What a point stores. -/
theorem tile (x y : FVec Ideal S1024x1024 .bf16) (a b : Fin 1024) :
    k0_pay1 (F := Ideal) x y (ValueIdx.ix2 a b) = ∑ k : Fin 1024, x (ValueIdx.ix2 a k) * y (ValueIdx.ix2 b k) := by
  unfold k0_pay1
  exact contract x y a b

theorem hz : (![0, 0] : Fin 2 → ℕ) = fun _ => 0 := funext fun a => by fin_cases a <;> rfl

/-- What the result's buffer holds after a point, from the two blocks the point reads. -/
theorem stored (x y : FVec Ideal S1024x1024 .bf16) : out0_2 (F := Ideal) x y = k0_pay1 (F := Ideal) x y := by
  unfold out0_2
  rw [View.canon_unit_zero hz]
  simp only [View.ld_unit_zero (S := S1024x1024) hz]

/-! ## Where the blocks lie -/

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel
theorem points (t : Fin cfg0.N) : t.val < 16 := lt_of_lt_of_eq t.isLt N_0

/-! ## The whole result -/

/-- The product, entry by entry. -/
def grad (x : S4096x1024.Idx → EReal) (y : S4096x1024.Idx → EReal) : S4096x4096.Idx → EReal := fun i =>
  ∑ k : Fin 1024, x (ValueIdx.ix2 (i 0) k) * y (ValueIdx.ix2 (i 1) k)

variable (m : (ℓ : Loc nD τ sig) → Buf (Elt Ideal) ℓ)

/-- The first argument's block at a point. -/
theorem block0 (c : Dev nD) (t : Fin cfg0.N) (a : Fin 1024) (k : Fin 1024) (j : S4096x1024.Idx)
    (h0 : (j 0).val = t.val / 4 * 1024 + a.val) (h1 : (j 1).val = 0 * 1024 + k.val) :
    iblk m c 0 t (ValueIdx.ix2 a k) = m ((c : Thread nD τ).loc main_arg0) j := by
  have e0 : ((win0_0.blk t).view.emb (ValueIdx.ix2 a k) 0 : ℕ) = t.val / 4 * 1024 + a.val := by blk_simp [idx0]; rfl
  have e1 : ((win0_0.blk t).view.emb (ValueIdx.ix2 a k) 1 : ℕ) = 0 * 1024 + k.val := by blk_simp [idx0]; rfl
  blk_simp [iblk]
  refine (congrFun (V_main_arg0 m c) _).trans (congrArg (m ((c : Thread nD τ).loc main_arg0)) (funext fun x => Fin.ext ?_))
  match x with
  | ⟨0, _⟩ => exact e0.trans h0.symm
  | ⟨1, _⟩ => exact e1.trans h1.symm

/-- The second argument's block at a point. -/
theorem block1 (c : Dev nD) (t : Fin cfg0.N) (b : Fin 1024) (k : Fin 1024) (j : S4096x1024.Idx)
    (h0 : (j 0).val = t.val % 4 * 1024 + b.val) (h1 : (j 1).val = 0 * 1024 + k.val) :
    iblk m c 1 t (ValueIdx.ix2 b k) = m ((c : Thread nD τ).loc main_arg1) j := by
  have e0 : ((win0_1.blk t).view.emb (ValueIdx.ix2 b k) 0 : ℕ) = t.val % 4 * 1024 + b.val := by blk_simp [idx1]; rfl
  have e1 : ((win0_1.blk t).view.emb (ValueIdx.ix2 b k) 1 : ℕ) = 0 * 1024 + k.val := by blk_simp [idx1]; rfl
  blk_simp [iblk]
  refine (congrFun (V_main_arg1 m c) _).trans (congrArg (m ((c : Thread nD τ).loc main_arg1)) (funext fun x => Fin.ext ?_))
  match x with
  | ⟨0, _⟩ => exact e0.trans h0.symm
  | ⟨1, _⟩ => exact e1.trans h1.symm

/-- The result array after the run is the product of the arguments. -/
theorem result (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  have ht := points t
  blk_simp
  rw [after0_2, stored]
  obtain ⟨a, b, rfl⟩ : ∃ (a b : Fin 1024), y = ValueIdx.ix2 a b := ⟨y 0, y 1, ValueIdx.eq_ix2 y⟩
  refine (tile _ _ a b).trans ?_
  have e0 : ((win0_2.blk t).view.emb (ValueIdx.ix2 a b) 0 : ℕ) = t.val / 4 * 1024 + a.val := by blk_simp [idx2]; rfl
  have e1 : ((win0_2.blk t).view.emb (ValueIdx.ix2 a b) 1 : ℕ) = t.val % 4 * 1024 + b.val := by blk_simp [idx2]; rfl
  unfold grad
  refine Finset.sum_congr rfl fun k _ => ?_
  exact congrArg₂ (· * ·) (block0 m c t a k _ (by show (((win0_2.blk t).view.emb (ValueIdx.ix2 a b) 0 : ℕ)) = _; omega) (by show k.val = _; omega))
    (block1 m c t b k _ (by show (((win0_2.blk t).view.emb (ValueIdx.ix2 a b) 1 : ℕ)) = _; omega) (by show k.val = _; omega))

end Cert.Kernel8Ideal.Product

namespace Cert.Reference8Ideal.Product

open Idealize.ShloMosaic Idealize.ShloMosaic.TcCoe Idealize.ShloMosaic.ValueIdx Idealize.SL.Sem
open Cert.Reference8Ideal Cert.Reference8Ideal.Gen Cert.Reference8Ideal.Read Cert.Kernel8Ideal.Product

/-- The reference's gradient is the same product. -/
theorem reference (x : S4096x1024.Idx → EReal) (y : S4096x1024.Idx → EReal) : val_main_v5 (F := Ideal) x y = grad x y := by
  funext i
  rw [val_main_v5_apply]
  unfold grad
  refine Finset.sum_congr rfl fun k _ => ?_
  refine congrArg₂ (· * ·) (congrArg x (funext fun q => ?_)) (congrArg y (funext fun q => ?_))
  · match q with
    | ⟨0, _⟩ => rfl
    | ⟨1, _⟩ => rfl
  · match q with
    | ⟨0, _⟩ => rfl
    | ⟨1, _⟩ => rfl

end Cert.Reference8Ideal.Product

namespace Cert.Proof

open Idealize.ShloMosaic Idealize.ShloMosaic.TcCoe Idealize.SL.Sem

/-- From the same arguments the kernel and the reference end with the same product. -/
theorem algebraic8 : Cert.algebraic_Kernel8Ideal_Reference8Ideal := fun m g m' g' _ hargs =>
  ⟨fun c => Cert.Kernel8Ideal.Product.grad (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)),
    (θ_run Cert.Kernel8Ideal.defs _ _).mono
      (fun r h c => ⟨(h c).1.trans (Cert.Kernel8Ideal.Product.result m c), (h c).2⟩)
      (Cert.Kernel8Ideal.Value.run_blocks m g),
    (θ_run Cert.Reference8Ideal.defs _ _).mono
      (fun r h c => ⟨(h c).1.trans ((Cert.Reference8Ideal.Read.val_main_v5_eq _ _).trans
          ((Cert.Reference8Ideal.Product.reference _ _).trans (congrArg₂ Cert.Kernel8Ideal.Product.grad (hargs c).1 (hargs c).2))), (h c).2⟩)
      (Cert.Reference8Ideal.Value.run m' g')⟩

theorem frame_kernel8 : Cert.quiescent_Kernel8Ideal := fun m ρ _ => Cert.Kernel8Ideal.Gen.frame (F := Ideal) m ρ

theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

end Cert.Proof

end
-- ==== Proof.Calls.Proj0Forward.lean ====
/-
  The first layer's projection: a block of it is one product over all the input's columns.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.ValueLayout
public import Idealize.ShloMosaic.PureOps.Ideal.Laws

@[expose] public section

set_option maxRecDepth 16384

noncomputable section

namespace Cert.Kernel9Ideal.Product

open Idealize.ShloMosaic Idealize.ShloMosaic.TcCoe Idealize.ShloMosaic.ValueIdx Idealize.ShloMosaic.Tactic Idealize.SL.Sem
open Cert.Kernel9Ideal Cert.Kernel9Ideal.Gen Cert.Kernel9Ideal.Facts₀ Cert.Kernel9Ideal.Facts

/-- The contraction a point computes, as a sum. -/
theorem contract (x : FVec Ideal S1024x4096 .bf16) (y : FVec Ideal S4096x1024 .bf16) (a : Fin 1024) (b : Fin 1024) :
    matmul (F := Ideal) dot_S1024x4096_S4096x1024_S1024x1024_1_0_0_1_n_n none x y (constant S1024x1024 .f32 0x00000000#32) (ValueIdx.ix2 a b) = ∑ k : Fin 4096, x (ValueIdx.ix2 a k) * y (ValueIdx.ix2 k b) := by
  refine (Ideal.matmul_constant_zero_apply _ none x y _).trans ?_
  rw [← Equiv.sum_comp (contrEquiv1 dot_S1024x4096_S4096x1024_S1024x1024_1_0_0_1_n_n 4096 rfl rfl).symm]
  refine Finset.sum_congr rfl fun k _ => ?_
  have hk := contrEquiv1_symm_val dot_S1024x4096_S4096x1024_S1024x1024_1_0_0_1_n_n 4096 rfl rfl k
  congr 1
  · refine congrArg x (funext fun b => Fin.ext ?_)
    match b with
    | ⟨0, _⟩ => exact rfl
    | ⟨1, _⟩ => exact (dot_S1024x4096_S4096x1024_S1024x1024_1_0_0_1_n_n.lhsIdx_val_of_single rfl _ _).trans hk
  · refine congrArg y (funext fun b => Fin.ext ?_)
    match b with
    | ⟨0, _⟩ => exact (dot_S1024x4096_S4096x1024_S1024x1024_1_0_0_1_n_n.rhsIdx_val_of_single rfl _ _).trans hk
    | ⟨1, _⟩ => exact rfl

theorem hz : (![0, 0] : Fin 2 → ℕ) = fun _ => 0 := funext fun a => by fin_cases a <;> rfl
theorem hz3 : (![0, 0, 0] : Fin 3 → ℕ) = fun _ => 0 := funext fun a => by fin_cases a <;> rfl

/-- What a point stores. -/
theorem tile (x : FVec Ideal S1024x4096 .bf16) (w : FVec Ideal S1x4096x1024 .bf16) (a b : Fin 1024) :
    k0_pay1 (F := Ideal) x w (ValueIdx.ix2 a b) = ∑ k : Fin 4096, x (ValueIdx.ix2 a k) * w (ValueIdx.ix3 (0 : Fin 1) k b) := by
  unfold k0_pay1
  exact (contract x _ a b).trans (Finset.sum_congr rfl fun k _ => congrArg (x (ValueIdx.ix2 a k) * ·) (shapeCast_1ab_ab_apply w _ k b))

/-- What the result's buffer holds after a point, from the two blocks the point reads. -/
theorem stored (x : FVec Ideal S1024x4096 .bf16) (w : FVec Ideal S1x4096x1024 .bf16) : out0_2 (F := Ideal) x w = k0_pay1 (F := Ideal) x w := by
  unfold out0_2
  rw [View.canon_unit_zero hz]
  simp only [View.ld_unit_zero (S := S1024x4096) hz, View.ld_unit_zero (S := S1x4096x1024) hz3]

theorem idx0 : ∀ t : Fin cfg0.N, win0_0.index t = ![t.val / 16, 0] := by decide +kernel
theorem idx1 : ∀ t : Fin cfg0.N, win0_1.index t = ![t.val % 16 / 2, 0, t.val % 2] := by decide +kernel
theorem idx2 : ∀ t : Fin cfg0.N, win0_2.index t = ![t.val / 16, t.val % 16] := by decide +kernel
theorem points (t : Fin cfg0.N) : t.val < 64 := lt_of_lt_of_eq t.isLt N_0

/-- The projection, entry by entry: a column lies in one device's block of columns. -/
def prod (x : S4096x4096.Idx → EReal) (w : S8x4096x2048.Idx → EReal) : S4096x16384.Idx → EReal := fun i =>
  ∑ k : Fin 4096, x (ValueIdx.ix2 (i 0) k) * w (ValueIdx.ix3 (⟨(i 1).val / 2048, by have h : (i 1).val < 16384 := (i 1).isLt; omega⟩ : Fin 8) k
    (⟨(i 1).val % 2048, Nat.mod_lt _ (by decide)⟩ : Fin 2048))

variable (m : (ℓ : Loc nD τ sig) → Buf (Elt Ideal) ℓ)

/-- The input's block at a point. -/
theorem block0 (c : Dev nD) (t : Fin cfg0.N) (a : Fin 1024) (k : Fin 4096) (j : S4096x4096.Idx) (h0 : (j 0).val = t.val / 16 * 1024 + a.val) (h1 : (j 1).val = 0 * 4096 + k.val) :
    iblk m c 0 t (ValueIdx.ix2 a k) = m ((c : Thread nD τ).loc main_arg0) j := by
  have e0 : ((win0_0.blk t).view.emb (ValueIdx.ix2 a k) 0 : ℕ) = t.val / 16 * 1024 + a.val := by blk_simp [idx0]; rfl
  have e1 : ((win0_0.blk t).view.emb (ValueIdx.ix2 a k) 1 : ℕ) = 0 * 4096 + k.val := by blk_simp [idx0]; rfl
  blk_simp [iblk]
  refine (congrFun (V_main_arg0 m c) _).trans (congrArg (m ((c : Thread nD τ).loc main_arg0)) (funext fun x => Fin.ext ?_))
  match x with
  | ⟨0, _⟩ => exact e0.trans h0.symm
  | ⟨1, _⟩ => exact e1.trans h1.symm

/-- The weights' block at a point. -/
theorem block1 (c : Dev nD) (t : Fin cfg0.N) (k : Fin 4096) (b : Fin 1024) (j : S8x4096x2048.Idx) (h0 : (j 0).val = t.val % 16 / 2) (h1 : (j 1).val = 0 * 4096 + k.val) (h2 : (j 2).val = t.val % 2 * 1024 + b.val) :
    iblk m c 1 t (ValueIdx.ix3 (0 : Fin 1) k b) = m ((c : Thread nD τ).loc main_arg1) j := by
  have e0 : ((win0_1.blk t).view.emb (ValueIdx.ix3 (0 : Fin 1) k b) 0 : ℕ) = t.val % 16 / 2 := by blk_simp [idx1]
  have e1 : ((win0_1.blk t).view.emb (ValueIdx.ix3 (0 : Fin 1) k b) 1 : ℕ) = 0 * 4096 + k.val := by blk_simp [idx1]; rfl
  have e2 : ((win0_1.blk t).view.emb (ValueIdx.ix3 (0 : Fin 1) k b) 2 : ℕ) = t.val % 2 * 1024 + b.val := by blk_simp [idx1]; rfl
  blk_simp [iblk]
  refine (congrFun (V_main_arg1 m c) _).trans (congrArg (m ((c : Thread nD τ).loc main_arg1)) (funext fun x => Fin.ext ?_))
  match x with
  | ⟨0, _⟩ => exact e0.trans h0.symm
  | ⟨1, _⟩ => exact e1.trans h1.symm
  | ⟨2, _⟩ => exact e2.trans h2.symm

/-- The result array after the run is the projection. -/
theorem result (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  have ht := points t
  blk_simp
  rw [after0_2, stored]
  obtain ⟨a, b, rfl⟩ : ∃ (a b : Fin 1024), y = ValueIdx.ix2 a b := ⟨y 0, y 1, ValueIdx.eq_ix2 y⟩
  refine (tile _ _ a b).trans ?_
  have e0 : ((win0_2.blk t).view.emb (ValueIdx.ix2 a b) 0 : ℕ) = t.val / 16 * 1024 + a.val := by blk_simp [idx2]; rfl
  have e1 : ((win0_2.blk t).view.emb (ValueIdx.ix2 a b) 1 : ℕ) = t.val % 16 * 1024 + b.val := by blk_simp [idx2]; rfl
  unfold prod
  refine Finset.sum_congr rfl fun k _ => ?_
  exact congrArg₂ (· * ·) (block0 m c t a k _ e0 (by show k.val = _; omega))
    (block1 m c t k b _ (by show ((win0_2.blk t).view.emb (ValueIdx.ix2 a b) 1 : ℕ) / 2048 = _; omega) (by show k.val = _; omega)
      (by show ((win0_2.blk t).view.emb (ValueIdx.ix2 a b) 1 : ℕ) % 2048 = _; omega))

end Cert.Kernel9Ideal.Product

namespace Cert.Reference9Ideal.Product

open Idealize.ShloMosaic Idealize.ShloMosaic.TcCoe Idealize.ShloMosaic.ValueIdx Idealize.SL.Sem
open Cert.Reference9Ideal Cert.Reference9Ideal.Gen Cert.Reference9Ideal.Read Cert.Kernel9Ideal.Product

/-- The reference's projection is the same one. -/
theorem reference (x : S4096x4096.Idx → EReal) (w : S8x4096x2048.Idx → EReal) : val_main_v5 (F := Ideal) x w = prod x w := by
  funext i
  refine (val_main_v5_apply (F := Ideal) x w i).trans ((val_main_v4_apply x w i).trans ?_)
  unfold prod
  refine Finset.sum_congr rfl fun k _ => ?_
  have h0 : (i 0).val < 4096 := (i 0).isLt
  have h1 : (i 1).val < 16384 := (i 1).isLt
  have hk := k.isLt
  refine congrArg₂ (· * ·) (congrArg x (funext fun q => ?_)) ?_
  · match q with
    | ⟨0, _⟩ => rfl
    | ⟨1, _⟩ => rfl
  · rw [val_main_v3_apply, val_main_v1_apply, val_main_v0_apply]
    refine congrArg w (funext fun q => Fin.ext ?_)
    match q with
    | ⟨0, _⟩ => show (k.val * 16384 + (i 1).val) / 2048 % 8 = (i 1).val / 2048; omega
    | ⟨1, _⟩ => show (k.val * 16384 + (i 1).val) / 16384 = k.val; omega
    | ⟨2, _⟩ => show (k.val * 16384 + (i 1).val) % 2048 = (i 1).val % 2048; omega

end Cert.Reference9Ideal.Product

namespace Cert.Proof

open Idealize.ShloMosaic Idealize.ShloMosaic.TcCoe Idealize.SL.Sem

/-- From the same arguments the kernel and the reference end with the same projection. -/
theorem algebraic9 : Cert.algebraic_Kernel9Ideal_Reference9Ideal := fun m g m' g' _ hargs =>
  ⟨fun c => Cert.Kernel9Ideal.Product.prod (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)),
    (θ_run Cert.Kernel9Ideal.defs _ _).mono
      (fun r h c => ⟨(h c).1.trans (Cert.Kernel9Ideal.Product.result m c), (h c).2⟩)
      (Cert.Kernel9Ideal.Value.run_blocks m g),
    (θ_run Cert.Reference9Ideal.defs _ _).mono
      (fun r h c => ⟨(h c).1.trans ((Cert.Reference9Ideal.Read.val_main_v5_eq _ _).trans
          ((Cert.Reference9Ideal.Product.reference _ _).trans (congrArg₂ Cert.Kernel9Ideal.Product.prod (hargs c).1 (hargs c).2))), (h c).2⟩)
      (Cert.Reference9Ideal.Value.run m' g')⟩

theorem frame_kernel9 : Cert.quiescent_Kernel9Ideal := fun m ρ _ => Cert.Kernel9Ideal.Gen.frame (F := Ideal) m ρ

theorem frame_reference9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run m ρ)

end Cert.Proof

end
-- ==== Proof.Calls.OutForward.lean ====
/-
  An output projection with the residual after it: a block is one product over all columns, and is added under the gate to what came in.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.ValueLayout
public import Idealize.ShloMosaic.PureOps.Ideal.Laws

@[expose] public section

set_option maxRecDepth 16384

noncomputable section

namespace Cert.Kernel10Ideal.Product

open Idealize.ShloMosaic Idealize.ShloMosaic.TcCoe Idealize.ShloMosaic.ValueIdx Idealize.ShloMosaic.Tactic Idealize.SL.Sem
open Cert.Kernel10Ideal Cert.Kernel10Ideal.Gen Cert.Kernel10Ideal.Facts₀ Cert.Kernel10Ideal.Facts

/-- The contraction a point computes, as a sum. -/
theorem contract (x : FVec Ideal S512x4096 .bf16) (y : FVec Ideal S4096x1024 .bf16) (a : Fin 512) (b : Fin 1024) :
    matmul (F := Ideal) dot_S512x4096_S4096x1024_S512x1024_1_0_0_1_n_n none x y (constant S512x1024 .f32 0x00000000#32) (ValueIdx.ix2 a b) = ∑ k : Fin 4096, x (ValueIdx.ix2 a k) * y (ValueIdx.ix2 k b) := by
  refine (Ideal.matmul_constant_zero_apply _ none x y _).trans ?_
  rw [← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  congr 1
  · refine congrArg x (funext fun b => Fin.ext ?_)
    match b with
    | ⟨0, _⟩ => exact rfl
    | ⟨1, _⟩ => exact (dot_S512x4096_S4096x1024_S512x1024_1_0_0_1_n_n.lhsIdx_val_of_single rfl _ _).trans hk
  · refine congrArg y (funext fun b => Fin.ext ?_)
    match b with
    | ⟨0, _⟩ => exact (dot_S512x4096_S4096x1024_S512x1024_1_0_0_1_n_n.rhsIdx_val_of_single rfl _ _).trans hk
    | ⟨1, _⟩ => exact rfl

theorem hz : (![0, 0] : Fin 2 → ℕ) = fun _ => 0 := funext fun a => by fin_cases a <;> rfl

/-- What a point stores of the product. -/
theorem tile (x : FVec Ideal S512x4096 .bf16) (y : FVec Ideal S4096x1024 .bf16) (a : Fin 512) (b : Fin 1024) :
    k0_pay1 (F := Ideal) x y (ValueIdx.ix2 a b) = ∑ k : Fin 4096, x (ValueIdx.ix2 a k) * y (ValueIdx.ix2 k b) := by
  unfold k0_pay1
  exact contract x y a b

/-- What a point stores of the sum. -/
theorem tileSum (x : FVec Ideal S512x4096 .bf16) (y : FVec Ideal S4096x1024 .bf16) (z : FVec Ideal S512x1024 .f32) (g : FVec Ideal S1x1024 .f32) (a : Fin 512) (b : Fin 1024) :
    (k0_pay2 (F := Ideal) x y z g (ValueIdx.ix2 a b) : EReal) = z (ValueIdx.ix2 a b) + g (ValueIdx.ix2 (0 : Fin 1) b) * ∑ k : Fin 4096, x (ValueIdx.ix2 a k) * y (ValueIdx.ix2 k b) := by
  unfold k0_pay2
  exact congrArg₂ (· + ·) rfl (congrArg₂ (· * ·) (broadcastTo_1b_ab_apply g _ a b) (tile x y a b))

/-- What the product's buffer holds after a point. -/
theorem stored (x : FVec Ideal S512x4096 .bf16) (y : FVec Ideal S4096x1024 .bf16) (z : FVec Ideal S512x1024 .f32) (g : FVec Ideal S1x1024 .f32) : out0_4 (F := Ideal) x y z g = k0_pay1 (F := Ideal) x y := by
  unfold out0_4
  rw [View.canon_unit_zero hz]
  simp only [View.ld_unit_zero (S := S512x4096) hz, View.ld_unit_zero (S := S4096x1024) hz]

/-- What the sum's buffer holds after a point. -/
theorem storedSum (x : FVec Ideal S512x4096 .bf16) (y : FVec Ideal S4096x1024 .bf16) (z : FVec Ideal S512x1024 .f32) (g : FVec Ideal S1x1024 .f32) : out0_5 (F := Ideal) x y z g = k0_pay2 (F := Ideal) x y z g := by
  unfold out0_5
  rw [View.canon_unit_zero hz]
  simp only [View.ld_unit_zero (S := S512x4096) hz, View.ld_unit_zero (S := S4096x1024) hz, View.ld_unit_zero (S := S512x1024) hz, View.ld_unit_zero (S := S1x1024) hz]

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, t.val % 4] := by decide +kernel
theorem idx3 : ∀ t : Fin cfg0.N, win0_3.index t = ![0, t.val % 4] := by decide +kernel
theorem idx4 : ∀ t : Fin cfg0.N, win0_4.index t = ![t.val / 4, t.val % 4] := by decide +kernel
theorem idx5 : ∀ t : Fin cfg0.N, win0_5.index t = ![t.val / 4, t.val % 4] := by decide +kernel
theorem points (t : Fin cfg0.N) : t.val < 32 := lt_of_lt_of_eq t.isLt N_0

/-- The product, entry by entry. -/
def prod (x w : S4096x4096.Idx → EReal) : S4096x4096.Idx → EReal := fun i => ∑ k : Fin 4096, x (ValueIdx.ix2 (i 0) k) * w (ValueIdx.ix2 k (i 1))

/-- The input plus the gated product, entry by entry. -/
def gated (x w z : S4096x4096.Idx → EReal) (g : S1x4096.Idx → EReal) : S4096x4096.Idx → EReal := fun i =>
  z i + g (ValueIdx.ix2 (0 : Fin 1) (i 1)) * prod x w i

variable (m : (ℓ : Loc nD τ sig) → Buf (Elt Ideal) ℓ)

/-- The rows' block at a point. -/
theorem block0 (c : Dev nD) (t : Fin cfg0.N) (a : Fin 512) (k : Fin 4096) (j : S4096x4096.Idx) (h0 : (j 0).val = t.val / 4 * 512 + a.val) (h1 : (j 1).val = 0 * 4096 + k.val) :
    iblk m c 0 t (ValueIdx.ix2 a k) = m ((c : Thread nD τ).loc main_arg0) j := by
  have e0 : ((win0_0.blk t).view.emb (ValueIdx.ix2 a k) 0 : ℕ) = t.val / 4 * 512 + a.val := by blk_simp [idx0]; rfl
  have e1 : ((win0_0.blk t).view.emb (ValueIdx.ix2 a k) 1 : ℕ) = 0 * 4096 + k.val := by blk_simp [idx0]; rfl
  blk_simp [iblk]
  refine (congrFun (V_main_arg0 m c) _).trans (congrArg (m ((c : Thread nD τ).loc main_arg0)) (funext fun x => Fin.ext ?_))
  match x with
  | ⟨0, _⟩ => exact e0.trans h0.symm
  | ⟨1, _⟩ => exact e1.trans h1.symm

/-- The weights' block at a point. -/
theorem block1 (c : Dev nD) (t : Fin cfg0.N) (k : Fin 4096) (b : Fin 1024) (j : S4096x4096.Idx) (h0 : (j 0).val = 0 * 4096 + k.val) (h1 : (j 1).val = t.val % 4 * 1024 + b.val) :
    iblk m c 1 t (ValueIdx.ix2 k b) = m ((c : Thread nD τ).loc main_arg1) j := by
  have e0 : ((win0_1.blk t).view.emb (ValueIdx.ix2 k b) 0 : ℕ) = 0 * 4096 + k.val := by blk_simp [idx1]; rfl
  have e1 : ((win0_1.blk t).view.emb (ValueIdx.ix2 k b) 1 : ℕ) = t.val % 4 * 1024 + b.val := by blk_simp [idx1]; rfl
  blk_simp [iblk]
  refine (congrFun (V_main_arg1 m c) _).trans (congrArg (m ((c : Thread nD τ).loc main_arg1)) (funext fun x => Fin.ext ?_))
  match x with
  | ⟨0, _⟩ => exact e0.trans h0.symm
  | ⟨1, _⟩ => exact e1.trans h1.symm

/-- The block of what came in, at a point. -/
theorem block2 (c : Dev nD) (t : Fin cfg0.N) (a : Fin 512) (b : Fin 1024) (j : S4096x4096.Idx) (h0 : (j 0).val = t.val / 4 * 512 + a.val) (h1 : (j 1).val = t.val % 4 * 1024 + b.val) :
    iblk m c 2 t (ValueIdx.ix2 a b) = m ((c : Thread nD τ).loc main_arg2) j := by
  have e0 : ((win0_2.blk t).view.emb (ValueIdx.ix2 a b) 0 : ℕ) = t.val / 4 * 512 + a.val := by blk_simp [idx2]; rfl
  have e1 : ((win0_2.blk t).view.emb (ValueIdx.ix2 a b) 1 : ℕ) = t.val % 4 * 1024 + b.val := by blk_simp [idx2]; rfl
  blk_simp [iblk]
  refine (congrFun (V_main_arg2 m c) _).trans (congrArg (m ((c : Thread nD τ).loc main_arg2)) (funext fun x => Fin.ext ?_))
  match x with
  | ⟨0, _⟩ => exact e0.trans h0.symm
  | ⟨1, _⟩ => exact e1.trans h1.symm

/-- The gate's block at a point. -/
theorem block3 (c : Dev nD) (t : Fin cfg0.N) (b : Fin 1024) (j : S1x4096.Idx) (h0 : (j 0).val = 0) (h1 : (j 1).val = t.val % 4 * 1024 + b.val) :
    iblk m c 3 t (ValueIdx.ix2 (0 : Fin 1) b) = m ((c : Thread nD τ).loc main_arg3) j := by
  have e0 : ((win0_3.blk t).view.emb (ValueIdx.ix2 (0 : Fin 1) b) 0 : ℕ) = 0 := by blk_simp [idx3]
  have e1 : ((win0_3.blk t).view.emb (ValueIdx.ix2 (0 : Fin 1) b) 1 : ℕ) = t.val % 4 * 1024 + b.val := by blk_simp [idx3]; rfl
  blk_simp [iblk]
  refine (congrFun (V_main_arg3 m c) _).trans (congrArg (m ((c : Thread nD τ).loc main_arg3)) (funext fun x => Fin.ext ?_))
  match x with
  | ⟨0, _⟩ => exact e0.trans h0.symm
  | ⟨1, _⟩ => exact e1.trans h1.symm

/-- A point's block of the product, at any place with the block's coordinates. -/
theorem sums (c : Dev nD) (t : Fin cfg0.N) (a : Fin 512) (b : Fin 1024) (i : S4096x4096.Idx)
    (h0 : (i 0).val = t.val / 4 * 512 + a.val) (h1 : (i 1).val = t.val % 4 * 1024 + b.val)
    (X : FVec Ideal S512x4096 .bf16) (Y : FVec Ideal S4096x1024 .bf16) (hX : X = iblk m c 0 t) (hY : Y = iblk m c 1 t) :
    (∑ k : Fin 4096, (X (ValueIdx.ix2 a k) : EReal) * Y (ValueIdx.ix2 k b)) = prod (m ((c : Thread nD τ).loc main_arg0)) (m ((c : Thread nD τ).loc main_arg1)) i := by
  subst hX hY
  unfold prod
  refine Finset.sum_congr rfl fun k _ => ?_
  exact congrArg₂ (· * ·) (block0 m c t a k _ h0 (by show k.val = _; omega)) (block1 m c t k b _ (by show k.val = _; omega) h1)

/-- The first result after the run is the product. -/
theorem result (c : Dev nD) : (dats m 0 c).arrAt 4 cfg0.N = prod (m ((c : Thread nD τ).loc main_arg0)) (m ((c : Thread nD τ).loc main_arg1)) := by
  refine (dats m 0 c).arrAt_eq_of_covers 4 _ (by decide +kernel) fun t _ y => ?_
  blk_simp
  rw [after0_4, stored]
  obtain ⟨a, b, rfl⟩ : ∃ (a : Fin 512) (b : Fin 1024), y = ValueIdx.ix2 a b := ⟨y 0, y 1, ValueIdx.eq_ix2 y⟩
  refine (tile _ _ a b).trans ?_
  have e0 : ((win0_4.blk t).view.emb (ValueIdx.ix2 a b) 0 : ℕ) = t.val / 4 * 512 + a.val := by blk_simp [idx4]; rfl
  have e1 : ((win0_4.blk t).view.emb (ValueIdx.ix2 a b) 1 : ℕ) = t.val % 4 * 1024 + b.val := by blk_simp [idx4]; rfl
  exact sums m c t a b _ e0 e1 _ _ rfl rfl

/-- The second result after the run is the input plus the gated product. -/
theorem resultSum (c : Dev nD) : (dats m 0 c).arrAt 5 cfg0.N = gated (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, storedSum]
  obtain ⟨a, b, rfl⟩ : ∃ (a : Fin 512) (b : Fin 1024), y = ValueIdx.ix2 a b := ⟨y 0, y 1, ValueIdx.eq_ix2 y⟩
  refine (tileSum _ _ _ _ a b).trans ?_
  have e0 : ((win0_5.blk t).view.emb (ValueIdx.ix2 a b) 0 : ℕ) = t.val / 4 * 512 + a.val := by blk_simp [idx5]; rfl
  have e1 : ((win0_5.blk t).view.emb (ValueIdx.ix2 a b) 1 : ℕ) = t.val % 4 * 1024 + b.val := by blk_simp [idx5]; rfl
  unfold gated
  exact congrArg₂ (· + ·) (block2 m c t a b _ e0 e1)
    (congrArg₂ (· * ·) (block3 m c t b _ rfl e1) (sums m c t a b _ e0 e1 _ _ rfl rfl))

end Cert.Kernel10Ideal.Product

namespace Cert.Reference10Ideal.Product

open Idealize.ShloMosaic Idealize.ShloMosaic.TcCoe Idealize.ShloMosaic.ValueIdx Idealize.SL.Sem
open Cert.Reference10Ideal Cert.Reference10Ideal.Gen Cert.Reference10Ideal.Read Cert.Kernel10Ideal.Product

/-- The reference's product is the same one. -/
theorem reference (x w : S4096x4096.Idx → EReal) : val_main_v2 (F := Ideal) x w = prod x w := by
  funext i
  refine (val_main_v2_apply x w i).trans ?_
  unfold prod
  refine Finset.sum_congr rfl fun k _ => ?_
  refine congrArg₂ (· * ·) (congrArg x (funext fun q => ?_)) (congrArg w (funext fun q => ?_))
  · match q with
    | ⟨0, _⟩ => rfl
    | ⟨1, _⟩ => rfl
  · match q with
    | ⟨0, _⟩ => rfl
    | ⟨1, _⟩ => rfl

/-- So is its sum. -/
theorem referenceSum (x w z : S4096x4096.Idx → EReal) (g : S1x4096.Idx → EReal) : val_main_v5 (F := Ideal) x w z g = gated x w z g := by
  funext i
  rw [val_main_v5_apply, val_main_v4_apply, val_main_v3_apply, reference]
  unfold gated
  refine congrArg (z i + ·) (congrArg (· * _) (congrArg g (funext fun q => ?_)))
  match q with
  | ⟨0, _⟩ => exact Subsingleton.elim (α := Fin 1) _ _
  | ⟨1, _⟩ => rfl

end Cert.Reference10Ideal.Product

namespace Cert.Proof

open Idealize.ShloMosaic Idealize.ShloMosaic.TcCoe Idealize.SL.Sem

/-- From the same arguments the kernel and the reference end with the same product and the same sum. -/
theorem algebraic10 : Cert.algebraic_Kernel10Ideal_Reference10Ideal := fun m g m' g' _ hargs =>
  ⟨fun c => Cert.Kernel10Ideal.Product.prod (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    fun c => Cert.Kernel10Ideal.Product.gated (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    (θ_run Cert.Kernel10Ideal.defs _ _).mono
      (fun r h c => ⟨(h c).1.trans (Cert.Kernel10Ideal.Product.result m c), (h c).2.1.trans (Cert.Kernel10Ideal.Product.resultSum m c), (h c).2.2⟩)
      (Cert.Kernel10Ideal.Value.run_blocks m g),
    (θ_run Cert.Reference10Ideal.defs _ _).mono
      (fun r h c => ⟨(h c).1.trans ((Cert.Reference10Ideal.Read.val_main_v2_eq _ _).trans
          ((Cert.Reference10Ideal.Product.reference _ _).trans (congrArg₂ Cert.Kernel10Ideal.Product.prod (hargs c).1 (hargs c).2.1))),
        (h c).2.1.trans ((Cert.Reference10Ideal.Read.val_main_v5_eq _ _ _ _).trans
          ((Cert.Reference10Ideal.Product.referenceSum _ _ _ _).trans (by rw [(hargs c).1, (hargs c).2.1, (hargs c).2.2.1, (hargs c).2.2.2]))),
        (h c).2.2⟩)
      (Cert.Reference10Ideal.Value.run m' g')⟩

theorem frame_kernel10 : Cert.quiescent_Kernel10Ideal := fun m ρ _ => Cert.Kernel10Ideal.Gen.frame (F := Ideal) m ρ

theorem frame_reference10 : Cert.quiescent_Reference10Ideal := fun m ρ _ =>
  (θ_run Cert.Reference10Ideal.defs _ _).mono
    (fun r h => ⟨fun c => (h c).2.2, Idealize.ShloMosaic.sem_eq_zero_of_no_sems (by decide) r.2⟩)
    (Cert.Reference10Ideal.Value.run m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Run
public import proofs.«01_k».proof.Proof.Compiled.Run
public import proofs.«01_k».proof.Proof.Values
public import proofs.«01_k».proof.Proof.Calls.Proj0Weights
public import proofs.«01_k».proof.Proof.Calls.Proj0Input
public import proofs.«01_k».proof.Proof.Calls.Proj1Weights
public import proofs.«01_k».proof.Proof.Calls.Proj1Input
public import proofs.«01_k».proof.Proof.Calls.OutWeights
public import proofs.«01_k».proof.Proof.Calls.KvWeights
public import proofs.«01_k».proof.Proof.Calls.KvInput
public import proofs.«01_k».proof.Proof.Calls.Proj0Forward
public import proofs.«01_k».proof.Proof.Calls.OutForward
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Fox.frame (F := Bits) m ρ

theorem frame_kernelIdeal : Cert.quiescent_KernelIdeal := fun m ρ _ => Cert.KernelIdeal.Fox.frame (F := Ideal) m ρ

theorem frame_referenceIdeal : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run m ρ)

/-- From arguments with nothing infinite in them, the kernel and the reference end with the same gradients: on each
    device the arguments hold the numbers of 32 heads, and both programs' results are those heads' gradients. -/
theorem algebraic : Cert.algebraic_KernelIdeal_ReferenceIdeal_pre_finite := fun m g m' g' hpre hargs =>
  have hf : ∀ c : Dev Cert.KernelIdeal.nD, Cert.Fox.AllFinite _ _ _ := fun c => hpre c
  ⟨fun c => Cert.KernelIdeal.Fox.outK (Cert.Fox.headsOf _ _ _),
    fun c => Cert.KernelIdeal.Fox.outV (Cert.Fox.headsOf _ _ _),
    fun c => Cert.KernelIdeal.Fox.outQ (Cert.Fox.headsOf _ _ _),
    fun c => Cert.KernelIdeal.Fox.outF (Cert.Fox.headsOf _ _ _),
    fun c => Cert.KernelIdeal.Fox.outG (Cert.Fox.headsOf _ _ _),
    Cert.Fox.kernel_run m g
      (fun c => Cert.Fox.headsOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (fun c => Cert.KernelIdeal.Fox.allRead (Cert.Fox.given (hf c)) (Cert.Fox.tops (hf c))),
    (θ_run Cert.ReferenceIdeal.defs _ _).mono
      (fun r h c =>
        have e := Cert.Fox.reference_values m' c (hargs c).1 (hargs c).2.1 (hargs c).2.2 (Cert.Fox.given (hf c)) (Cert.Fox.tops (hf c))
        ⟨(h c).1.trans e.1, (h c).2.1.trans e.2.1, (h c).2.2.1.trans e.2.2.1, (h c).2.2.2.1.trans e.2.2.2.1,
          (h c).2.2.2.2.1.trans e.2.2.2.2, (h c).2.2.2.2.2⟩)
      (Cert.ReferenceIdeal.Value.run m' g')⟩

theorem compiled2 : Cert.quiescent_Kernel2 := fun m ρ _ => Cert.Kernel2.Gen.frame (F := Bits) m ρ

theorem compiled3 : Cert.quiescent_Kernel3 := fun m ρ _ => Cert.Kernel3.Gen.frame (F := Bits) m ρ

theorem compiled4 : Cert.quiescent_Kernel4 := fun m ρ _ => Cert.Kernel4.Gen.frame (F := Bits) m ρ

theorem compiled5 : Cert.quiescent_Kernel5 := fun m ρ _ => Cert.Kernel5.Gen.frame (F := Bits) m ρ

theorem compiled6 : Cert.quiescent_Kernel6 := fun m ρ _ => Cert.Kernel6.Gen.frame (F := Bits) m ρ

theorem compiled7 : Cert.quiescent_Kernel7 := fun m ρ _ => Cert.Kernel7.Gen.frame (F := Bits) m ρ

theorem compiled8 : Cert.quiescent_Kernel8 := fun m ρ _ => Cert.Kernel8.Gen.frame (F := Bits) m ρ

theorem compiled9 : Cert.quiescent_Kernel9 := fun m ρ _ => Cert.Kernel9.Gen.frame (F := Bits) m ρ

theorem compiled10 : Cert.quiescent_Kernel10 := fun m ρ _ => Cert.Kernel10.Gen.frame (F := Bits) m ρ

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts,
  frame_kernel, frame_kernelIdeal, fun m ρ _ => frame_kernelIdeal m ρ trivial, frame_referenceIdeal,
  fun m ρ _ => frame_referenceIdeal m ρ trivial,
  compiled2, frame_kernel2, frame_reference2,
  compiled3, frame_kernel3, frame_reference3,
  compiled4, frame_kernel4, frame_reference4,
  compiled5, frame_kernel5, frame_reference5,
  compiled6, frame_kernel6, frame_reference6,
  compiled7, frame_kernel7, frame_reference7,
  compiled8, frame_kernel8, frame_reference8,
  compiled9, frame_kernel9, frame_reference9,
  compiled10, frame_kernel10, frame_reference10,
  IdealRules.named_const.statement Cert.KernelIdeal.κ "mask" .f32 0xF149F2CA#32 ⊥ rfl, algebraic,
  trivial, algebraic2,
  trivial, algebraic3,
  trivial, algebraic4,
  trivial, algebraic5,
  trivial, algebraic6,
  trivial, algebraic7,
  trivial, algebraic8,
  trivial, algebraic9,
  trivial, algebraic10⟩

end Cert.Proof

end
